-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4)
      ∧ r.2.mem ((c.tc : Thread Cert.ProjS.nD Cert.ProjS.τ).loc Cert.ProjS.main_arg5) = m ((c.tc : Thread Cert.ProjS.nD Cert.ProjS.τ).loc Cert.ProjS.main_arg5)
      ∧ r.2.mem ((c.tc : Thread Cert.ProjS.nD Cert.ProjS.τ).loc Cert.ProjS.main_arg6) = m ((c.tc : Thread Cert.ProjS.nD Cert.ProjS.τ).loc Cert.ProjS.main_arg6))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
      ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
      ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4)
      ∧ r.2.mem ((c.tc : Thread Cert.ProjSRefIdeal.nD Cert.ProjSRefIdeal.τ).loc Cert.ProjSRefIdeal.main_arg5) = m ((c.tc : Thread Cert.ProjSRefIdeal.nD Cert.ProjSRefIdeal.τ).loc Cert.ProjSRefIdeal.main_arg5)
      ∧ r.2.mem ((c.tc : Thread Cert.ProjSRefIdeal.nD Cert.ProjSRefIdeal.τ).loc Cert.ProjSRefIdeal.main_arg6) = m ((c.tc : Thread Cert.ProjSRefIdeal.nD Cert.ProjSRefIdeal.τ).loc Cert.ProjSRefIdeal.main_arg6))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v35_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v2) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)
      ∧ m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4)
      ∧ m' ((c.tc : Thread Cert.ProjSRefIdeal.nD Cert.ProjSRefIdeal.τ).loc Cert.ProjSRefIdeal.main_arg5) = m ((c.tc : Thread Cert.ProjSIdeal.nD Cert.ProjSIdeal.τ).loc Cert.ProjSIdeal.main_arg5)
      ∧ m' ((c.tc : Thread Cert.ProjSRefIdeal.nD Cert.ProjSRefIdeal.τ).loc Cert.ProjSRefIdeal.main_arg6) = m ((c.tc : Thread Cert.ProjSIdeal.nD Cert.ProjSIdeal.τ).loc Cert.ProjSIdeal.main_arg6)) →
    ∃ (v0 : (c : Dev Cert.ProjSIdeal.nD) → Buf (Elt Ideal) ((c.tc : Thread Cert.ProjSIdeal.nD Cert.ProjSIdeal.τ).loc Cert.ProjSIdeal.main_v13_0)) (v1 : (c : Dev Cert.ProjSIdeal.nD) → Buf (Elt Ideal) ((c.tc : Thread Cert.ProjSIdeal.nD Cert.ProjSIdeal.τ).loc Cert.ProjSIdeal.main_v13_1)) (v2 : (c : Dev Cert.ProjSIdeal.nD) → Buf (Elt Ideal) ((c.tc : Thread Cert.ProjSIdeal.nD Cert.ProjSIdeal.τ).loc Cert.ProjSIdeal.main_v13_3)) (v3 : (c : Dev Cert.ProjSIdeal.nD) → Buf (Elt Ideal) ((c.tc : Thread Cert.ProjSIdeal.nD Cert.ProjSIdeal.τ).loc Cert.ProjSIdeal.main_v13_4)) (v4 : (c : Dev Cert.ProjSIdeal.nD) → Buf (Elt Ideal) ((c.tc : Thread Cert.ProjSIdeal.nD Cert.ProjSIdeal.τ).loc Cert.ProjSIdeal.main_v13_7)) (v5 : (c : Dev Cert.ProjSIdeal.nD) → Buf (Elt Ideal) ((c.tc : Thread Cert.ProjSIdeal.nD Cert.ProjSIdeal.τ).loc Cert.ProjSIdeal.main_v13_8)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v13_0) = v0 c
          ∧ r.2.mem ((c.tc : Thread Cert.ProjSIdeal.nD Cert.ProjSIdeal.τ).loc Cert.ProjSIdeal.main_v13_1) = v1 c
          ∧ r.2.mem ((c.tc : Thread Cert.ProjSIdeal.nD Cert.ProjSIdeal.τ).loc Cert.ProjSIdeal.main_v13_3) = v2 c
          ∧ r.2.mem ((c.tc : Thread Cert.ProjSIdeal.nD Cert.ProjSIdeal.τ).loc Cert.ProjSIdeal.main_v13_4) = v3 c
          ∧ r.2.mem ((c.tc : Thread Cert.ProjSIdeal.nD Cert.ProjSIdeal.τ).loc Cert.ProjSIdeal.main_v13_7) = v4 c
          ∧ r.2.mem ((c.tc : Thread Cert.ProjSIdeal.nD Cert.ProjSIdeal.τ).loc Cert.ProjSIdeal.main_v13_8) = v5 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
          ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
          ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v80) = v0 c
          ∧ r.2.mem ((c.tc : Thread Cert.ProjSRefIdeal.nD Cert.ProjSRefIdeal.τ).loc Cert.ProjSRefIdeal.main_v48) = v1 c
          ∧ r.2.mem ((c.tc : Thread Cert.ProjSRefIdeal.nD Cert.ProjSRefIdeal.τ).loc Cert.ProjSRefIdeal.main_v17) = v2 c
          ∧ r.2.mem ((c.tc : Thread Cert.ProjSRefIdeal.nD Cert.ProjSRefIdeal.τ).loc Cert.ProjSRefIdeal.main_v82) = v3 c
          ∧ r.2.mem ((c.tc : Thread Cert.ProjSRefIdeal.nD Cert.ProjSRefIdeal.τ).loc Cert.ProjSRefIdeal.main_v78) = v4 c
          ∧ r.2.mem ((c.tc : Thread Cert.ProjSRefIdeal.nD Cert.ProjSRefIdeal.τ).loc Cert.ProjSRefIdeal.main_v79) = v5 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3)
          ∧ r.2.mem ((c.tc : Thread Cert.ProjSRefIdeal.nD Cert.ProjSRefIdeal.τ).loc Cert.ProjSRefIdeal.main_arg4) = m' ((c.tc : Thread Cert.ProjSRefIdeal.nD Cert.ProjSRefIdeal.τ).loc Cert.ProjSRefIdeal.main_arg4)
          ∧ r.2.mem ((c.tc : Thread Cert.ProjSRefIdeal.nD Cert.ProjSRefIdeal.τ).loc Cert.ProjSRefIdeal.main_arg5) = m' ((c.tc : Thread Cert.ProjSRefIdeal.nD Cert.ProjSRefIdeal.τ).loc Cert.ProjSRefIdeal.main_arg5)
          ∧ r.2.mem ((c.tc : Thread Cert.ProjSRefIdeal.nD Cert.ProjSRefIdeal.τ).loc Cert.ProjSRefIdeal.main_arg6) = m' ((c.tc : Thread Cert.ProjSRefIdeal.nD Cert.ProjSRefIdeal.τ).loc Cert.ProjSRefIdeal.main_arg6))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)) →
    ∃ (v0 : (c : Dev Cert.FfnSIdeal.nD) → Buf (Elt Ideal) ((c.tc : Thread Cert.FfnSIdeal.nD Cert.FfnSIdeal.τ).loc Cert.FfnSIdeal.main_v2)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v2) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v18) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)) →
    ∃ (v0 : (c : Dev Cert.MergeSIdeal.nD) → Buf (Elt Ideal) ((c.tc : Thread Cert.MergeSIdeal.nD Cert.MergeSIdeal.τ).loc Cert.MergeSIdeal.main_v3)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v3) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v2) = v0 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProjS : Cert.ProjS.Facts) (hProjSIdeal : Cert.ProjSIdeal.Facts) (hProjSRefIdeal : Cert.ProjSRefIdeal.Facts) (hFfnS : Cert.FfnS.Facts) (hFfnSIdeal : Cert.FfnSIdeal.Facts) (hFfnSRefIdeal : Cert.FfnSRefIdeal.Facts) (hMergeS : Cert.MergeS.Facts) (hMergeSIdeal : Cert.MergeSIdeal.Facts) (hMergeSRefIdeal : Cert.MergeSRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_ProjS_ProjSIdeal
    ∧ algebraic_ProjSIdeal_ProjSRefIdeal (hProjSIdeal := hProjSIdeal) (hProjSRefIdeal := hProjSRefIdeal)
    ∧ preserves_FfnS_FfnSIdeal
    ∧ algebraic_FfnSIdeal_FfnSRefIdeal (hFfnSIdeal := hFfnSIdeal) (hFfnSRefIdeal := hFfnSRefIdeal)
    ∧ preserves_MergeS_MergeSIdeal
    ∧ algebraic_MergeSIdeal_MergeSRefIdeal (hMergeSIdeal := hMergeSIdeal) (hMergeSRefIdeal := hMergeSRefIdeal)
-- ==== Pre_finite.lean ====
abbrev S2x8192x8x192 : Shape := ⟨4, ![2, 8192, 8, 192]⟩
abbrev S2x8192x8x128 : Shape := ⟨4, ![2, 8192, 8, 128]⟩
abbrev S192 : Shape := ⟨1, ![192]⟩
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩

class Facts : Prop where
  bcast_S_S2x8192x8x192 : S_.BroadcastsInDim S2x8192x8x192 (![] : Fin 0 → Fin S2x8192x8x192.rank)
  reducesTo_S2x8192x8x192_S_d0_1_2_3 : S2x8192x8x192.ReducesTo [0, 1, 2, 3] S_
  h_S_ : 0 < S_.numel

variable [Facts]

def fn {F : FTy → Type} [FloatOps F] (main_arg0 : FVec F S2x8192x8x192 .f32) (main_arg1 : FVec F S2x8192x8x192 .f32) (main_arg2 : FVec F S2x8192x8x128 .f32) (main_arg3 : FVec F S192 .f32) (main_arg4 : FVec F S192 .f32) (main_arg5 : FVec F S2048x2048 .f32) (main_arg6 : FVec F S2048x8192 .f32) (main_arg7 : FVec F S8192x2048 .f32) : IVec S_ 1 :=
  let main_v0 : FVec F S2x8192x8x192 .f32 := Host.absf main_arg0
  let main_cst : FVec F S_ .f32 := constant S_ .f32 0x7F800000#32
  let main_v1 : FVec F S2x8192x8x192 .f32 := broadcastInDim S2x8192x8x192 ![] bcast_S_S2x8192x8x192 main_cst
  let main_v2 : IVec S2x8192x8x192 1 := cmpf .olt main_v0 main_v1
  let main_c : IVec S_ 1 := constantI S_ 1 1#1
  let main_v3 : IVec S_ 1 := (fun x v => Host.reduce IntOp.andi x v reducesTo_S2x8192x8x192_S_d0_1_2_3 h_S_) main_v2 main_c
  let main_v4 : FVec F S2x8192x8x192 .f32 := Host.absf main_arg1
  let main_cst_0 : FVec F S_ .f32 := constant S_ .f32 0x7F800000#32
  let main_v5 : FVec F S2x8192x8x192 .f32 := broadcastInDim S2x8192x8x192 ![] bcast_S_S2x8192x8x192 main_cst_0
  let main_v6 : IVec S2x8192x8x192 1 := cmpf .olt main_v4 main_v5
  let main_c_1 : IVec S_ 1 := constantI S_ 1 1#1
  let main_v7 : IVec S_ 1 := (fun x v => Host.reduce IntOp.andi x v reducesTo_S2x8192x8x192_S_d0_1_2_3 h_S_) main_v6 main_c_1
  let main_v8 : IVec S_ 1 := andi main_v3 main_v7
  main_v8
-- ==== Kernel.lean ====
abbrev S2x8192x8x192 : Shape := ⟨4, ![2, 8192, 8, 192]⟩
abbrev S2x8192x8x128 : Shape := ⟨4, ![2, 8192, 8, 128]⟩
abbrev S192 : Shape := ⟨1, ![192]⟩
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩
abbrev S256 : Shape := ⟨1, ![256]⟩
abbrev S2x8x8192x192 : Shape := ⟨4, ![2, 8, 8192, 192]⟩
abbrev S2x8x8192x256 : Shape := ⟨4, ![2, 8, 8192, 256]⟩
abbrev S1x1x1x256 : Shape := ⟨4, ![1, 1, 1, 256]⟩
abbrev S2x8x128x8192 : Shape := ⟨4, ![2, 8, 128, 8192]⟩
abbrev S2x8192x1024 : Shape := ⟨3, ![2, 8192, 1024]⟩
abbrev S1x2x1024x256 : Shape := ⟨4, ![1, 2, 1024, 256]⟩
abbrev S1x2x8192x256 : Shape := ⟨4, ![1, 2, 8192, 256]⟩
abbrev S1x2x128x8192 : Shape := ⟨4, ![1, 2, 128, 8192]⟩
abbrev S32x2048 : Shape := ⟨2, ![32, 2048]⟩
abbrev S32x8192 : Shape := ⟨2, ![32, 8192]⟩
abbrev S128x2048 : Shape := ⟨2, ![128, 2048]⟩
abbrev S1x1024x256 : Shape := ⟨3, ![1, 1024, 256]⟩
abbrev S2x1x1024 : Shape := ⟨3, ![2, 1, 1024]⟩
abbrev S2x128x1024 : Shape := ⟨3, ![2, 128, 1024]⟩
abbrev S1x1x1024x256 : Shape := ⟨4, ![1, 1, 1024, 256]⟩
abbrev S1024x256 : Shape := ⟨2, ![1024, 256]⟩
abbrev S1024x1024 : Shape := ⟨2, ![1024, 1024]⟩
abbrev S1x1x128x1024 : Shape := ⟨4, ![1, 1, 128, 1024]⟩
abbrev S128x1024 : Shape := ⟨2, ![128, 1024]⟩
abbrev S1x1x1024 : Shape := ⟨3, ![1, 1, 1024]⟩
abbrev S1x1024 : Shape := ⟨2, ![1, 1024]⟩
abbrev S1024 : Shape := ⟨1, ![1024]⟩
abbrev S1x128x1024 : Shape := ⟨3, ![1, 128, 1024]⟩
abbrev S256x1024 : Shape := ⟨2, ![256, 1024]⟩
abbrev S256x768 : Shape := ⟨2, ![256, 768]⟩
abbrev S256x512 : Shape := ⟨2, ![256, 512]⟩
abbrev S256x256 : Shape := ⟨2, ![256, 256]⟩
abbrev S1x1x256x256 : Shape := ⟨4, ![1, 1, 256, 256]⟩
abbrev S1x1x768x256 : Shape := ⟨4, ![1, 1, 768, 256]⟩
abbrev S768x256 : Shape := ⟨2, ![768, 256]⟩
abbrev S1x1x512x256 : Shape := ⟨4, ![1, 1, 512, 256]⟩
abbrev S512x256 : Shape := ⟨2, ![512, 256]⟩
abbrev S1x1x128x256 : Shape := ⟨4, ![1, 1, 128, 256]⟩
abbrev S128x256 : Shape := ⟨2, ![128, 256]⟩
abbrev S1x1x768 : Shape := ⟨3, ![1, 1, 768]⟩
abbrev S1x768 : Shape := ⟨2, ![1, 768]⟩
abbrev S768 : Shape := ⟨1, ![768]⟩
abbrev S1x128x768 : Shape := ⟨3, ![1, 128, 768]⟩
abbrev S128x768 : Shape := ⟨2, ![128, 768]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩
abbrev S1x1x256 : Shape := ⟨3, ![1, 1, 256]⟩
abbrev S1x256 : Shape := ⟨2, ![1, 256]⟩
abbrev S1x128x256 : Shape := ⟨3, ![1, 128, 256]⟩
abbrev S1024x128 : Shape := ⟨2, ![1024, 128]⟩
abbrev S1x1024x128 : Shape := ⟨3, ![1, 1024, 128]⟩

abbrev nBuf : Space → Nat
  | .hbm => 66
  | .vmem => 23
  | .smem => 0
  | _ => 0

abbrev bufTy : (tb : Table) → Fin (tcTables nBuf tb) → BufTy
  | .hbm, ⟨0, _⟩ => ⟨S2x8192x8x192, .f32⟩
  | .hbm, ⟨1, _⟩ => ⟨S2x8192x8x192, .f32⟩
  | .hbm, ⟨2, _⟩ => ⟨S2x8192x8x128, .f32⟩
  | .hbm, ⟨3, _⟩ => ⟨S192, .f32⟩
  | .hbm, ⟨4, _⟩ => ⟨S192, .f32⟩
  | .hbm, ⟨5, _⟩ => ⟨S2048x2048, .f32⟩
  | .hbm, ⟨6, _⟩ => ⟨S2048x8192, .f32⟩
  | .hbm, ⟨7, _⟩ => ⟨S8192x2048, .f32⟩
  | .hbm, ⟨8, _⟩ => ⟨S192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S256, .i32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S2x8192x8x192, .f32⟩
  | .hbm, ⟨30, _⟩ => ⟨S2x8192x8x192, .f32⟩
  | .hbm, ⟨31, _⟩ => ⟨S2x8x8192x192, .f32⟩
  | .hbm, ⟨32, _⟩ => ⟨S_, .i32⟩
  | .hbm, ⟨33, _⟩ => ⟨S_, .f32⟩
  | .hbm, ⟨34, _⟩ => ⟨S2x8x8192x256, .f32⟩
  | .hbm, ⟨35, _⟩ => ⟨S_, .i32⟩
  | .hbm, ⟨36, _⟩ => ⟨S256, .i32⟩
  | .hbm, ⟨37, _⟩ => ⟨S256, .i1⟩
  | .hbm, ⟨38, _⟩ => ⟨S256, .f32⟩
  | .hbm, ⟨39, _⟩ => ⟨S1x1x1x256, .f32⟩
  | .hbm, ⟨40, _⟩ => ⟨S2x8x8192x256, .f32⟩
  | .hbm, ⟨41, _⟩ => ⟨S2x8x8192x256, .f32⟩
  | .hbm, ⟨42, _⟩ => ⟨S2x8x8192x256, .bf16⟩
  | .hbm, ⟨43, _⟩ => ⟨S2x8x8192x192, .f32⟩
  | .hbm, ⟨44, _⟩ => ⟨S_, .i32⟩
  | .hbm, ⟨45, _⟩ => ⟨S_, .f32⟩
  | .hbm, ⟨46, _⟩ => ⟨S2x8x8192x256, .f32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S1x1x1x256, .f32⟩
  | .hbm, ⟨57, _⟩ => ⟨S2x8x8192x256, .f32⟩
  | .hbm, ⟨58, _⟩ => ⟨S2x8x8192x256, .f32⟩
  | .hbm, ⟨59, _⟩ => ⟨S2x8x8192x256, .bf16⟩
  | .hbm, ⟨60, _⟩ => ⟨S2x8x128x8192, .f32⟩
  | .hbm, ⟨61, _⟩ => ⟨S2x8x128x8192, .bf16⟩
  | .hbm, ⟨62, _⟩ => ⟨S2x8192x1024, .bf16⟩
  | .hbm, ⟨63, _⟩ => ⟨S2048x2048, .bf16⟩
  | .hbm, ⟨64, _⟩ => ⟨S2048x8192, .bf16⟩
  | .hbm, ⟨65, _⟩ => ⟨S8192x2048, .bf16⟩
  | .local _ .vmem, ⟨0, _⟩ => ⟨S1x2x1024x256, .bf16⟩
  | .local _ .vmem, ⟨1, _⟩ => ⟨S1x2x1024x256, .bf16⟩
  | .local _ .vmem, ⟨2, _⟩ => ⟨S1x2x8192x256, .bf16⟩
  | .local _ .vmem, ⟨3, _⟩ => ⟨S1x2x8192x256, .bf16⟩
  | .local _ .vmem, ⟨4, _⟩ => ⟨S1x2x128x8192, .bf16⟩
  | .local _ .vmem, ⟨5, _⟩ => ⟨S1x2x128x8192, .bf16⟩
  | .local _ .vmem, ⟨6, _⟩ => ⟨S32x2048, .f32⟩
  | .local _ .vmem, ⟨7, _⟩ => ⟨S32x2048, .f32⟩
  | .local _ .vmem, ⟨8, _⟩ => ⟨S32x8192, .f32⟩
  | .local _ .vmem, ⟨9, _⟩ => ⟨S32x8192, .f32⟩
  | .local _ .vmem, ⟨10, _⟩ => ⟨S128x2048, .f32⟩
  | .local _ .vmem, ⟨11, _⟩ => ⟨S128x2048, .f32⟩
  | .local _ .vmem, ⟨12, _⟩ => ⟨S1x1024x256, .bf16⟩
  | .local _ .vmem, ⟨13, _⟩ => ⟨S1x1024x256, .bf16⟩
  | .local _ .vmem, ⟨14, _⟩ => ⟨S32x2048, .bf16⟩
  | .local _ .vmem, ⟨15, _⟩ => ⟨S32x2048, .bf16⟩
  | .local _ .vmem, ⟨16, _⟩ => ⟨S32x8192, .bf16⟩
  | .local _ .vmem, ⟨17, _⟩ => ⟨S32x8192, .bf16⟩
  | .local _ .vmem, ⟨18, _⟩ => ⟨S128x2048, .bf16⟩
  | .local _ .vmem, ⟨19, _⟩ => ⟨S128x2048, .bf16⟩
  | .local _ .vmem, ⟨20, _⟩ => ⟨S2x1x1024, .f32⟩
  | .local _ .vmem, ⟨21, _⟩ => ⟨S2x1x1024, .f32⟩
  | .local _ .vmem, ⟨22, _⟩ => ⟨S2x128x1024, .f32⟩
  | _, _ => ⟨S2x8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_cst_4 : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_cst_5 : Ref sig .tc := ⟨.hbm, 25, rfl⟩
abbrev main_v10 : Ref sig .tc := ⟨.hbm, 26, rfl⟩
abbrev main_cst_6 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_call1_v0 : Ref sig .tc := ⟨.hbm, 33, rfl⟩
abbrev main_v15 : Ref sig .tc := ⟨.hbm, 34, rfl⟩
abbrev main_c_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_8 : Ref sig .tc := ⟨.hbm, 44, rfl⟩
abbrev main_call2_v0 : Ref sig .tc := ⟨.hbm, 45, rfl⟩
abbrev main_v24 : Ref sig .tc := ⟨.hbm, 46, rfl⟩
abbrev main_c_9 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_10 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35_0 : Ref sig .tc := ⟨.hbm, 62, rfl⟩
abbrev main_v35_1 : Ref sig .tc := ⟨.hbm, 63, rfl⟩
abbrev main_v35_2 : Ref sig .tc := ⟨.hbm, 64, rfl⟩
abbrev main_v35_3 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 4, 8], ![false, false, false]⟩

@[reducible] def k0_t1_loop (i : grid0.Coords) : Scf.Loop 32 :=
  let c0_i32_18 : BitVec 32 := 0#32
  let arg2 : BitVec 32 := BitVec.ofNat 32 (i 2).val
  let v17 : BitVec 32 := Scalar.subi arg2 c0_i32_18
  let c1_i32 : BitVec 32 := 1#32
  let v19 : BitVec 32 := Scalar.divsi v17 c1_i32
  let v20 : BitVec 32 := Scalar.muli v19 c1_i32
  let v21 : BitVec 32 := Scalar.addi c0_i32_18 v20
  let c1_i32_19 : BitVec 32 := 1#32
  ⟨c0_i32_18, v21, c1_i32_19⟩
def k0_mult1 (i : grid0.Coords) (k0_t1 : Fin (k0_t1_loop i).trips) : BitVec 32 :=
  let c0_i32_18 : BitVec 32 := 0#32
  let c1_i32_19 : BitVec 32 := 1#32
  let arg16 : BitVec 32 := Scf.iv c0_i32_18 c1_i32_19 k0_t1
  let c1024_i32_301 : BitVec 32 := 1024#32
  let v484 : BitVec 32 := Scalar.muli arg16 c1024_i32_301
  v484
def k0_off1 (i : grid0.Coords) (k0_t1 : Fin (k0_t1_loop i).trips) : Fin 4 → Nat :=
  let c0_302 : Index := 0#32
  let c0_303 : Index := 0#32
  let c0_i32_18 : BitVec 32 := 0#32
  let c1_i32_19 : BitVec 32 := 1#32
  let arg16 : BitVec 32 := Scf.iv c0_i32_18 c1_i32_19 k0_t1
  let c1024_i32_301 : BitVec 32 := 1024#32
  let v484 : BitVec 32 := Scalar.muli arg16 c1024_i32_301
  let v485 : BitVec 32 := v484
  let v486 : Index := Scalar.indexCast v485
  let c0_304 : Index := 0#32
  ![0, 0, v486.toNat, 0]
def k0_off2 (i : grid0.Coords) (k0_t1 : Fin (k0_t1_loop i).trips) : Fin 4 → Nat :=
  let c0_310 : Index := 0#32
  let c1_311 : Index := 1#32
  let c0_i32_18 : BitVec 32 := 0#32
  let c1_i32_19 : BitVec 32 := 1#32
  let arg16 : BitVec 32 := Scf.iv c0_i32_18 c1_i32_19 k0_t1
  let c1024_i32_301 : BitVec 32 := 1024#32
  let v484 : BitVec 32 := Scalar.muli arg16 c1024_i32_301
  let v485 : BitVec 32 := v484
  let v492 : Index := Scalar.indexCast v485
  let c0_312 : Index := 0#32
  ![0, 1, v492.toNat, 0]
def k0_off3 (i : grid0.Coords) (k0_t1 : Fin (k0_t1_loop i).trips) : Fin 4 → Nat :=
  let c0_318 : Index := 0#32
  let c0_319 : Index := 0#32
  let c0_320 : Index := 0#32
  let c0_i32_18 : BitVec 32 := 0#32
  let c1_i32_19 : BitVec 32 := 1#32
  let arg16 : BitVec 32 := Scf.iv c0_i32_18 c1_i32_19 k0_t1
  let c1024_i32_301 : BitVec 32 := 1024#32
  let v484 : BitVec 32 := Scalar.muli arg16 c1024_i32_301
  let v485 : BitVec 32 := v484
  let v498 : Index := Scalar.indexCast v485
  ![0, 0, 0, v498.toNat]
def k0_off4 (i : grid0.Coords) (k0_t1 : Fin (k0_t1_loop i).trips) : Fin 4 → Nat :=
  let c0_335 : Index := 0#32
  let c1_336 : Index := 1#32
  let c0_337 : Index := 0#32
  let c0_i32_18 : BitVec 32 := 0#32
  let c1_i32_19 : BitVec 32 := 1#32
  let arg16 : BitVec 32 := Scf.iv c0_i32_18 c1_i32_19 k0_t1
  let c1024_i32_301 : BitVec 32 := 1024#32
  let v484 : BitVec 32 := Scalar.muli arg16 c1024_i32_301
  let v485 : BitVec 32 := v484
  let v518 : Index := Scalar.indexCast v485
  ![0, 1, 0, v518.toNat]
@[reducible] def k0_t2_loop (i : grid0.Coords) : Scf.Loop 32 :=
  let c0_i32_18 : BitVec 32 := 0#32
  let arg2 : BitVec 32 := BitVec.ofNat 32 (i 2).val
  let v17 : BitVec 32 := Scalar.subi arg2 c0_i32_18
  let c1_i32 : BitVec 32 := 1#32
  let v19 : BitVec 32 := Scalar.divsi v17 c1_i32
  let v20 : BitVec 32 := Scalar.muli v19 c1_i32
  let v21 : BitVec 32 := Scalar.addi c0_i32_18 v20
  let v18 : BitVec 32 := Scalar.addi c0_i32_18 v17
  let c1_i32_20 : BitVec 32 := 1#32
  ⟨v21, v18, c1_i32_20⟩
def k0_mult2 (i : grid0.Coords) (k0_t2 : Fin (k0_t2_loop i).trips) : BitVec 32 :=
  let c0_i32_18 : BitVec 32 := 0#32
  let arg2 : BitVec 32 := BitVec.ofNat 32 (i 2).val
  let v17 : BitVec 32 := Scalar.subi arg2 c0_i32_18
  let c1_i32 : BitVec 32 := 1#32
  let v19 : BitVec 32 := Scalar.divsi v17 c1_i32
  let v20 : BitVec 32 := Scalar.muli v19 c1_i32
  let v21 : BitVec 32 := Scalar.addi c0_i32_18 v20
  let c1_i32_20 : BitVec 32 := 1#32
  let arg16 : BitVec 32 := Scf.iv v21 c1_i32_20 k0_t2
  let c1024_i32_301 : BitVec 32 := 1024#32
  let v484 : BitVec 32 := Scalar.muli arg16 c1024_i32_301
  v484
def k0_off5 (i : grid0.Coords) (k0_t2 : Fin (k0_t2_loop i).trips) : Fin 4 → Nat :=
  let c0_302 : Index := 0#32
  let c0_303 : Index := 0#32
  let c0_i32_18 : BitVec 32 := 0#32
  let arg2 : BitVec 32 := BitVec.ofNat 32 (i 2).val
  let v17 : BitVec 32 := Scalar.subi arg2 c0_i32_18
  let c1_i32 : BitVec 32 := 1#32
  let v19 : BitVec 32 := Scalar.divsi v17 c1_i32
  let v20 : BitVec 32 := Scalar.muli v19 c1_i32
  let v21 : BitVec 32 := Scalar.addi c0_i32_18 v20
  let c1_i32_20 : BitVec 32 := 1#32
  let arg16 : BitVec 32 := Scf.iv v21 c1_i32_20 k0_t2
  let c1024_i32_301 : BitVec 32 := 1024#32
  let v484 : BitVec 32 := Scalar.muli arg16 c1024_i32_301
  let v485 : BitVec 32 := v484
  let v486 : Index := Scalar.indexCast v485
  let c0_304 : Index := 0#32
  ![0, 0, v486.toNat, 0]
def k0_off6 (i : grid0.Coords) (k0_t2 : Fin (k0_t2_loop i).trips) : Fin 4 → Nat :=
  let c0_310 : Index := 0#32
  let c1_311 : Index := 1#32
  let c0_i32_18 : BitVec 32 := 0#32
  let arg2 : BitVec 32 := BitVec.ofNat 32 (i 2).val
  let v17 : BitVec 32 := Scalar.subi arg2 c0_i32_18
  let c1_i32 : BitVec 32 := 1#32
  let v19 : BitVec 32 := Scalar.divsi v17 c1_i32
  let v20 : BitVec 32 := Scalar.muli v19 c1_i32
  let v21 : BitVec 32 := Scalar.addi c0_i32_18 v20
  let c1_i32_20 : BitVec 32 := 1#32
  let arg16 : BitVec 32 := Scf.iv v21 c1_i32_20 k0_t2
  let c1024_i32_301 : BitVec 32 := 1024#32
  let v484 : BitVec 32 := Scalar.muli arg16 c1024_i32_301
  let v485 : BitVec 32 := v484
  let v492 : Index := Scalar.indexCast v485
  let c0_312 : Index := 0#32
  ![0, 1, v492.toNat, 0]
def k0_off7 (i : grid0.Coords) (k0_t2 : Fin (k0_t2_loop i).trips) : Fin 4 → Nat :=
  let c0_318 : Index := 0#32
  let c0_319 : Index := 0#32
  let c0_320 : Index := 0#32
  let c0_i32_18 : BitVec 32 := 0#32
  let arg2 : BitVec 32 := BitVec.ofNat 32 (i 2).val
  let v17 : BitVec 32 := Scalar.subi arg2 c0_i32_18
  let c1_i32 : BitVec 32 := 1#32
  let v19 : BitVec 32 := Scalar.divsi v17 c1_i32
  let v20 : BitVec 32 := Scalar.muli v19 c1_i32
  let v21 : BitVec 32 := Scalar.addi c0_i32_18 v20
  let c1_i32_20 : BitVec 32 := 1#32
  let arg16 : BitVec 32 := Scf.iv v21 c1_i32_20 k0_t2
  let c1024_i32_301 : BitVec 32 := 1024#32
  let v484 : BitVec 32 := Scalar.muli arg16 c1024_i32_301
  let v485 : BitVec 32 := v484
  let v498 : Index := Scalar.indexCast v485
  ![0, 0, 0, v498.toNat]
def k0_off8 (i : grid0.Coords) (k0_t2 : Fin (k0_t2_loop i).trips) : Fin 4 → Nat :=
  let c0_335 : Index := 0#32
  let c1_336 : Index := 1#32
  let c0_337 : Index := 0#32
  let c0_i32_18 : BitVec 32 := 0#32
  let arg2 : BitVec 32 := BitVec.ofNat 32 (i 2).val
  let v17 : BitVec 32 := Scalar.subi arg2 c0_i32_18
  let c1_i32 : BitVec 32 := 1#32
  let v19 : BitVec 32 := Scalar.divsi v17 c1_i32
  let v20 : BitVec 32 := Scalar.muli v19 c1_i32
  let v21 : BitVec 32 := Scalar.addi c0_i32_18 v20
  let c1_i32_20 : BitVec 32 := 1#32
  let arg16 : BitVec 32 := Scf.iv v21 c1_i32_20 k0_t2
  let c1024_i32_301 : BitVec 32 := 1024#32
  let v484 : BitVec 32 := Scalar.muli arg16 c1024_i32_301
  let v485 : BitVec 32 := v484
  let v518 : Index := Scalar.indexCast v485
  ![0, 1, 0, v518.toNat]
def k0_mult3 (i : grid0.Coords) : BitVec 32 :=
  let arg2 : BitVec 32 := BitVec.ofNat 32 (i 2).val
  let c1024_i32 : BitVec 32 := 1024#32
  let v72 : BitVec 32 := Scalar.muli arg2 c1024_i32
  let c0_i32_34 : BitVec 32 := 0#32
  let v73 : BitVec 32 := Scalar.addi v72 c0_i32_34
  v73
def k0_mult4 (i : grid0.Coords) : BitVec 32 :=
  let arg2 : BitVec 32 := BitVec.ofNat 32 (i 2).val
  let c1024_i32_49 : BitVec 32 := 1024#32
  let v126 : BitVec 32 := Scalar.muli arg2 c1024_i32_49
  let c256_i32 : BitVec 32 := 256#32
  let v127 : BitVec 32 := Scalar.addi v126 c256_i32
  v127
def k0_mult5 (i : grid0.Coords) : BitVec 32 :=
  let arg2 : BitVec 32 := BitVec.ofNat 32 (i 2).val
  let c1024_i32_64 : BitVec 32 := 1024#32
  let v180 : BitVec 32 := Scalar.muli arg2 c1024_i32_64
  let c512_i32 : BitVec 32 := 512#32
  let v181 : BitVec 32 := Scalar.addi v180 c512_i32
  v181
def k0_mult6 (i : grid0.Coords) : BitVec 32 :=
  let arg2 : BitVec 32 := BitVec.ofNat 32 (i 2).val
  let c1024_i32_79 : BitVec 32 := 1024#32
  let v234 : BitVec 32 := Scalar.muli arg2 c1024_i32_79
  let c768_i32 : BitVec 32 := 768#32
  let v235 : BitVec 32 := Scalar.addi v234 c768_i32
  v235
def k0_off9 (i : grid0.Coords) (c0_i32_34 : BitVec 32) : Fin 4 → Nat :=
  let c0_80 : Index := 0#32
  let c0_81 : Index := 0#32
  let arg2 : BitVec 32 := BitVec.ofNat 32 (i 2).val
  let c1024_i32 : BitVec 32 := 1024#32
  let v72 : BitVec 32 := Scalar.muli arg2 c1024_i32
  let v73 : BitVec 32 := Scalar.addi v72 c0_i32_34
  let v74 : BitVec 32 := v73
  let v238 : Index := Scalar.indexCast v74
  let c0_82 : Index := 0#32
  ![0, 0, v238.toNat, 0]
def k0_off10 (i : grid0.Coords) (c0_i32_34 : BitVec 32) : Fin 4 → Nat :=
  let c0_88 : Index := 0#32
  let c1 : Index := 1#32
  let arg2 : BitVec 32 := BitVec.ofNat 32 (i 2).val
  let c1024_i32 : BitVec 32 := 1024#32
  let v72 : BitVec 32 := Scalar.muli arg2 c1024_i32
  let v73 : BitVec 32 := Scalar.addi v72 c0_i32_34
  let v74 : BitVec 32 := v73
  let v244 : Index := Scalar.indexCast v74
  let c0_89 : Index := 0#32
  ![0, 1, v244.toNat, 0]
def k0_off11 (i : grid0.Coords) (c0_i32_34 : BitVec 32) : Fin 4 → Nat :=
  let c0_141 : Index := 0#32
  let c0_142 : Index := 0#32
  let c0_143 : Index := 0#32
  let arg2 : BitVec 32 := BitVec.ofNat 32 (i 2).val
  let c1024_i32 : BitVec 32 := 1024#32
  let v72 : BitVec 32 := Scalar.muli arg2 c1024_i32
  let v73 : BitVec 32 := Scalar.addi v72 c0_i32_34
  let v74 : BitVec 32 := v73
  let v288 : Index := Scalar.indexCast v74
  ![0, 0, 0, v288.toNat]
def k0_off12 (i : grid0.Coords) (c0_i32_34 : BitVec 32) : Fin 4 → Nat :=
  let c0_159 : Index := 0#32
  let c1_160 : Index := 1#32
  let c0_161 : Index := 0#32
  let arg2 : BitVec 32 := BitVec.ofNat 32 (i 2).val
  let c1024_i32 : BitVec 32 := 1024#32
  let v72 : BitVec 32 := Scalar.muli arg2 c1024_i32
  let v73 : BitVec 32 := Scalar.addi v72 c0_i32_34
  let v74 : BitVec 32 := v73
  let v310 : Index := Scalar.indexCast v74
  ![0, 1, 0, v310.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1x2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S32x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S32x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S32x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x8x192 : Shape := ⟨4, ![2, 8192, 8, 192]⟩
abbrev S2x8192x8x128 : Shape := ⟨4, ![2, 8192, 8, 128]⟩
abbrev S192 : Shape := ⟨1, ![192]⟩
abbrev S2048x2048 : Shape := ⟨2, ![2048, 2048]⟩
abbrev S2048x8192 : Shape := ⟨2, ![2048, 8192]⟩
abbrev S8192x2048 : Shape := ⟨2, ![8192, 2048]⟩
abbrev S8192 : Shape := ⟨1, ![8192]⟩
abbrev S_ : Shape := ⟨0, ![]⟩
abbrev S2x8x8192x8192 : Shape := ⟨4, ![2, 8, 8192, 8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S2x8192x1024 : Shape := ⟨3, ![2, 8192, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x8x192, .f32⟩
  | .hbm, ⟨1, _⟩ => ⟨S2x8192x8x192, .f32⟩
  | .hbm, ⟨2, _⟩ => ⟨S2x8192x8x128, .f32⟩
  | .hbm, ⟨3, _⟩ => ⟨S192, .f32⟩
  | .hbm, ⟨4, _⟩ => ⟨S192, .f32⟩
  | .hbm, ⟨5, _⟩ => ⟨S2048x2048, .f32⟩
  | .hbm, ⟨6, _⟩ => ⟨S2048x8192, .f32⟩
  | .hbm, ⟨7, _⟩ => ⟨S8192x2048, .f32⟩
  | .hbm, ⟨8, _⟩ => ⟨S8192, .i32⟩
  | .hbm, ⟨9, _⟩ => ⟨S_, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S2x8x8192x8192, .f32⟩
  | .hbm, ⟨28, _⟩ => ⟨S_, .f32⟩
  | .hbm, ⟨29, _⟩ => ⟨S2x8x8192x8192, .f32⟩
  | .hbm, ⟨30, _⟩ => ⟨S2x8x8192x8192, .f32⟩
  | .hbm, ⟨31, _⟩ => ⟨S1x8192, .i32⟩
  | .hbm, ⟨32, _⟩ => ⟨S8192x1, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S1x1x8192x8192, .i1⟩
  | .hbm, ⟨37, _⟩ => ⟨S_, .f32⟩
  | .hbm, ⟨38, _⟩ => ⟨S_, .f32⟩
  | .hbm, ⟨39, _⟩ => ⟨S2x8x8192x8192, .i1⟩
  | .hbm, ⟨40, _⟩ => ⟨S2x8x8192x8192, .f32⟩
  | .hbm, ⟨41, _⟩ => ⟨S2x8x8192x8192, .f32⟩
  | .hbm, ⟨42, _⟩ => ⟨S_, .f32⟩
  | .hbm, ⟨43, _⟩ => ⟨S2x8x8192, .f32⟩
  | .hbm, ⟨44, _⟩ => ⟨S_, .f32⟩
  | .hbm, ⟨45, _⟩ => ⟨S2x8x8192, .f32⟩
  | .hbm, ⟨46, _⟩ => ⟨S2x8x8192, .f32⟩
  | .hbm, ⟨47, _⟩ => ⟨S2x8x8192x1, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .f32⟩
  | .hbm, ⟨51, _⟩ => ⟨S_, .f32⟩
  | .hbm, ⟨52, _⟩ => ⟨S2x8x8192, .f32⟩
  | .hbm, ⟨53, _⟩ => ⟨S2x8x8192x1, .f32⟩
  | .hbm, ⟨54, _⟩ => ⟨S2x8x8192x8192, .f32⟩
  | .hbm, ⟨55, _⟩ => ⟨S2x8x8192x8192, .f32⟩
  | .hbm, ⟨56, _⟩ => ⟨S2x8x128x8192, .f32⟩
  | .hbm, ⟨57, _⟩ => ⟨S2x8192x8x128, .f32⟩
  | .hbm, ⟨58, _⟩ => ⟨S2x8192x1024, .f32⟩
  | .hbm, ⟨59, _⟩ => ⟨S2x8192x1024, .bf16⟩
  | .hbm, ⟨60, _⟩ => ⟨S2048x2048, .bf16⟩
  | .hbm, ⟨61, _⟩ => ⟨S2048x8192, .bf16⟩
  | .hbm, ⟨62, _⟩ => ⟨S8192x2048, .bf16⟩
  | _, _ => ⟨S2x8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_cst_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩

abbrev nD : Nat := 1
abbrev τ : Topo := Topo.v7x

variable {F : FTy → Type} [FloatOps F]
-- ==== Ffn.lean ====
abbrev S2x8192x2048 : Shape := ⟨3, ![2, 8192, 2048]⟩
abbrev S1x2048 : Shape := ⟨2, ![1, 2048]⟩
abbrev S2048x8192 : Shape := ⟨2, ![2048, 8192]⟩
abbrev S8192x2048 : Shape := ⟨2, ![8192, 2048]⟩
abbrev S1x512x2048 : Shape := ⟨3, ![1, 512, 2048]⟩
abbrev S2048x2048 : Shape := ⟨2, ![2048, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S2048x8192, .bf16⟩
  | .hbm, ⟨5, _⟩ => ⟨S8192x2048, .bf16⟩
  | .hbm, ⟨6, _⟩ => ⟨S2x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S1x512x2048, .f32⟩
  | .local _ .vmem, ⟨8, _⟩ => ⟨S1x512x2048, .f32⟩
  | .local _ .vmem, ⟨9, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnIdeal.lean ====
abbrev S2x8192x2048 : Shape := ⟨3, ![2, 8192, 2048]⟩
abbrev S1x2048 : Shape := ⟨2, ![1, 2048]⟩
abbrev S2048x8192 : Shape := ⟨2, ![2048, 8192]⟩
abbrev S8192x2048 : Shape := ⟨2, ![8192, 2048]⟩
abbrev S1x512x2048 : Shape := ⟨3, ![1, 512, 2048]⟩
abbrev S2048x2048 : Shape := ⟨2, ![2048, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S2048x8192, .bf16⟩
  | .hbm, ⟨5, _⟩ => ⟨S8192x2048, .bf16⟩
  | .hbm, ⟨6, _⟩ => ⟨S2x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S1x512x2048, .f32⟩
  | .local _ .vmem, ⟨8, _⟩ => ⟨S1x512x2048, .f32⟩
  | .local _ .vmem, ⟨9, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnRefIdeal.lean ====
abbrev S2x8192x2048 : Shape := ⟨3, ![2, 8192, 2048]⟩
abbrev S1x2048 : Shape := ⟨2, ![1, 2048]⟩
abbrev S2048x8192 : Shape := ⟨2, ![2048, 8192]⟩
abbrev S8192x2048 : Shape := ⟨2, ![8192, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x8192 : Shape := ⟨3, ![2, 8192, 8192]⟩

abbrev nBuf : Space → Nat
  | .hbm => 28
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2x8192x8192, .f32⟩
  | .hbm, ⟨22, _⟩ => ⟨S_, .f32⟩
  | .hbm, ⟨23, _⟩ => ⟨S2x8192x8192, .f32⟩
  | .hbm, ⟨24, _⟩ => ⟨S2x8192x8192, .f32⟩
  | .hbm, ⟨25, _⟩ => ⟨S2x8192x8192, .f32⟩
  | .hbm, ⟨26, _⟩ => ⟨S2x8192x2048, .f32⟩
  | .hbm, ⟨27, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Merge.lean ====
abbrev S2x8192x2048 : Shape := ⟨3, ![2, 8192, 2048]⟩
abbrev S2x8192x1024 : Shape := ⟨3, ![2, 8192, 1024]⟩
abbrev S2048x2048 : Shape := ⟨2, ![2048, 2048]⟩
abbrev S1x512x2048 : Shape := ⟨3, ![1, 512, 2048]⟩
abbrev S1x512x1024 : Shape := ⟨3, ![1, 512, 1024]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 8
  | .vmem => 9
  | .smem => 0
  | _ => 0

abbrev bufTy : (tb : Table) → Fin (tcTables nBuf tb) → BufTy
  | .hbm, ⟨0, _⟩ => ⟨S2x8192x2048, .f32⟩
  | .hbm, ⟨1, _⟩ => ⟨S2x8192x1024, .f32⟩
  | .hbm, ⟨2, _⟩ => ⟨S2x8192x1024, .f32⟩
  | .hbm, ⟨3, _⟩ => ⟨S2048x2048, .f32⟩
  | .hbm, ⟨4, _⟩ => ⟨S2x8192x1024, .bf16⟩
  | .hbm, ⟨5, _⟩ => ⟨S2x8192x1024, .bf16⟩
  | .hbm, ⟨6, _⟩ => ⟨S2048x2048, .bf16⟩
  | .hbm, ⟨7, _⟩ => ⟨S2x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S2048x2048, .bf16⟩
  | .local _ .vmem, ⟨7, _⟩ => ⟨S1x512x2048, .f32⟩
  | .local _ .vmem, ⟨8, _⟩ => ⟨S1x512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeIdeal.lean ====
abbrev S2x8192x2048 : Shape := ⟨3, ![2, 8192, 2048]⟩
abbrev S2x8192x1024 : Shape := ⟨3, ![2, 8192, 1024]⟩
abbrev S2048x2048 : Shape := ⟨2, ![2048, 2048]⟩
abbrev S1x512x2048 : Shape := ⟨3, ![1, 512, 2048]⟩
abbrev S1x512x1024 : Shape := ⟨3, ![1, 512, 1024]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 8
  | .vmem => 9
  | .smem => 0
  | _ => 0

abbrev bufTy : (tb : Table) → Fin (tcTables nBuf tb) → BufTy
  | .hbm, ⟨0, _⟩ => ⟨S2x8192x2048, .f32⟩
  | .hbm, ⟨1, _⟩ => ⟨S2x8192x1024, .f32⟩
  | .hbm, ⟨2, _⟩ => ⟨S2x8192x1024, .f32⟩
  | .hbm, ⟨3, _⟩ => ⟨S2048x2048, .f32⟩
  | .hbm, ⟨4, _⟩ => ⟨S2x8192x1024, .bf16⟩
  | .hbm, ⟨5, _⟩ => ⟨S2x8192x1024, .bf16⟩
  | .hbm, ⟨6, _⟩ => ⟨S2048x2048, .bf16⟩
  | .hbm, ⟨7, _⟩ => ⟨S2x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S2048x2048, .bf16⟩
  | .local _ .vmem, ⟨7, _⟩ => ⟨S1x512x2048, .f32⟩
  | .local _ .vmem, ⟨8, _⟩ => ⟨S1x512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeRefIdeal.lean ====
abbrev S2x8192x2048 : Shape := ⟨3, ![2, 8192, 2048]⟩
abbrev S2x8192x1024 : Shape := ⟨3, ![2, 8192, 1024]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x1024, .f32⟩
  | .hbm, ⟨2, _⟩ => ⟨S2x8192x1024, .f32⟩
  | .hbm, ⟨3, _⟩ => ⟨S2048x2048, .f32⟩
  | .hbm, ⟨4, _⟩ => ⟨S2x8192x2048, .f32⟩
  | .hbm, ⟨5, _⟩ => ⟨S2x8192x2048, .f32⟩
  | .hbm, ⟨6, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== ProjS.lean ====
abbrev S1x512x2048 : Shape := ⟨3, ![1, 512, 2048]⟩
abbrev S1x2048 : Shape := ⟨2, ![1, 2048]⟩
abbrev S2048x3904 : Shape := ⟨2, ![2048, 3904]⟩
abbrev S1x512 : Shape := ⟨2, ![1, 512]⟩
abbrev S1x256 : Shape := ⟨2, ![1, 256]⟩
abbrev S1x128 : Shape := ⟨2, ![1, 128]⟩
abbrev S2048x512 : Shape := ⟨2, ![2048, 512]⟩
abbrev S2048x256 : Shape := ⟨2, ![2048, 256]⟩
abbrev S2048x64 : Shape := ⟨2, ![2048, 64]⟩
abbrev S2048x1024 : Shape := ⟨2, ![2048, 1024]⟩
abbrev S_ : Shape := ⟨0, ![]⟩
abbrev S2048x128 : Shape := ⟨2, ![2048, 128]⟩
abbrev S1x512x512 : Shape := ⟨3, ![1, 512, 512]⟩
abbrev S1x512x256 : Shape := ⟨3, ![1, 512, 256]⟩
abbrev S1x512x128 : Shape := ⟨3, ![1, 512, 128]⟩
abbrev S1x512x64 : Shape := ⟨3, ![1, 512, 64]⟩
abbrev S1x512x1024 : Shape := ⟨3, ![1, 512, 1024]⟩
abbrev S1x512x8x128 : Shape := ⟨4, ![1, 512, 8, 128]⟩
abbrev S1x256x2048 : Shape := ⟨3, ![1, 256, 2048]⟩
abbrev S1x256x512 : Shape := ⟨3, ![1, 256, 512]⟩
abbrev S1x256x256 : Shape := ⟨3, ![1, 256, 256]⟩
abbrev S1x256x128 : Shape := ⟨3, ![1, 256, 128]⟩
abbrev S1x256x64 : Shape := ⟨3, ![1, 256, 64]⟩
abbrev S1x256x1024 : Shape := ⟨3, ![1, 256, 1024]⟩
abbrev S1x256x8x128 : Shape := ⟨4, ![1, 256, 8, 128]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S256x256 : Shape := ⟨2, ![256, 256]⟩
abbrev S256x128 : Shape := ⟨2, ![256, 128]⟩
abbrev S256x64 : Shape := ⟨2, ![256, 64]⟩
abbrev S256x1024 : Shape := ⟨2, ![256, 1024]⟩
abbrev S256x8x128 : Shape := ⟨3, ![256, 8, 128]⟩

abbrev nBuf : Space → Nat
  | .hbm => 31
  | .vmem => 29
  | .smem => 0
  | _ => 0

abbrev bufTy : (tb : Table) → Fin (tcTables nBuf tb) → BufTy
  | .hbm, ⟨0, _⟩ => ⟨S1x512x2048, .f32⟩
  | .hbm, ⟨1, _⟩ => ⟨S1x2048, .f32⟩
  | .hbm, ⟨2, _⟩ => ⟨S2048x3904, .f32⟩
  | .hbm, ⟨3, _⟩ => ⟨S1x512, .f32⟩
  | .hbm, ⟨4, _⟩ => ⟨S1x256, .f32⟩
  | .hbm, ⟨5, _⟩ => ⟨S1x128, .f32⟩
  | .hbm, ⟨6, _⟩ => ⟨S1x128, .f32⟩
  | .hbm, ⟨7, _⟩ => ⟨S2048x512, .f32⟩
  | .hbm, ⟨8, _⟩ => ⟨S2048x512, .bf16⟩
  | .hbm, ⟨9, _⟩ => ⟨S2048x256, .f32⟩
  | .hbm, ⟨10, _⟩ => ⟨S2048x256, .bf16⟩
  | .hbm, ⟨11, _⟩ => ⟨S2048x64, .f32⟩
  | .hbm, ⟨12, _⟩ => ⟨S2048x64, .bf16⟩
  | .hbm, ⟨13, _⟩ => ⟨S2048x1024, .f32⟩
  | .hbm, ⟨14, _⟩ => ⟨S2048x1024, .bf16⟩
  | .hbm, ⟨15, _⟩ => ⟨S2048x1024, .f32⟩
  | .hbm, ⟨16, _⟩ => ⟨S2048x1024, .bf16⟩
  | .hbm, ⟨17, _⟩ => ⟨S2048x1024, .f32⟩
  | .hbm, ⟨18, _⟩ => ⟨S2048x1024, .bf16⟩
  | .hbm, ⟨19, _⟩ => ⟨S_, .i32⟩
  | .hbm, ⟨20, _⟩ => ⟨S_, .bf16⟩
  | .hbm, ⟨21, _⟩ => ⟨S2048x128, .bf16⟩
  | .hbm, ⟨22, _⟩ => ⟨S1x512x512, .bf16⟩
  | .hbm, ⟨23, _⟩ => ⟨S1x512x256, .f32⟩
  | .hbm, ⟨24, _⟩ => ⟨S1x512x128, .f32⟩
  | .hbm, ⟨25, _⟩ => ⟨S1x512x64, .f32⟩
  | .hbm, ⟨26, _⟩ => ⟨S1x512x1024, .bf16⟩
  | .hbm, ⟨27, _⟩ => ⟨S1x512x1024, .bf16⟩
  | .hbm, ⟨28, _⟩ => ⟨S1x512x1024, .bf16⟩
  | .hbm, ⟨29, _⟩ => ⟨S1x512x8x128, .f32⟩
  | .hbm, ⟨30, _⟩ => ⟨S1x512x8x128, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S2048x512, .bf16⟩
  | .local _ .vmem, ⟨4, _⟩ => ⟨S2048x256, .bf16⟩
  | .local _ .vmem, ⟨5, _⟩ => ⟨S2048x128, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S1x512, .f32⟩
  | .local _ .vmem, ⟨10, _⟩ => ⟨S1x256, .f32⟩
  | .local _ .vmem, ⟨11, _⟩ => ⟨S1x128, .f32⟩
  | .local _ .vmem, ⟨12, _⟩ => ⟨S1x128, .f32⟩
  | .local _ .vmem, ⟨13, _⟩ => ⟨S1x256x512, .bf16⟩
  | .local _ .vmem, ⟨14, _⟩ => ⟨S1x256x512, .bf16⟩
  | .local _ .vmem, ⟨15, _⟩ => ⟨S1x256x256, .f32⟩
  | .local _ .vmem, ⟨16, _⟩ => ⟨S1x256x256, .f32⟩
  | .local _ .vmem, ⟨17, _⟩ => ⟨S1x256x128, .f32⟩
  | .local _ .vmem, ⟨18, _⟩ => ⟨S1x256x128, .f32⟩
  | .local _ .vmem, ⟨19, _⟩ => ⟨S1x256x64, .f32⟩
  | .local _ .vmem, ⟨20, _⟩ => ⟨S1x256x64, .f32⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x8x128, .f32⟩
  | .local _ .vmem, ⟨28, _⟩ => ⟨S1x256x8x128, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev main_v13_7 : Ref sig .tc := ⟨.hbm, 29, rfl⟩
abbrev main_v13_8 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg20_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem20_0 : DmaSem sig := 28

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v339 : BitVec 1 := Scalar.cmpi .sge arg1 c0_i32
  let v340 : BitVec 32 := Scalar.extui v339
  let c0_i32_149 : BitVec 32 := 0#32
  let v341 : BitVec 1 := Scalar.cmpi .ne v340 c0_i32_149
  v341

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  let c0_i32_3 : BitVec 32 := 0#32
  ![arg0.toNat, v1.toNat, c0_i32_1.toNat, c0_i32_2.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S1x256x8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, true]

abbrev stage0_20 : Fin 1 → Memref sig .tc .vmem S1x256x8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, true]
-- ==== ProjSRefIdeal.lean ====
abbrev S1x512x2048 : Shape := ⟨3, ![1, 512, 2048]⟩
abbrev S1x2048 : Shape := ⟨2, ![1, 2048]⟩
abbrev S2048x3904 : Shape := ⟨2, ![2048, 3904]⟩
abbrev S1x512 : Shape := ⟨2, ![1, 512]⟩
abbrev S1x256 : Shape := ⟨2, ![1, 256]⟩
abbrev S1x128 : Shape := ⟨2, ![1, 128]⟩
abbrev S2048 : Shape := ⟨1, ![2048]⟩
abbrev S_ : Shape := ⟨0, ![]⟩
abbrev S1x512x1 : Shape := ⟨3, ![1, 512, 1]⟩
abbrev S1x1x2048 : Shape := ⟨3, ![1, 1, 2048]⟩
abbrev S1x512x3904 : Shape := ⟨3, ![1, 512, 3904]⟩
abbrev S1x512x512 : Shape := ⟨3, ![1, 512, 512]⟩
abbrev S1x512x256 : Shape := ⟨3, ![1, 512, 256]⟩
abbrev S1x512x64 : Shape := ⟨3, ![1, 512, 64]⟩
abbrev S1x512x1024 : Shape := ⟨3, ![1, 512, 1024]⟩
abbrev S512 : Shape := ⟨1, ![512]⟩
abbrev S1x1x512 : Shape := ⟨3, ![1, 1, 512]⟩
abbrev S256 : Shape := ⟨1, ![256]⟩
abbrev S1x1x256 : Shape := ⟨3, ![1, 1, 256]⟩
abbrev S1x512x8x128 : Shape := ⟨4, ![1, 512, 8, 128]⟩
abbrev S128 : Shape := ⟨1, ![128]⟩
abbrev S1x512x8 : Shape := ⟨3, ![1, 512, 8]⟩
abbrev S1x512x8x1 : Shape := ⟨4, ![1, 512, 8, 1]⟩
abbrev S1x1x1x128 : Shape := ⟨4, ![1, 1, 1, 128]⟩

abbrev nBuf : Space → Nat
  | .hbm => 105
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x2048, .f32⟩
  | .hbm, ⟨2, _⟩ => ⟨S2048x3904, .f32⟩
  | .hbm, ⟨3, _⟩ => ⟨S1x512, .f32⟩
  | .hbm, ⟨4, _⟩ => ⟨S1x256, .f32⟩
  | .hbm, ⟨5, _⟩ => ⟨S1x128, .f32⟩
  | .hbm, ⟨6, _⟩ => ⟨S1x128, .f32⟩
  | .hbm, ⟨7, _⟩ => ⟨S2048, .f32⟩
  | .hbm, ⟨8, _⟩ => ⟨S1x512x2048, .f32⟩
  | .hbm, ⟨9, _⟩ => ⟨S_, .f32⟩
  | .hbm, ⟨10, _⟩ => ⟨S1x512, .f32⟩
  | .hbm, ⟨11, _⟩ => ⟨S1x512x1, .f32⟩
  | .hbm, ⟨12, _⟩ => ⟨S_, .f32⟩
  | .hbm, ⟨13, _⟩ => ⟨S1x512x1, .f32⟩
  | .hbm, ⟨14, _⟩ => ⟨S1x512x1, .f32⟩
  | .hbm, ⟨15, _⟩ => ⟨S_, .f32⟩
  | .hbm, ⟨16, _⟩ => ⟨S1x512x1, .f32⟩
  | .hbm, ⟨17, _⟩ => ⟨S1x512x1, .f32⟩
  | .hbm, ⟨18, _⟩ => ⟨S1x512x1, .f32⟩
  | .hbm, ⟨19, _⟩ => ⟨S1x512x2048, .f32⟩
  | .hbm, ⟨20, _⟩ => ⟨S1x512x2048, .f32⟩
  | .hbm, ⟨21, _⟩ => ⟨S1x1x2048, .f32⟩
  | .hbm, ⟨22, _⟩ => ⟨S1x512x2048, .f32⟩
  | .hbm, ⟨23, _⟩ => ⟨S1x512x2048, .f32⟩
  | .hbm, ⟨24, _⟩ => ⟨S1x512x3904, .f32⟩
  | .hbm, ⟨25, _⟩ => ⟨S1x512x512, .f32⟩
  | .hbm, ⟨26, _⟩ => ⟨S1x512x256, .f32⟩
  | .hbm, ⟨27, _⟩ => ⟨S1x512x64, .f32⟩
  | .hbm, ⟨28, _⟩ => ⟨S1x512x1024, .f32⟩
  | .hbm, ⟨29, _⟩ => ⟨S1x512x1024, .f32⟩
  | .hbm, ⟨30, _⟩ => ⟨S1x512x1024, .f32⟩
  | .hbm, ⟨31, _⟩ => ⟨S512, .f32⟩
  | .hbm, ⟨32, _⟩ => ⟨S1x512x512, .f32⟩
  | .hbm, ⟨33, _⟩ => ⟨S_, .f32⟩
  | .hbm, ⟨34, _⟩ => ⟨S1x512, .f32⟩
  | .hbm, ⟨35, _⟩ => ⟨S1x512x1, .f32⟩
  | .hbm, ⟨36, _⟩ => ⟨S_, .f32⟩
  | .hbm, ⟨37, _⟩ => ⟨S1x512x1, .f32⟩
  | .hbm, ⟨38, _⟩ => ⟨S1x512x1, .f32⟩
  | .hbm, ⟨39, _⟩ => ⟨S_, .f32⟩
  | .hbm, ⟨40, _⟩ => ⟨S1x512x1, .f32⟩
  | .hbm, ⟨41, _⟩ => ⟨S1x512x1, .f32⟩
  | .hbm, ⟨42, _⟩ => ⟨S1x512x1, .f32⟩
  | .hbm, ⟨43, _⟩ => ⟨S1x512x512, .f32⟩
  | .hbm, ⟨44, _⟩ => ⟨S1x512x512, .f32⟩
  | .hbm, ⟨45, _⟩ => ⟨S1x1x512, .f32⟩
  | .hbm, ⟨46, _⟩ => ⟨S1x512x512, .f32⟩
  | .hbm, ⟨47, _⟩ => ⟨S1x512x512, .f32⟩
  | .hbm, ⟨48, _⟩ => ⟨S256, .f32⟩
  | .hbm, ⟨49, _⟩ => ⟨S1x512x256, .f32⟩
  | .hbm, ⟨50, _⟩ => ⟨S_, .f32⟩
  | .hbm, ⟨51, _⟩ => ⟨S1x512, .f32⟩
  | .hbm, ⟨52, _⟩ => ⟨S1x512x1, .f32⟩
  | .hbm, ⟨53, _⟩ => ⟨S_, .f32⟩
  | .hbm, ⟨54, _⟩ => ⟨S1x512x1, .f32⟩
  | .hbm, ⟨55, _⟩ => ⟨S1x512x1, .f32⟩
  | .hbm, ⟨56, _⟩ => ⟨S_, .f32⟩
  | .hbm, ⟨57, _⟩ => ⟨S1x512x1, .f32⟩
  | .hbm, ⟨58, _⟩ => ⟨S1x512x1, .f32⟩
  | .hbm, ⟨59, _⟩ => ⟨S1x512x1, .f32⟩
  | .hbm, ⟨60, _⟩ => ⟨S1x512x256, .f32⟩
  | .hbm, ⟨61, _⟩ => ⟨S1x512x256, .f32⟩
  | .hbm, ⟨62, _⟩ => ⟨S1x1x256, .f32⟩
  | .hbm, ⟨63, _⟩ => ⟨S1x512x256, .f32⟩
  | .hbm, ⟨64, _⟩ => ⟨S1x512x256, .f32⟩
  | .hbm, ⟨65, _⟩ => ⟨S1x512x8x128, .f32⟩
  | .hbm, ⟨66, _⟩ => ⟨S128, .f32⟩
  | .hbm, ⟨67, _⟩ => ⟨S1x512x8x128, .f32⟩
  | .hbm, ⟨68, _⟩ => ⟨S_, .f32⟩
  | .hbm, ⟨69, _⟩ => ⟨S1x512x8, .f32⟩
  | .hbm, ⟨70, _⟩ => ⟨S1x512x8x1, .f32⟩
  | .hbm, ⟨71, _⟩ => ⟨S_, .f32⟩
  | .hbm, ⟨72, _⟩ => ⟨S1x512x8x1, .f32⟩
  | .hbm, ⟨73, _⟩ => ⟨S1x512x8x1, .f32⟩
  | .hbm, ⟨74, _⟩ => ⟨S_, .f32⟩
  | .hbm, ⟨75, _⟩ => ⟨S1x512x8x1, .f32⟩
  | .hbm, ⟨76, _⟩ => ⟨S1x512x8x1, .f32⟩
  | .hbm, ⟨77, _⟩ => ⟨S1x512x8x1, .f32⟩
  | .hbm, ⟨78, _⟩ => ⟨S1x512x8x128, .f32⟩
  | .hbm, ⟨79, _⟩ => ⟨S1x512x8x128, .f32⟩
  | .hbm, ⟨80, _⟩ => ⟨S1x1x1x128, .f32⟩
  | .hbm, ⟨81, _⟩ => ⟨S1x512x8x128, .f32⟩
  | .hbm, ⟨82, _⟩ => ⟨S1x512x8x128, .f32⟩
  | .hbm, ⟨83, _⟩ => ⟨S1x512x8x128, .f32⟩
  | .hbm, ⟨84, _⟩ => ⟨S128, .f32⟩
  | .hbm, ⟨85, _⟩ => ⟨S1x512x8x128, .f32⟩
  | .hbm, ⟨86, _⟩ => ⟨S_, .f32⟩
  | .hbm, ⟨87, _⟩ => ⟨S1x512x8, .f32⟩
  | .hbm, ⟨88, _⟩ => ⟨S1x512x8x1, .f32⟩
  | .hbm, ⟨89, _⟩ => ⟨S_, .f32⟩
  | .hbm, ⟨90, _⟩ => ⟨S1x512x8x1, .f32⟩
  | .hbm, ⟨91, _⟩ => ⟨S1x512x8x1, .f32⟩
  | .hbm, ⟨92, _⟩ => ⟨S_, .f32⟩
  | .hbm, ⟨93, _⟩ => ⟨S1x512x8x1, .f32⟩
  | .hbm, ⟨94, _⟩ => ⟨S1x512x8x1, .f32⟩
  | .hbm, ⟨95, _⟩ => ⟨S1x512x8x1, .f32⟩
  | .hbm, ⟨96, _⟩ => ⟨S1x512x8x128, .f32⟩
  | .hbm, ⟨97, _⟩ => ⟨S1x512x8x128, .f32⟩
  | .hbm, ⟨98, _⟩ => ⟨S1x1x1x128, .f32⟩
  | .hbm, ⟨99, _⟩ => ⟨S1x512x8x128, .f32⟩
  | .hbm, ⟨100, _⟩ => ⟨S1x512x8x128, .f32⟩
  | .hbm, ⟨101, _⟩ => ⟨S1x512x8x128, .f32⟩
  | .hbm, ⟨102, _⟩ => ⟨S1x512x512, .bf16⟩
  | .hbm, ⟨103, _⟩ => ⟨S1x512x1024, .f32⟩
  | .hbm, ⟨104, _⟩ => ⟨S1x512x1024, .bf16⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_11 : Ref sig .tc := ⟨.hbm, 86, rfl⟩
abbrev main_v67 : Ref sig .tc := ⟨.hbm, 87, rfl⟩
abbrev main_v68 : Ref sig .tc := ⟨.hbm, 88, rfl⟩
abbrev main_cst_12 : Ref sig .tc := ⟨.hbm, 89, rfl⟩
abbrev main_v69 : Ref sig .tc := ⟨.hbm, 90, rfl⟩
abbrev main_v70 : Ref sig .tc := ⟨.hbm, 91, rfl⟩
abbrev main_cst_13 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩

abbrev nD : Nat := 1
abbrev τ : Topo := Topo.v7x

variable {F : FTy → Type} [FloatOps F]
-- ==== FfnS.lean ====
abbrev S1x512x2048 : Shape := ⟨3, ![1, 512, 2048]⟩
abbrev S1x2048 : Shape := ⟨2, ![1, 2048]⟩
abbrev S2048x8192 : Shape := ⟨2, ![2048, 8192]⟩
abbrev S8192x2048 : Shape := ⟨2, ![8192, 2048]⟩
abbrev S2048x2048 : Shape := ⟨2, ![2048, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S1x512x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S2048x8192, .bf16⟩
  | .hbm, ⟨5, _⟩ => ⟨S8192x2048, .bf16⟩
  | .hbm, ⟨6, _⟩ => ⟨S1x512x2048, .f32⟩
  | .local _ .vmem, ⟨0, _⟩ => ⟨S1x512x2048, .f32⟩
  | .local _ .vmem, ⟨1, _⟩ => ⟨S1x2048, .f32⟩
  | .local _ .vmem, ⟨2, _⟩ => ⟨S2048x2048, .bf16⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S1x512x2048, .f32⟩
  | .local _ .vmem, ⟨7, _⟩ => ⟨S512x2048, .bf16⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1x512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]
-- ==== FfnSRefIdeal.lean ====
abbrev S1x512x2048 : Shape := ⟨3, ![1, 512, 2048]⟩
abbrev S1x2048 : Shape := ⟨2, ![1, 2048]⟩
abbrev S2048x8192 : Shape := ⟨2, ![2048, 8192]⟩
abbrev S8192x2048 : Shape := ⟨2, ![8192, 2048]⟩
abbrev S2048 : Shape := ⟨1, ![2048]⟩
abbrev S_ : Shape := ⟨0, ![]⟩
abbrev S1x512 : Shape := ⟨2, ![1, 512]⟩
abbrev S1x512x1 : Shape := ⟨3, ![1, 512, 1]⟩
abbrev S1x1x2048 : Shape := ⟨3, ![1, 1, 2048]⟩
abbrev S1x512x8192 : Shape := ⟨3, ![1, 512, 8192]⟩

abbrev nBuf : Space → Nat
  | .hbm => 28
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S1x512x2048, .f32⟩
  | .hbm, ⟨6, _⟩ => ⟨S_, .f32⟩
  | .hbm, ⟨7, _⟩ => ⟨S1x512, .f32⟩
  | .hbm, ⟨8, _⟩ => ⟨S1x512x1, .f32⟩
  | .hbm, ⟨9, _⟩ => ⟨S_, .f32⟩
  | .hbm, ⟨10, _⟩ => ⟨S1x512x1, .f32⟩
  | .hbm, ⟨11, _⟩ => ⟨S1x512x1, .f32⟩
  | .hbm, ⟨12, _⟩ => ⟨S_, .f32⟩
  | .hbm, ⟨13, _⟩ => ⟨S1x512x1, .f32⟩
  | .hbm, ⟨14, _⟩ => ⟨S1x512x1, .f32⟩
  | .hbm, ⟨15, _⟩ => ⟨S1x512x1, .f32⟩
  | .hbm, ⟨16, _⟩ => ⟨S1x512x2048, .f32⟩
  | .hbm, ⟨17, _⟩ => ⟨S1x512x2048, .f32⟩
  | .hbm, ⟨18, _⟩ => ⟨S1x1x2048, .f32⟩
  | .hbm, ⟨19, _⟩ => ⟨S1x512x2048, .f32⟩
  | .hbm, ⟨20, _⟩ => ⟨S1x512x2048, .f32⟩
  | .hbm, ⟨21, _⟩ => ⟨S1x512x8192, .f32⟩
  | .hbm, ⟨22, _⟩ => ⟨S_, .f32⟩
  | .hbm, ⟨23, _⟩ => ⟨S1x512x8192, .f32⟩
  | .hbm, ⟨24, _⟩ => ⟨S1x512x8192, .f32⟩
  | .hbm, ⟨25, _⟩ => ⟨S1x512x8192, .f32⟩
  | .hbm, ⟨26, _⟩ => ⟨S1x512x2048, .f32⟩
  | .hbm, ⟨27, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== MergeS.lean ====
abbrev S1x512x2048 : Shape := ⟨3, ![1, 512, 2048]⟩
abbrev S1x512x1024 : Shape := ⟨3, ![1, 512, 1024]⟩
abbrev S2048x2048 : Shape := ⟨2, ![2048, 2048]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 8
  | .vmem => 5
  | .smem => 0
  | _ => 0

abbrev bufTy : (tb : Table) → Fin (tcTables nBuf tb) → BufTy
  | .hbm, ⟨0, _⟩ => ⟨S1x512x2048, .f32⟩
  | .hbm, ⟨1, _⟩ => ⟨S1x512x1024, .f32⟩
  | .hbm, ⟨2, _⟩ => ⟨S1x512x1024, .f32⟩
  | .hbm, ⟨3, _⟩ => ⟨S2048x2048, .f32⟩
  | .hbm, ⟨4, _⟩ => ⟨S1x512x1024, .bf16⟩
  | .hbm, ⟨5, _⟩ => ⟨S1x512x1024, .bf16⟩
  | .hbm, ⟨6, _⟩ => ⟨S2048x2048, .bf16⟩
  | .hbm, ⟨7, _⟩ => ⟨S1x512x2048, .f32⟩
  | .local _ .vmem, ⟨0, _⟩ => ⟨S1x512x2048, .f32⟩
  | .local _ .vmem, ⟨1, _⟩ => ⟨S1x512x1024, .bf16⟩
  | .local _ .vmem, ⟨2, _⟩ => ⟨S1x512x1024, .bf16⟩
  | .local _ .vmem, ⟨3, _⟩ => ⟨S2048x2048, .bf16⟩
  | .local _ .vmem, ⟨4, _⟩ => ⟨S1x512x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== MergeSRefIdeal.lean ====
abbrev S1x512x2048 : Shape := ⟨3, ![1, 512, 2048]⟩
abbrev S1x512x1024 : Shape := ⟨3, ![1, 512, 1024]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x1024, .f32⟩
  | .hbm, ⟨2, _⟩ => ⟨S1x512x1024, .f32⟩
  | .hbm, ⟨3, _⟩ => ⟨S2048x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.FfnValue.lean ====
module

public import proofs.«01_k».proof.Defs
public import proofs.«01_k».proof.Proof.Gen.FfnIdeal.Value
public import proofs.«01_k».proof.Proof.Gen.FfnRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Blk

open Cert.FfnIdeal Cert.FfnIdeal.Gen

variable (m : (ℓ : Loc nD τ sig) → Buf (Elt Ideal) ℓ)

/-- Where each window's block sits at a grid point: the points run over batch rows, row blocks and hidden column
    blocks, the last fastest. -/
theorem idx : ∀ t : Fin cfg0.N, win0_0.index t = ![t.val / 64, t.val / 4 % 16, 0]
    ∧ win0_1.index t = ![0, 0]
    ∧ win0_2.index t = ![0, t.val % 4]
    ∧ win0_3.index t = ![t.val % 4, 0]
    ∧ win0_4.index t = ![t.val / 64, t.val / 4 % 16, 0] :=
  (by decide +kernel : ∀ t : Fin grid0.N, _)

/-- The scratch holds, after every point, the normalised rows of that point's row block: the first point of a run
    writes them, the others carry them. -/
theorem norm_blk (c : Dev nD) : ∀ (n : ℕ) (h : n < cfg0.N),
    (outsAt0 m c n h).2 = k0_pay2 (F := Ideal) (iblk m c 0 ⟨n, h⟩) (iblk m c 1 ⟨n, h⟩) := by
  intro n
  induction n with
  | zero =>
    intro h
    have := outsAt0_A m c ⟨0, h⟩ rfl
    rw [this]; frame_out
  | succ n ih =>
    intro h
    by_cases h0 : (n + 1) % 4 = 0
    · have := outsAt0_A m c ⟨n + 1, h⟩ h0
      rw [this]; frame_out
    · have := outsAt0_B m c ⟨n + 1, h⟩ h0
      rw [this]
      have e0 : (iblk m c 0 ⟨n, Nat.lt_of_succ_lt h⟩ : FVec Ideal S1x512x2048 .f32) = iblk m c 0 ⟨n + 1, h⟩ := by
        funext y
        idx_vars y
        blk_ext [iblk, V, idx ⟨n, Nat.lt_of_succ_lt h⟩, idx ⟨n + 1, h⟩]
      have e1 : (iblk m c 1 ⟨n, Nat.lt_of_succ_lt h⟩ : FVec Ideal S1x2048 .f32) = iblk m c 1 ⟨n + 1, h⟩ := by
        funext y
        idx_vars y
        blk_ext [iblk, V, idx ⟨n, Nat.lt_of_succ_lt h⟩, idx ⟨n + 1, h⟩]
      show (outsAt0 m c n (Nat.lt_of_succ_lt h)).2 = _
      rw [ih (Nat.lt_of_succ_lt h)]
      exact congrArg₂ (k0_pay2 (F := Ideal)) e0 e1

/-- One column block's contribution at an element: the squared relu of the block's hidden columns, times the block's
    rows of the down projection. -/
abbrev part (x0 : FVec Ideal S1x512x2048 .f32) (x1 : FVec Ideal S1x2048 .f32) (x2 x3 : FVec Ideal S2048x2048 .bf16)
    (y : S1x512x2048.Idx) : EReal :=
  ∑ k : Fin 2048, (max (∑ d : Fin 2048, (k0_pay2 (F := Ideal) x0 x1 (ix2 (y 1) d) : EReal) * x2 (ix2 d k)) 0
      * max (∑ d : Fin 2048, (k0_pay2 (F := Ideal) x0 x1 (ix2 (y 1) d) : EReal) * x2 (ix2 d k)) 0) * x3 (ix2 k (y 2))

/-- The normalised rows at an index. -/
theorem pay2_at (x0 : FVec Ideal S1x512x2048 .f32) (x1 : FVec Ideal S1x2048 .f32) (r : Fin 512) (d : Fin 2048) :
    k0_pay2 (F := Ideal) x0 x1 (ix2 r d) = (x0 (ix3 0 r d) : EReal) *
      Ideal.rsqrt (Ideal.div (∑ x : Fin 2048, (x0 (ix3 0 r x) : EReal) * x0 (ix3 0 r x)) (Ideal.ofBits FTy.f32 1157627904#32)
        + Ideal.ofBits FTy.f32 897988541#32) * x1 (ix2 0 d) := by
  pointwise [k0_pay2, k0_pay1]

/-- One hidden column's contribution with the normalised rows spelled out. -/
theorem term_at (x0 : FVec Ideal S1x512x2048 .f32) (x1 : FVec Ideal S1x2048 .f32) (x2 x3 : FVec Ideal S2048x2048 .bf16)
    (r : Fin 512) (k j : Fin 2048) :
    (max (∑ d : Fin 2048, (k0_pay2 (F := Ideal) x0 x1 (ix2 r d) : EReal) * x2 (ix2 d k)) 0 * max (∑ d : Fin 2048, (k0_pay2 (F := Ideal) x0 x1 (ix2 r d) : EReal) * x2 (ix2 d k)) 0) * (x3 (ix2 k j) : EReal)
      = (max (∑ d : Fin 2048, ((x0 (ix3 0 r d) : EReal) * Ideal.rsqrt (Ideal.div (∑ x : Fin 2048, (x0 (ix3 0 r x) : EReal) * x0 (ix3 0 r x)) (Ideal.ofBits FTy.f32 1157627904#32) + Ideal.ofBits FTy.f32 897988541#32) * x1 (ix2 0 d)) * x2 (ix2 d k)) 0 * max (∑ d : Fin 2048, ((x0 (ix3 0 r d) : EReal) * Ideal.rsqrt (Ideal.div (∑ x : Fin 2048, (x0 (ix3 0 r x) : EReal) * x0 (ix3 0 r x)) (Ideal.ofBits FTy.f32 1157627904#32) + Ideal.ofBits FTy.f32 897988541#32) * x1 (ix2 0 d)) * x2 (ix2 d k)) 0) * (x3 (ix2 k j) : EReal) := by
  simp only [pay2_at]

/-- The body adds one column block's contribution onto what the output block held. -/
theorem hpay (hn : FVec Ideal S512x2048 .bf16) (x2 x3 : FVec Ideal S2048x2048 .bf16) (acc : FVec Ideal S1x512x2048 .f32) (y) :
    k0_pay4 (F := Ideal) hn x2 acc x3 y = (acc y : EReal) +
      ∑ k : Fin 2048, (max (∑ d : Fin 2048, (hn (ix2 (y 1) d) : EReal) * x2 (ix2 d k)) 0
      * max (∑ d : Fin 2048, (hn (ix2 (y 1) d) : EReal) * x2 (ix2 d k)) 0) * x3 (ix2 k (y 2)) := by
  idx_vars y
  obtain rfl : y0 = 0 := Subsingleton.elim _ _
  pointwise [k0_pay4]

/-- The output block starts from the residual rows. -/
theorem hinit (x0 : FVec Ideal S1x512x2048 .f32) (y) : k0_pay3 (F := Ideal) x0 y = x0 y := by
  idx_vars y
  pointwise [k0_pay3, k0_pay1]

/-- The plain row normalisation. -/
abbrev RNORM (h : FVec Ideal Cert.FfnRefIdeal.S2x8192x2048 .f32) (g : FVec Ideal Cert.FfnRefIdeal.S1x2048 .f32) : FVec Ideal Cert.FfnRefIdeal.S2x8192x2048 .f32 :=
  mulf (mulf h (broadcastInDim Cert.FfnRefIdeal.S2x8192x2048 ![0, 1, 2] Cert.FfnRefIdeal.Gen.bcast_S2x8192x1_S2x8192x2048_0_1_2 (Host.rsqrt (addf (Host.divf (broadcastInDim Cert.FfnRefIdeal.S2x8192x1 ![0, 1] Cert.FfnRefIdeal.Gen.bcast_S2x8192_S2x8192x1_0_1 (Host.reduceAdd (mulf h h) (constant Cert.FfnRefIdeal.S_ .f32 0x00000000#32) Cert.FfnRefIdeal.Gen.reducesTo_S2x8192x2048_S2x8192_d2 Cert.FfnRefIdeal.Gen.h_S_)) (broadcastInDim Cert.FfnRefIdeal.S2x8192x1 ![] Cert.FfnRefIdeal.Gen.bcast_S_S2x8192x1 (constant Cert.FfnRefIdeal.S_ .f32 0x45000000#32))) (broadcastInDim Cert.FfnRefIdeal.S2x8192x1 ![] Cert.FfnRefIdeal.Gen.bcast_S_S2x8192x1 (constant Cert.FfnRefIdeal.S_ .f32 0x358637BD#32)))))) (broadcastInDim Cert.FfnRefIdeal.S2x8192x2048 ![0, 1, 2] Cert.FfnRefIdeal.Gen.bcast_S1x1x2048_S2x8192x2048_0_1_2 (broadcastInDim Cert.FfnRefIdeal.S1x1x2048 ![2] Cert.FfnRefIdeal.Gen.bcast_S2048_S1x1x2048_2 (shapeCast _ g Cert.FfnRefIdeal.Gen.shapeCasts_S1x2048_S2048)))

/-- The plain hidden columns after the relu. -/
abbrev RUP (h : FVec Ideal Cert.FfnRefIdeal.S2x8192x2048 .f32) (g : FVec Ideal Cert.FfnRefIdeal.S1x2048 .f32)
    (wu : FVec Ideal Cert.FfnRefIdeal.S2048x8192 .f32) : FVec Ideal Cert.FfnRefIdeal.S2x8192x8192 .f32 :=
  maximumf (Host.dotGeneral Cert.FfnRefIdeal.dot_S2x8192x2048_S2048x8192_S2x8192x8192_2_0_01_1_n_n none (RNORM h g) wu) (broadcastInDim Cert.FfnRefIdeal.S2x8192x8192 ![] Cert.FfnRefIdeal.Gen.bcast_S_S2x8192x8192 (constant Cert.FfnRefIdeal.S_ .f32 0x00000000#32))

/-- The feed-forward block with its residual, as the plain program writes it. -/
abbrev REF (h : FVec Ideal Cert.FfnRefIdeal.S2x8192x2048 .f32) (g : FVec Ideal Cert.FfnRefIdeal.S1x2048 .f32)
    (wu : FVec Ideal Cert.FfnRefIdeal.S2048x8192 .f32) (wd : FVec Ideal Cert.FfnRefIdeal.S8192x2048 .f32) :
    FVec Ideal Cert.FfnRefIdeal.S2x8192x2048 .f32 :=
  addf h (Host.dotGeneral Cert.FfnRefIdeal.dot_S2x8192x8192_S8192x2048_S2x8192x2048_2_0_01_1_n_n none (mulf (RUP h g wu) (RUP h g wu)) wd)

/-- What a run of points leaves in its output block is the plain block there. -/
theorem outs_sum (c : Dev nD) (t : Fin cfg0.N) (ht : t.val % 4 = 3) (y) :
    (outsAt0 m c t.val t.isLt).1 y = REF (m ((c : Thread nD τ).loc main_arg0)) (m ((c : Thread nD τ).loc main_arg1))
      (m ((c : Thread nD τ).loc main_arg2)) (m ((c : Thread nD τ).loc main_arg3)) (((cfg0.win 4).blk t).view.emb y) := by
  rw [Pipeline.eq_sum_fin_of_reset_step_apply_of_flush (fun n h => (outsAt0 m c n h).1) 4 (fun _ => (0 : EReal))
    (fun p j => ((if p.val % 4 = 0 then (iblk m c 0 p : FVec Ideal S1x512x2048 .f32) j else 0 : EReal))
      + part (iblk m c 0 p) (iblk m c 1 p) (iblk m c 2 p) (iblk m c 3 p) j)
    (fun t h j => by
      rw [outsAt0_A m c t h]; frame_out; rw [hpay, hinit, if_pos h, zero_add])
    (fun t h j => by
      have hn := norm_blk m c (t.val - 1) (Nat.lt_of_le_of_lt (Nat.sub_le _ _) t.isLt)
      have e0 : (iblk m c 0 ⟨t.val - 1, Nat.lt_of_le_of_lt (Nat.sub_le _ _) t.isLt⟩ : FVec Ideal S1x512x2048 .f32) = iblk m c 0 t := by
        funext y
        idx_vars y
        blk_ext [iblk, V, idx ⟨t.val - 1, Nat.lt_of_le_of_lt (Nat.sub_le _ _) t.isLt⟩, idx t]
      have e1 : (iblk m c 1 ⟨t.val - 1, Nat.lt_of_le_of_lt (Nat.sub_le _ _) t.isLt⟩ : FVec Ideal S1x2048 .f32) = iblk m c 1 t := by
        funext y
        idx_vars y
        blk_ext [iblk, V, idx ⟨t.val - 1, Nat.lt_of_le_of_lt (Nat.sub_le _ _) t.isLt⟩, idx t]
      rw [e0, e1] at hn
      rw [outsAt0_B m c t h]; frame_out
      simp only [read_unread_whole]
      rw [hpay, if_neg h, zero_add, hn])
    t ht _, zero_add]
  have hb := fun s : Fin 4 => idx ⟨_, Pipeline.run_point_lt_of_flush t ht s⟩
  have hA : (∑ s : Fin 4, (if (4 * (t.val / 4) + s.val) % 4 = 0 then
      (iblk m c 0 ⟨4 * (t.val / 4) + s.val, Pipeline.run_point_lt_of_flush t ht s⟩ : FVec Ideal S1x512x2048 .f32) y else 0 : EReal))
      = (iblk m c 0 t : FVec Ideal S1x512x2048 .f32) y := by
    rw [Fin.sum_univ_four, if_pos (by simp), if_neg (by simp [Nat.add_mod]), if_neg (by simp [Nat.add_mod]), if_neg (by simp [Nat.add_mod]), add_zero, add_zero, add_zero]
    idx_vars y
    blk_ext [iblk, V, hb 0, idx t]
  refine Eq.trans Finset.sum_add_distrib ?_
  refine Eq.trans (congrArg₂ (· + ·) hA rfl) ?_
  idx_vars y
  obtain rfl : y0 = 0 := Subsingleton.elim _ _
  simp only [part]
  pointwise [REF, RUP, RNORM]
  refine congrArg₂ (fun a b : EReal => a + b) ?_ ?_
  · blk_ext [iblk, V, idx t]
  · refine Fin.sum_mul_add_congr fun s k hl => ?_
    refine Eq.trans (term_at (iblk m c 0 ⟨4 * (t.val / 4) + s.val, Pipeline.run_point_lt_of_flush t ht s⟩)
      (iblk m c 1 ⟨4 * (t.val / 4) + s.val, Pipeline.run_point_lt_of_flush t ht s⟩)
      (iblk m c 2 ⟨4 * (t.val / 4) + s.val, Pipeline.run_point_lt_of_flush t ht s⟩)
      (iblk m c 3 ⟨4 * (t.val / 4) + s.val, Pipeline.run_point_lt_of_flush t ht s⟩) y1 k y2) ?_
    blk_point [iblk, V, idx t, hb s]

/-- The result array after the run is the plain block of the argument arrays. -/
theorem final (c : Dev nD) : (dats m 0 c).arrAt 4 cfg0.N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  exact outs_sum m c t ((flush0_4 t).mp hf) y

end Cert.FfnIdeal.Blk

/-- At exact arithmetic the feed-forward kernel and the plain block leave the same array. -/
theorem Cert.FfnIdeal.Blk.algebraic : Cert.algebraic_FfnIdeal_FfnRefIdeal := fun m ρ m' ρ' _ hag =>
  ⟨fun c => Cert.FfnIdeal.Blk.REF (m ((c.tc : Thread Cert.FfnIdeal.nD Cert.FfnIdeal.τ).loc Cert.FfnIdeal.main_arg0))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2))
      (m ((c.tc : Thread Cert.FfnIdeal.nD Cert.FfnIdeal.τ).loc Cert.FfnIdeal.main_arg3)),
    (θ_run Cert.FfnIdeal.defs _ _).mono (fun _ h c => ⟨(h c).1.trans (Cert.FfnIdeal.Blk.final m c), (h c).2⟩)
      (Cert.FfnIdeal.Value.run_blocks (F := Ideal) m ρ),
    (θ_run Cert.FfnRefIdeal.defs _ _).mono (fun _ h c => ⟨(h c).1.trans (by
        rw [(hag c).1, (hag c).2.1, (hag c).2.2.1, (hag c).2.2.2]), (h c).2⟩)
      (Cert.FfnRefIdeal.Value.run (F := Ideal) m' ρ')⟩
-- ==== Proof.MergeValue.lean ====
module

public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Proj

open Cert.MergeIdeal Cert.MergeIdeal.Gen

variable (m : (ℓ : Loc nD τ sig) → Buf (Elt Ideal) ℓ)

/-- The output projection with its residual: the two mixers' outputs side by side, times the weight, added onto the
    residual stream. -/
abbrev REF (x : FVec Ideal S2x8192x2048 .f32) (oa ob : FVec Ideal S2x8192x1024 .f32) (w : FVec Ideal S2048x2048 .f32) :
    FVec Ideal S2x8192x2048 .f32 :=
  addf x (Host.dotGeneral Cert.MergeRefIdeal.dot_S2x8192x2048_S2048x2048_S2x8192x2048_2_0_01_1_n_n none
    (concatenate S2x8192x2048 2 [⟨S2x8192x1024, oa⟩, ⟨S2x8192x1024, ob⟩]
      Cert.MergeRefIdeal.Gen.concatenates_S2x8192x1024_S2x8192x1024_S2x8192x2048_d2) w)

/-- Where each window's block sits at a grid point. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![0, 0]
    ∧ win0_4.index t = ![(grid0.coords t 0).val, (grid0.coords t 1).val, 0] :=
  (by decide +kernel : ∀ t : Fin grid0.N, _)

/-- What a grid point stores is its block of the projection: the sum over the joined columns is the sum over the
    first half plus the sum over the second. -/
theorem point (c : Dev nD) (t : Fin cfg0.N) (y) :
    out0_4 (iblk m c 0 t) (iblk m c 1 t) (iblk m c 2 t) (iblk m c 3 t) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  frame_out
  idx_vars y
  pointwise [k0_pay1, REF]
  rw [add_assoc]
  blk_point [iblk, V, idx t]

/-- The result array after the run is the projection of the argument arrays. -/
theorem final (c : Dev nD) : (dats m 0 c).arrAt 4 cfg0.N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  exact point m c t y

end Cert.MergeIdeal.Proj

/-- At exact arithmetic the projection kernel and the plain projection leave the same array. -/
theorem Cert.MergeIdeal.Proj.algebraic : Cert.algebraic_MergeIdeal_MergeRefIdeal := fun m ρ m' ρ' _ hag =>
  ⟨fun c => Cert.MergeIdeal.Proj.REF (m ((c.tc : Thread Cert.MergeIdeal.nD Cert.MergeIdeal.τ).loc Cert.MergeIdeal.main_arg0))
      (m ((c.tc : Thread Cert.MergeIdeal.nD Cert.MergeIdeal.τ).loc Cert.MergeIdeal.main_arg1))
      (m ((c.tc : Thread Cert.MergeIdeal.nD Cert.MergeIdeal.τ).loc Cert.MergeIdeal.main_arg2))
      (m ((c.tc : Thread Cert.MergeIdeal.nD Cert.MergeIdeal.τ).loc Cert.MergeIdeal.main_arg3)),
    (θ_run Cert.MergeIdeal.defs _ _).mono (fun _ h c => ⟨(h c).1.trans (Cert.MergeIdeal.Proj.final m c), (h c).2⟩)
      (Cert.MergeIdeal.Value.run_blocks (F := Ideal) m ρ),
    (θ_run Cert.MergeRefIdeal.defs _ _).mono (fun _ h c => ⟨(h c).1.trans (by
        rw [(hag c).1, (hag c).2.1, (hag c).2.2.1, (hag c).2.2.2]), (h c).2⟩)
      (Cert.MergeRefIdeal.Value.run (F := Ideal) m' ρ')⟩
-- ==== Proof.ProjSPlain.lean ====
module

public import proofs.«01_k».proof.Defs
public import proofs.«01_k».proof.Proof.Gen.ProjSRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ProjSRefIdeal.Blk

open Cert.ProjSRefIdeal Cert.ProjSRefIdeal.Gen

/-- An entry of a row over the root of the row's mean square. -/
abbrev nrm {n : ℕ} (v : Fin n → EReal) (c : BitVec 32) (j : Fin n) : EReal :=
  v j * Ideal.rsqrt (Ideal.div (∑ k, v k * v k) (Ideal.ofBits .f32 c) + Ideal.ofBits .f32 897988541#32)

/-- The frames, normalised row by row. -/
def RN (x : FVec Ideal S1x512x2048 .f32) (g : FVec Ideal S1x2048 .f32) : FVec Ideal S1x512x2048 .f32 :=
  mulf (mulf x (broadcastInDim S1x512x2048 ![0, 1, 2] bcast_S1x512x1_S1x512x2048_0_1_2 (Host.rsqrt (addf (Host.divf (broadcastInDim S1x512x1 ![0, 1] bcast_S1x512_S1x512x1_0_1 (Host.reduceAdd (mulf x x) (constant S_ .f32 0x00000000#32) reducesTo_S1x512x2048_S1x512_d2 h_S_)) (broadcastInDim S1x512x1 ![] bcast_S_S1x512x1 (constant S_ .f32 0x45000000#32))) (broadcastInDim S1x512x1 ![] bcast_S_S1x512x1 (constant S_ .f32 0x358637BD#32)))))) (broadcastInDim S1x512x2048 ![0, 1, 2] bcast_S1x1x2048_S1x512x2048_0_1_2 (broadcastInDim S1x1x2048 ![2] bcast_S2048_S1x1x2048_2 (shapeCast _ g shapeCasts_S1x2048_S2048)))

/-- The combined input projection. -/
def RY (x : FVec Ideal S1x512x2048 .f32) (g : FVec Ideal S1x2048 .f32) (w : FVec Ideal S2048x3904 .f32) : FVec Ideal S1x512x3904 .f32 :=
  Host.dotGeneral dot_S1x512x2048_S2048x3904_S1x512x3904_2_0_01_1_n_n none (RN x g) w

/-- The query latent, normalised. -/
def RCQ (y : FVec Ideal S1x512x3904 .f32) (g : FVec Ideal S1x512 .f32) : FVec Ideal S1x512x512 .bf16 :=
  truncf .bf16 (mulf (mulf (extractStridedSlice S1x512x512 ![0, 0, 0] y slices_S1x512x3904_S1x512x512_0_0_0) (broadcastInDim S1x512x512 ![0, 1, 2] bcast_S1x512x1_S1x512x512_0_1_2 (Host.rsqrt (addf (Host.divf (broadcastInDim S1x512x1 ![0, 1] bcast_S1x512_S1x512x1_0_1 (Host.reduceAdd (mulf (extractStridedSlice S1x512x512 ![0, 0, 0] y slices_S1x512x3904_S1x512x512_0_0_0) (extractStridedSlice S1x512x512 ![0, 0, 0] y slices_S1x512x3904_S1x512x512_0_0_0)) (constant S_ .f32 0x00000000#32) reducesTo_S1x512x512_S1x512_d2 h_S_)) (broadcastInDim S1x512x1 ![] bcast_S_S1x512x1 (constant S_ .f32 0x44000000#32))) (broadcastInDim S1x512x1 ![] bcast_S_S1x512x1 (constant S_ .f32 0x358637BD#32)))))) (broadcastInDim S1x512x512 ![0, 1, 2] bcast_S1x1x512_S1x512x512_0_1_2 (broadcastInDim S1x1x512 ![2] bcast_S512_S1x1x512_2 (shapeCast _ g shapeCasts_S1x512_S512)))) bitsLt_bf16_f32

/-- The key-value latent, normalised. -/
def RCKV (y : FVec Ideal S1x512x3904 .f32) (g : FVec Ideal S1x256 .f32) : FVec Ideal S1x512x256 .f32 :=
  mulf (mulf (extractStridedSlice S1x512x256 ![0, 0, 512] y slices_S1x512x3904_S1x512x256_0_0_512) (broadcastInDim S1x512x256 ![0, 1, 2] bcast_S1x512x1_S1x512x256_0_1_2 (Host.rsqrt (addf (Host.divf (broadcastInDim S1x512x1 ![0, 1] bcast_S1x512_S1x512x1_0_1 (Host.reduceAdd (mulf (extractStridedSlice S1x512x256 ![0, 0, 512] y slices_S1x512x3904_S1x512x256_0_0_512) (extractStridedSlice S1x512x256 ![0, 0, 512] y slices_S1x512x3904_S1x512x256_0_0_512)) (constant S_ .f32 0x00000000#32) reducesTo_S1x512x256_S1x512_d2 h_S_)) (broadcastInDim S1x512x1 ![] bcast_S_S1x512x1 (constant S_ .f32 0x43800000#32))) (broadcastInDim S1x512x1 ![] bcast_S_S1x512x1 (constant S_ .f32 0x358637BD#32)))))) (broadcastInDim S1x512x256 ![0, 1, 2] bcast_S1x1x256_S1x512x256_0_1_2 (broadcastInDim S1x1x256 ![2] bcast_S256_S1x1x256_2 (shapeCast _ g shapeCasts_S1x256_S256)))

/-- A head-split array, normalised head by head. -/
def HD (s : FVec Ideal S1x512x8x128 .f32) (g : FVec Ideal S1x128 .f32) : FVec Ideal S1x512x8x128 .f32 :=
  mulf (mulf s (broadcastInDim S1x512x8x128 ![0, 1, 2, 3] bcast_S1x512x8x1_S1x512x8x128_0_1_2_3 (Host.rsqrt (addf (Host.divf (broadcastInDim S1x512x8x1 ![0, 1, 2] bcast_S1x512x8_S1x512x8x1_0_1_2 (Host.reduceAdd (mulf s s) (constant S_ .f32 0x00000000#32) reducesTo_S1x512x8x128_S1x512x8_d3 h_S_)) (broadcastInDim S1x512x8x1 ![] bcast_S_S1x512x8x1 (constant S_ .f32 0x43000000#32))) (broadcastInDim S1x512x8x1 ![] bcast_S_S1x512x8x1 (constant S_ .f32 0x358637BD#32)))))) (broadcastInDim S1x512x8x128 ![0, 1, 2, 3] bcast_S1x1x1x128_S1x512x8x128_0_1_2_3 (broadcastInDim S1x1x1x128 ![3] bcast_S128_S1x1x1x128_3 (shapeCast _ g shapeCasts_S1x128_S128)))

/-- The band mixer's queries, keys and values, split into heads. -/
def RQ (y : FVec Ideal S1x512x3904 .f32) : FVec Ideal S1x512x8x128 .f32 := shapeCast _ (extractStridedSlice S1x512x1024 ![0, 0, 832] y slices_S1x512x3904_S1x512x1024_0_0_832) shapeCasts_S1x512x1024_S1x512x8x128
def RK (y : FVec Ideal S1x512x3904 .f32) : FVec Ideal S1x512x8x128 .f32 := shapeCast _ (extractStridedSlice S1x512x1024 ![0, 0, 1856] y slices_S1x512x3904_S1x512x1024_0_0_1856) shapeCasts_S1x512x1024_S1x512x8x128
def RV (y : FVec Ideal S1x512x3904 .f32) : FVec Ideal S1x512x8x128 .f32 := shapeCast _ (extractStridedSlice S1x512x1024 ![0, 0, 2880] y slices_S1x512x3904_S1x512x1024_0_0_2880) shapeCasts_S1x512x1024_S1x512x8x128

theorem RN_at (x : FVec Ideal S1x512x2048 .f32) (g : FVec Ideal S1x2048 .f32) (b : Fin 1) (s : Fin 512) (d : Fin 2048) :
    (RN x g (ix3 b s d) : EReal) = nrm (fun k : Fin 2048 => (x (ix3 b s k) : EReal)) 1157627904#32 d * g (ix2 0 d) := by
  obtain rfl : b = 0 := Subsingleton.elim _ _
  pointwise [RN]

theorem RY_at (x : FVec Ideal S1x512x2048 .f32) (g : FVec Ideal S1x2048 .f32) (w : FVec Ideal S2048x3904 .f32) (b : Fin 1) (s : Fin 512) (j : Fin 3904) :
    (RY x g w (ix3 b s j) : EReal) = ∑ d : Fin 2048, (RN x g (ix3 b s d) : EReal) * w (ix2 d j) := by
  obtain rfl : b = 0 := Subsingleton.elim _ _
  pointwise [RY]

theorem RCQ_at (y : FVec Ideal S1x512x3904 .f32) (g : FVec Ideal S1x512 .f32) (b : Fin 1) (s : Fin 512) (j : Fin 512) :
    (RCQ y g (ix3 b s j) : EReal) = nrm (fun k : Fin 512 => (y (ix3 b s (⟨k.val, by omega⟩ : Fin 3904)) : EReal)) 1140850688#32 j * g (ix2 0 j) := by
  obtain rfl : b = 0 := Subsingleton.elim _ _
  pointwise [RCQ]

theorem RCKV_at (y : FVec Ideal S1x512x3904 .f32) (g : FVec Ideal S1x256 .f32) (b : Fin 1) (s : Fin 512) (j : Fin 256) :
    (RCKV y g (ix3 b s j) : EReal) = nrm (fun k : Fin 256 => (y (ix3 b s (⟨512 + k.val, by omega⟩ : Fin 3904)) : EReal)) 1132462080#32 j * g (ix2 0 j) := by
  obtain rfl : b = 0 := Subsingleton.elim _ _
  pointwise [RCKV]

theorem HD_at (z : FVec Ideal S1x512x8x128 .f32) (g : FVec Ideal S1x128 .f32) (b : Fin 1) (s : Fin 512) (h : Fin 8) (j : Fin 128) :
    (HD z g (ix4 b s h j) : EReal) = nrm (fun k : Fin 128 => (z (ix4 b s h k) : EReal)) 1124073472#32 j * g (ix2 0 j) := by
  obtain rfl : b = 0 := Subsingleton.elim _ _
  pointwise [HD]

theorem RQ_at (y : FVec Ideal S1x512x3904 .f32) (b : Fin 1) (s : Fin 512) (h : Fin 8) (j : Fin 128) :
    (RQ y (ix4 b s h j) : EReal) = y (ix3 b s (⟨832 + (h.val * 128 + j.val), by omega⟩ : Fin 3904)) := by
  obtain rfl : b = 0 := Subsingleton.elim _ _
  pointwise [RQ]

theorem RK_at (y : FVec Ideal S1x512x3904 .f32) (b : Fin 1) (s : Fin 512) (h : Fin 8) (j : Fin 128) :
    (RK y (ix4 b s h j) : EReal) = y (ix3 b s (⟨1856 + (h.val * 128 + j.val), by omega⟩ : Fin 3904)) := by
  obtain rfl : b = 0 := Subsingleton.elim _ _
  pointwise [RK]

theorem RV_at (y : FVec Ideal S1x512x3904 .f32) (b : Fin 1) (s : Fin 512) (h : Fin 8) (j : Fin 128) :
    (RV y (ix4 b s h j) : EReal) = y (ix3 b s (⟨2880 + (h.val * 128 + j.val), by omega⟩ : Fin 3904)) := by
  obtain rfl : b = 0 := Subsingleton.elim _ _
  pointwise [RV]

end Cert.ProjSRefIdeal.Blk

end
-- ==== Proof.ProjSKern.lean ====
module

public import proofs.«01_k».proof.Proof.Gen.ProjSIdeal.Skeleton
public import proofs.«01_k».proof.Proof.ProjSPlain
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ProjSIdeal.Blk

open Cert.ProjSIdeal Cert.ProjSIdeal.Gen
open Cert.ProjSRefIdeal.Blk (nrm)

/-- A row of 1024 columns, normalised in eight groups of 128, at column `c`. -/
def HR (f : Fin 1024 → EReal) (g : FVec Ideal S1x128 .f32) (c : Fin 1024) : EReal :=
  nrm (fun k : Fin 128 => f ⟨c.val / 128 * 128 + k.val, by omega⟩) 1124073472#32 ⟨c.val % 128, by omega⟩
    * g (ix2 0 (⟨c.val % 128, by omega⟩ : Fin 128))

/-- The grouped normalisation at lane `j` of group `h`. -/
theorem HR_mk (f : Fin 1024 → EReal) (g : FVec Ideal S1x128 .f32) (h : Fin 8) (j : Fin 128)
    (hc : h.val * 128 + j.val < 1024) :
    HR f g ⟨h.val * 128 + j.val, hc⟩ = nrm (fun k : Fin 128 => f ⟨h.val * 128 + k.val, by omega⟩) 1124073472#32 j * g (ix2 0 j) := by
  have e1 : (h.val * 128 + j.val) / 128 = h.val := by omega
  have e2 : (⟨(h.val * 128 + j.val) % 128, by omega⟩ : Fin 128) = j := Fin.ext (by dsimp only; omega)
  unfold HR
  simp only [e1, e2]

/-- One group of 128 columns, normalised. -/
def HN (s : FVec Ideal S256x128 .f32) (g : FVec Ideal S1x128 .f32) : FVec Ideal S256x128 .f32 :=
  mulf (mulf s (broadcastTo S256x128 (rsqrt (addf (divf (shapeCast S256x1 (multiReduction .add [1] S256 (mulf s s) 0x00000000#32 reduces_S256x128_S256 (.inl rfl) rfl) shapeCasts_S256_S256x1) (broadcast S256x1 (Scalar.ofBits .f32 0x43000000#32))) (broadcast S256x1 (Scalar.ofBits .f32 0x358637BD#32)))) broadcasts_S256x1_S256x128)) (broadcastTo S256x128 g broadcasts_S1x128_S256x128)

theorem HN_at (s : FVec Ideal S256x128 .f32) (g : FVec Ideal S1x128 .f32) (r : Fin 256) (j : Fin 128) :
    (HN s g (ix2 r j) : EReal) = nrm (fun k : Fin 128 => (s (ix2 r k) : EReal)) 1124073472#32 j * g (ix2 0 j) := by
  pointwise [HN]

theorem slice_at (o : ℕ) (v : FVec Ideal S256x1024 .f32) (hs : Shape.Slices S256x1024 ![0, o] S256x128) (r : Fin 256) (j : Fin 128)
    (c : Fin 1024) (hc : c.val = o + j.val) :
    (extractStridedSlice S256x128 ![0, o] v hs (ix2 r j) : EReal) = v (ix2 r c) := by
  refine congrArg v (funext fun a => Fin.ext ?_)
  fin_cases a
  · show 0 + r.val = r.val
    omega
  · show o + j.val = c.val
    omega

/-- A normalised group at lane `x` is the grouped normalisation at its column. -/
theorem group_at (o : ℕ) (v : FVec Ideal S256x1024 .f32) (g : FVec Ideal S1x128 .f32) (hs : Shape.Slices S256x1024 ![0, o] S256x128)
    (r : Fin 256) (x : Fin 128) (c : Fin 1024) (hc : c.val = o + x.val) (ho : o % 128 = 0) :
    (HN (extractStridedSlice S256x128 ![0, o] v hs) g (ix2 r x) : EReal) = HR (fun k => v (ix2 r k)) g c := by
  have e1 : c.val / 128 * 128 = o := by omega
  have e2 : (⟨c.val % 128, by omega⟩ : Fin 128) = x := Fin.ext (by dsimp only; omega)
  rw [HN_at]
  unfold HR
  rw [e2]
  refine congrArg (fun f : Fin 128 → EReal => nrm f 1124073472#32 x * (g (ix2 0 x) : EReal)) (funext fun k => ?_)
  exact slice_at o v hs r k _ (by dsimp only; omega)

/-- The eight normalised groups side by side. -/
def KC (v : FVec Ideal S256x1024 .f32) (g : FVec Ideal S1x128 .f32) : FVec Ideal S256x1024 .f32 :=
  concatenate S256x1024 1 [⟨S256x128, HN (extractStridedSlice S256x128 ![0, 0] v slices_S256x1024_o0_0_S256x128) g⟩,
    ⟨S256x128, HN (extractStridedSlice S256x128 ![0, 128] v slices_S256x1024_o0_128_S256x128) g⟩,
    ⟨S256x128, HN (extractStridedSlice S256x128 ![0, 256] v slices_S256x1024_o0_256_S256x128) g⟩,
    ⟨S256x128, HN (extractStridedSlice S256x128 ![0, 384] v slices_S256x1024_o0_384_S256x128) g⟩,
    ⟨S256x128, HN (extractStridedSlice S256x128 ![0, 512] v slices_S256x1024_o0_512_S256x128) g⟩,
    ⟨S256x128, HN (extractStridedSlice S256x128 ![0, 640] v slices_S256x1024_o0_640_S256x128) g⟩,
    ⟨S256x128, HN (extractStridedSlice S256x128 ![0, 768] v slices_S256x1024_o0_768_S256x128) g⟩,
    ⟨S256x128, HN (extractStridedSlice S256x128 ![0, 896] v slices_S256x1024_o0_896_S256x128) g⟩]
    concatenates_S256x128_S256x128_S256x128_S256x128_S256x128_S256x128_S256x128_S256x128_S256x1024_d1

theorem KC_at (v : FVec Ideal S256x1024 .f32) (g : FVec Ideal S1x128 .f32) (r : Fin 256) (c : Fin 1024) :
    (KC v g (ix2 r c) : EReal) = HR (fun k => v (ix2 r k)) g c := by
  have key : ∀ (h : ℕ) (x : Fin 128), h < 8 → c.val = 128 * h + x.val → (KC v g (ix2 r c) : EReal) = HR (fun k => v (ix2 r k)) g c := by
    intro h x hh hc
    unfold KC
    interval_cases h
    · refine (concatenate_apply_piece (t := S256x1024) 1 _ _ (ix2 r c) 0 ?_ S256x128
        (HN (extractStridedSlice S256x128 ![0, 0] v slices_S256x1024_o0_0_S256x128) g) ?_ rfl 0 ?_ (ix2 r x) ?_ ?_).trans
        (group_at 0 v g slices_S256x1024_o0_0_S256x128 r x c (by omega) (by decide))
      · exact (by decide : 0 < 8)
      · rfl
      · rfl
      · intro b hb
        fin_cases b
        · rfl
        · exact absurd rfl hb
      · show 0 + x.val = c.val
        omega
    · refine (concatenate_apply_piece (t := S256x1024) 1 _ _ (ix2 r c) 1 ?_ S256x128
        (HN (extractStridedSlice S256x128 ![0, 128] v slices_S256x1024_o0_128_S256x128) g) ?_ rfl 128 ?_ (ix2 r x) ?_ ?_).trans
        (group_at 128 v g slices_S256x1024_o0_128_S256x128 r x c (by omega) (by decide))
      · exact (by decide : 1 < 8)
      · rfl
      · rfl
      · intro b hb
        fin_cases b
        · rfl
        · exact absurd rfl hb
      · show 128 + x.val = c.val
        omega
    · refine (concatenate_apply_piece (t := S256x1024) 1 _ _ (ix2 r c) 2 ?_ S256x128
        (HN (extractStridedSlice S256x128 ![0, 256] v slices_S256x1024_o0_256_S256x128) g) ?_ rfl 256 ?_ (ix2 r x) ?_ ?_).trans
        (group_at 256 v g slices_S256x1024_o0_256_S256x128 r x c (by omega) (by decide))
      · exact (by decide : 2 < 8)
      · rfl
      · rfl
      · intro b hb
        fin_cases b
        · rfl
        · exact absurd rfl hb
      · show 256 + x.val = c.val
        omega
    · refine (concatenate_apply_piece (t := S256x1024) 1 _ _ (ix2 r c) 3 ?_ S256x128
        (HN (extractStridedSlice S256x128 ![0, 384] v slices_S256x1024_o0_384_S256x128) g) ?_ rfl 384 ?_ (ix2 r x) ?_ ?_).trans
        (group_at 384 v g slices_S256x1024_o0_384_S256x128 r x c (by omega) (by decide))
      · exact (by decide : 3 < 8)
      · rfl
      · rfl
      · intro b hb
        fin_cases b
        · rfl
        · exact absurd rfl hb
      · show 384 + x.val = c.val
        omega
    · refine (concatenate_apply_piece (t := S256x1024) 1 _ _ (ix2 r c) 4 ?_ S256x128
        (HN (extractStridedSlice S256x128 ![0, 512] v slices_S256x1024_o0_512_S256x128) g) ?_ rfl 512 ?_ (ix2 r x) ?_ ?_).trans
        (group_at 512 v g slices_S256x1024_o0_512_S256x128 r x c (by omega) (by decide))
      · exact (by decide : 4 < 8)
      · rfl
      · rfl
      · intro b hb
        fin_cases b
        · rfl
        · exact absurd rfl hb
      · show 512 + x.val = c.val
        omega
    · refine (concatenate_apply_piece (t := S256x1024) 1 _ _ (ix2 r c) 5 ?_ S256x128
        (HN (extractStridedSlice S256x128 ![0, 640] v slices_S256x1024_o0_640_S256x128) g) ?_ rfl 640 ?_ (ix2 r x) ?_ ?_).trans
        (group_at 640 v g slices_S256x1024_o0_640_S256x128 r x c (by omega) (by decide))
      · exact (by decide : 5 < 8)
      · rfl
      · rfl
      · intro b hb
        fin_cases b
        · rfl
        · exact absurd rfl hb
      · show 640 + x.val = c.val
        omega
    · refine (concatenate_apply_piece (t := S256x1024) 1 _ _ (ix2 r c) 6 ?_ S256x128
        (HN (extractStridedSlice S256x128 ![0, 768] v slices_S256x1024_o0_768_S256x128) g) ?_ rfl 768 ?_ (ix2 r x) ?_ ?_).trans
        (group_at 768 v g slices_S256x1024_o0_768_S256x128 r x c (by omega) (by decide))
      · exact (by decide : 6 < 8)
      · rfl
      · rfl
      · intro b hb
        fin_cases b
        · rfl
        · exact absurd rfl hb
      · show 768 + x.val = c.val
        omega
    · refine (concatenate_apply_piece (t := S256x1024) 1 _ _ (ix2 r c) 7 ?_ S256x128
        (HN (extractStridedSlice S256x128 ![0, 896] v slices_S256x1024_o0_896_S256x128) g) ?_ rfl 896 ?_ (ix2 r x) ?_ ?_).trans
        (group_at 896 v g slices_S256x1024_o0_896_S256x128 r x c (by omega) (by decide))
      · exact (by decide : 7 < 8)
      · rfl
      · rfl
      · intro b hb
        fin_cases b
        · rfl
        · exact absurd rfl hb
      · show 896 + x.val = c.val
        omega
  exact key (c.val / 128) ⟨c.val % 128, by omega⟩ (by omega) (by dsimp only; omega)

/-- The normalised rows. -/
theorem pay6_at (x : Vec Ideal S1x256x2048 .f32) (g : Vec Ideal S1x2048 .f32) (r : Fin 256) (d : Fin 2048) :
    (k0_pay6 x g (ix2 r d) : EReal) = nrm (fun k : Fin 2048 => (x (ix3 0 r k) : EReal)) 1157627904#32 d * g (ix2 0 d) := by
  pointwise [k0_pay6]

/-- The query latent of a block, from the columns of the projection. -/
theorem pay7_at (x : Vec Ideal S1x256x2048 .f32) (g : Vec Ideal S1x2048 .f32) (w : Vec Ideal S2048x512 .bf16) (h : Vec Ideal S1x512 .f32)
    (u : Fin 1) (r : Fin 256) (j : Fin 512) :
    (k0_pay7 x g w h (ix3 u r j) : EReal)
      = nrm (fun k : Fin 512 => ∑ d : Fin 2048, (k0_pay6 x g (ix2 r d) : EReal) * w (ix2 d k)) 1140850688#32 j * h (ix2 0 j) := by
  pointwise [k0_pay7]

/-- The key-value latent of a block. -/
theorem pay8_at (n : FVec Ideal S256x2048 .bf16) (w : Vec Ideal S2048x256 .bf16) (h : Vec Ideal S1x256 .f32)
    (u : Fin 1) (r : Fin 256) (j : Fin 256) :
    (k0_pay8 n w h (ix3 u r j) : EReal)
      = nrm (fun k : Fin 256 => ∑ d : Fin 2048, (n (ix2 r d) : EReal) * w (ix2 d k)) 1132462080#32 j * h (ix2 0 j) := by
  pointwise [k0_pay8]

/-- The positional key of a block: the first 64 columns of the padded product. -/
theorem pay11_at (n : FVec Ideal S256x2048 .bf16) (w : Vec Ideal S2048x128 .bf16) (u : Fin 1) (r : Fin 256) (j : Fin 64) :
    (k0_pay11 n w (ix3 u r j) : EReal) = ∑ d : Fin 2048, (n (ix2 r d) : EReal) * w (ix2 d (⟨j.val, by omega⟩ : Fin 128)) := by
  pointwise [k0_pay11, k0_pay9]

theorem pay12_at (n : FVec Ideal S256x2048 .bf16) (w : Vec Ideal S2048x1024 .bf16) (r : Fin 256) (j : Fin 1024) :
    (k0_pay12 n w (ix2 r j) : EReal) = ∑ d : Fin 2048, (n (ix2 r d) : EReal) * w (ix2 d j) := by
  pointwise [k0_pay12]

theorem pay14_at (n : FVec Ideal S256x2048 .bf16) (w : Vec Ideal S2048x1024 .bf16) (r : Fin 256) (j : Fin 1024) :
    (k0_pay14 n (k0_pay13 w) (ix2 r j) : EReal) = ∑ d : Fin 2048, (n (ix2 r d) : EReal) * w (ix2 d j) := by
  pointwise [k0_pay14, k0_pay13]

theorem pay15_at (n : FVec Ideal S256x2048 .bf16) (w : Vec Ideal S2048x1024 .bf16) (r : Fin 256) (j : Fin 1024) :
    (k0_pay15 n w (ix2 r j) : EReal) = ∑ d : Fin 2048, (n (ix2 r d) : EReal) * w (ix2 d j) := by
  pointwise [k0_pay15]

/-- The band mixer's values of a block, split into heads. -/
theorem pay5_at (v : FVec Ideal S256x1024 .f32) (u : Fin 1) (r : Fin 256) (h : Fin 8) (j : Fin 128) :
    (k0_pay5 v (ix4 u r h j) : EReal) = v (ix2 r (⟨h.val * 128 + j.val, by omega⟩ : Fin 1024)) := by
  pointwise [k0_pay5]

/-- The block of keys, split into heads. -/
def KT (v : FVec Ideal S256x1024 .f32) (g : FVec Ideal S1x128 .f32) : FVec Ideal S1x256x8x128 .f32 :=
  shapeCast S1x256x8x128 (shapeCast S256x8x128 (KC v g) shapeCasts_S256x1024_S256x8x128) shapeCasts_S256x8x128_S1x256x8x128

theorem KT_at (v : FVec Ideal S256x1024 .f32) (g : FVec Ideal S1x128 .f32) (u : Fin 1) (r : Fin 256) (h : Fin 8) (j : Fin 128) :
    (KT v g (ix4 u r h j) : EReal) = KC v g (ix2 r (⟨h.val * 128 + j.val, by omega⟩ : Fin 1024)) := by
  pointwise [KT]

/-- One group of a block of queries, as it is stored. -/
def QP (s : FVec Ideal S256x128 .f32) (g : FVec Ideal S1x128 .f32) : FVec Ideal S1x256x128 .bf16 :=
  shapeCast S1x256x128 (truncf .bf16 (HN s g) bitsLt_bf16_f32) shapeCasts_S256x128_S1x256x128

theorem QP_at (s : FVec Ideal S256x128 .f32) (g : FVec Ideal S1x128 .f32) (u : Fin 1) (r : Fin 256) (j : Fin 128) :
    (QP s g (ix3 u r j) : EReal) = HN s g (ix2 r j) := by
  pointwise [QP]

end Cert.ProjSIdeal.Blk

end
-- ==== Proof.ProjSValue.lean ====
module

public import proofs.«01_k».proof.Defs
public import proofs.«01_k».proof.Proof.Gen.ProjSIdeal.Value
public import proofs.«01_k».proof.Proof.ProjSKern
public import proofs.«01_k».proof.Proof.ProjSPlain
public import Idealize.ShloMosaic.Lib.Pipeline.ValueKit
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.ProjSIdeal.Blk

open Cert.ProjSIdeal Cert.ProjSIdeal.Gen
open Cert.ProjSRefIdeal (S1x512x3904)
open Cert.ProjSRefIdeal.Blk (nrm RN RN_at RY RY_at RCQ RCQ_at RCKV RCKV_at HD HD_at RQ RQ_at RK RK_at RV RV_at)

variable (m : (ℓ : Loc nD τ sig) → Buf (Elt Ideal) ℓ)

/-- Where each window's block sits at a grid point. -/
theorem idx : ∀ t : Fin cfg0.N, win0_0.index t = ![t.val / 2, t.val % 2, 0]
    ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] :=
  (by decide +kernel : ∀ t : Fin grid0.N, _)

theorem idx_out : ∀ t : Fin cfg0.N, win0_12.index t = ![t.val / 2, t.val % 2, 0]
    ∧ win0_13.index t = ![t.val / 2, t.val % 2, 0] ∧ win0_15.index t = ![t.val / 2, t.val % 2, 0]
    ∧ win0_16.index t = ![t.val / 2, t.val % 2, 0] ∧ win0_19.index t = ![t.val / 2, t.val % 2, 0, 0]
    ∧ win0_20.index t = ![t.val / 2, t.val % 2, 0, 0] :=
  (by decide +kernel : ∀ t : Fin grid0.N, _)

/-! ## The weight's column groups, as the call is given them -/

/-- A group of the weight's columns, at the carried type. -/
def WCQ (w : FVec Ideal S2048x3904 .f32) : FVec Ideal S2048x512 .bf16 :=
  truncf .bf16 (extractStridedSlice S2048x512 ![0, 0] w slices_S2048x3904_S2048x512_0_0) bitsLt_bf16_f32
def WCKV (w : FVec Ideal S2048x3904 .f32) : FVec Ideal S2048x256 .bf16 :=
  truncf .bf16 (extractStridedSlice S2048x256 ![0, 512] w slices_S2048x3904_S2048x256_0_512) bitsLt_bf16_f32
def WPE (w : FVec Ideal S2048x3904 .f32) : FVec Ideal S2048x128 .bf16 :=
  pad S2048x128 ![0, 0] ![0, 64] ![0, 0] (truncf .bf16 (extractStridedSlice S2048x64 ![0, 768] w slices_S2048x3904_S2048x64_0_768) bitsLt_bf16_f32)
    (sitofp .bf16 (constantI S_ 32 0#32)) pads_S2048x64_S2048x128_000_0640 h_S_
def WQ (w : FVec Ideal S2048x3904 .f32) : FVec Ideal S2048x1024 .bf16 :=
  truncf .bf16 (extractStridedSlice S2048x1024 ![0, 832] w slices_S2048x3904_S2048x1024_0_832) bitsLt_bf16_f32
def WK (w : FVec Ideal S2048x3904 .f32) : FVec Ideal S2048x1024 .bf16 :=
  truncf .bf16 (extractStridedSlice S2048x1024 ![0, 1856] w slices_S2048x3904_S2048x1024_0_1856) bitsLt_bf16_f32
def WV (w : FVec Ideal S2048x3904 .f32) : FVec Ideal S2048x1024 .bf16 :=
  truncf .bf16 (extractStridedSlice S2048x1024 ![0, 2880] w slices_S2048x3904_S2048x1024_0_2880) bitsLt_bf16_f32

theorem WCQ_at (w : FVec Ideal S2048x3904 .f32) (d : Fin 2048) (k : Fin 512) : (WCQ w (ix2 d k) : EReal) = w (ix2 d (⟨k.val, by omega⟩ : Fin 3904)) := by
  pointwise [WCQ]
theorem WCKV_at (w : FVec Ideal S2048x3904 .f32) (d : Fin 2048) (k : Fin 256) : (WCKV w (ix2 d k) : EReal) = w (ix2 d (⟨512 + k.val, by omega⟩ : Fin 3904)) := by
  pointwise [WCKV]
theorem WPE_at (w : FVec Ideal S2048x3904 .f32) (d : Fin 2048) (k : Fin 64) : (WPE w (ix2 d (⟨k.val, by omega⟩ : Fin 128)) : EReal) = w (ix2 d (⟨768 + k.val, by omega⟩ : Fin 3904)) := by
  pointwise [WPE]
theorem WQ_at (w : FVec Ideal S2048x3904 .f32) (d : Fin 2048) (k : Fin 1024) : (WQ w (ix2 d k) : EReal) = w (ix2 d (⟨832 + k.val, by omega⟩ : Fin 3904)) := by
  pointwise [WQ]
theorem WK_at (w : FVec Ideal S2048x3904 .f32) (d : Fin 2048) (k : Fin 1024) : (WK w (ix2 d k) : EReal) = w (ix2 d (⟨1856 + k.val, by omega⟩ : Fin 3904)) := by
  pointwise [WK]
theorem WV_at (w : FVec Ideal S2048x3904 .f32) (d : Fin 2048) (k : Fin 1024) : (WV w (ix2 d k) : EReal) = w (ix2 d (⟨2880 + k.val, by omega⟩ : Fin 3904)) := by
  pointwise [WV]

set_option maxHeartbeats 2000000 in
theorem V_cq (c : Dev nD) : V m c main_v1 = WCQ (m ((c : Thread nD τ).loc main_arg2)) := by
  show StableHlo.after (List.flatten [hostOps0, hostOps0_1]) (fun b => m (c, b)) main_v1 = _
  simp only [List.flatten_cons, List.flatten_nil, List.cons_append, List.nil_append, List.append_nil, hostOps0, hostOps0_1, TRef.binary, TRef.nullary, TRef.ternary, TRef.unary, TRef.toBuf, TRef.ofBuf, cast_eq]
  after_results_simp <;> rfl

set_option maxHeartbeats 2000000 in
theorem V_ckv (c : Dev nD) : V m c main_v3 = WCKV (m ((c : Thread nD τ).loc main_arg2)) := by
  show StableHlo.after (List.flatten [hostOps0, hostOps0_1]) (fun b => m (c, b)) main_v3 = _
  simp only [List.flatten_cons, List.flatten_nil, List.cons_append, List.nil_append, List.append_nil, hostOps0, hostOps0_1, TRef.binary, TRef.nullary, TRef.ternary, TRef.unary, TRef.toBuf, TRef.ofBuf, cast_eq]
  after_results_simp <;> rfl

set_option maxHeartbeats 2000000 in
theorem V_pe (c : Dev nD) : V m c main_v12 = WPE (m ((c : Thread nD τ).loc main_arg2)) := by
  show StableHlo.after (List.flatten [hostOps0, hostOps0_1]) (fun b => m (c, b)) main_v12 = _
  simp only [List.flatten_cons, List.flatten_nil, List.cons_append, List.nil_append, List.append_nil, hostOps0, hostOps0_1, TRef.binary, TRef.nullary, TRef.ternary, TRef.unary, TRef.toBuf, TRef.ofBuf, cast_eq]
  after_results_simp <;> rfl

set_option maxHeartbeats 2000000 in
theorem V_wq (c : Dev nD) : V m c main_v7 = WQ (m ((c : Thread nD τ).loc main_arg2)) := by
  show StableHlo.after (List.flatten [hostOps0, hostOps0_1]) (fun b => m (c, b)) main_v7 = _
  simp only [List.flatten_cons, List.flatten_nil, List.cons_append, List.nil_append, List.append_nil, hostOps0, hostOps0_1, TRef.binary, TRef.nullary, TRef.ternary, TRef.unary, TRef.toBuf, TRef.ofBuf, cast_eq]
  after_results_simp <;> rfl

set_option maxHeartbeats 2000000 in
theorem V_wk (c : Dev nD) : V m c main_v9 = WK (m ((c : Thread nD τ).loc main_arg2)) := by
  show StableHlo.after (List.flatten [hostOps0, hostOps0_1]) (fun b => m (c, b)) main_v9 = _
  simp only [List.flatten_cons, List.flatten_nil, List.cons_append, List.nil_append, List.append_nil, hostOps0, hostOps0_1, TRef.binary, TRef.nullary, TRef.ternary, TRef.unary, TRef.toBuf, TRef.ofBuf, cast_eq]
  after_results_simp <;> rfl

set_option maxHeartbeats 2000000 in
theorem V_wv (c : Dev nD) : V m c main_v11 = WV (m ((c : Thread nD τ).loc main_arg2)) := by
  show StableHlo.after (List.flatten [hostOps0, hostOps0_1]) (fun b => m (c, b)) main_v11 = _
  simp only [List.flatten_cons, List.flatten_nil, List.cons_append, List.nil_append, List.append_nil, hostOps0, hostOps0_1, TRef.binary, TRef.nullary, TRef.ternary, TRef.unary, TRef.toBuf, TRef.ofBuf, cast_eq]
  after_results_simp <;> rfl

/-! ## The blocks a point reads, as elements of the argument arrays -/

theorem blk_x (c : Dev nD) (t : Fin cfg0.N) (r : Fin 256) (d : Fin 2048) (b : Fin 1) (s : Fin 512)
    (hb : b.val = t.val / 2) (hs : s.val = 256 * (t.val % 2) + r.val) :
    (iblk m c 0 t (ix3 0 r d) : EReal) = m ((c : Thread nD τ).loc main_arg0) (ix3 b s d) := by
  blk_ext [iblk, V, idx t]
theorem blk_g (c : Dev nD) (t : Fin cfg0.N) (d : Fin 2048) :
    (iblk m c 1 t (ix2 0 d) : EReal) = m ((c : Thread nD τ).loc main_arg1) (ix2 0 d) := by
  blk_ext [iblk, V, idx t]
theorem blk_cq (c : Dev nD) (t : Fin cfg0.N) (d : Fin 2048) (k : Fin 512) : (iblk m c 2 t (ix2 d k) : EReal) = V m c main_v1 (ix2 d k) := by
  blk_ext [iblk, idx t]
theorem blk_ckv (c : Dev nD) (t : Fin cfg0.N) (d : Fin 2048) (k : Fin 256) : (iblk m c 3 t (ix2 d k) : EReal) = V m c main_v3 (ix2 d k) := by
  blk_ext [iblk, idx t]
theorem blk_pe (c : Dev nD) (t : Fin cfg0.N) (d : Fin 2048) (k : Fin 128) : (iblk m c 4 t (ix2 d k) : EReal) = V m c main_v12 (ix2 d k) := by
  blk_ext [iblk, idx t]
theorem blk_wq (c : Dev nD) (t : Fin cfg0.N) (d : Fin 2048) (k : Fin 1024) : (iblk m c 5 t (ix2 d k) : EReal) = V m c main_v7 (ix2 d k) := by
  blk_ext [iblk, idx t]
theorem blk_wk (c : Dev nD) (t : Fin cfg0.N) (d : Fin 2048) (k : Fin 1024) : (iblk m c 6 t (ix2 d k) : EReal) = V m c main_v9 (ix2 d k) := by
  blk_ext [iblk, idx t]
theorem blk_wv (c : Dev nD) (t : Fin cfg0.N) (d : Fin 2048) (k : Fin 1024) : (iblk m c 7 t (ix2 d k) : EReal) = V m c main_v11 (ix2 d k) := by
  blk_ext [iblk, idx t]
theorem blk_gcq (c : Dev nD) (t : Fin cfg0.N) (j : Fin 512) : (iblk m c 8 t (ix2 0 j) : EReal) = m ((c : Thread nD τ).loc main_arg3) (ix2 0 j) := by
  blk_ext [iblk, V, idx t]
theorem blk_gckv (c : Dev nD) (t : Fin cfg0.N) (j : Fin 256) : (iblk m c 9 t (ix2 0 j) : EReal) = m ((c : Thread nD τ).loc main_arg4) (ix2 0 j) := by
  blk_ext [iblk, V, idx t]
theorem blk_gq (c : Dev nD) (t : Fin cfg0.N) (j : Fin 128) : (iblk m c 10 t (ix2 0 j) : EReal) = m ((c : Thread nD τ).loc main_arg5) (ix2 0 j) := by
  blk_ext [iblk, V, idx t]
theorem blk_gk (c : Dev nD) (t : Fin cfg0.N) (j : Fin 128) : (iblk m c 11 t (ix2 0 j) : EReal) = m ((c : Thread nD τ).loc main_arg6) (ix2 0 j) := by
  blk_ext [iblk, V, idx t]

/-- The plain combined projection of the argument arrays. -/
abbrev YY (c : Dev nD) : FVec Ideal S1x512x3904 .f32 :=
  RY (m ((c : Thread nD τ).loc main_arg0)) (m ((c : Thread nD τ).loc main_arg1)) (m ((c : Thread nD τ).loc main_arg2))

/-- The normalised rows of a point's block are the plain ones. -/
theorem rows_blk (c : Dev nD) (t : Fin cfg0.N) (r : Fin 256) (d : Fin 2048) (b : Fin 1) (s : Fin 512)
    (hb : b.val = t.val / 2) (hs : s.val = 256 * (t.val % 2) + r.val) :
    (k0_pay6 (F := Ideal) (iblk m c 0 t) (iblk m c 1 t) (ix2 r d) : EReal)
      = RN (m ((c : Thread nD τ).loc main_arg0)) (m ((c : Thread nD τ).loc main_arg1)) (ix3 b s d) := by
  have e : (fun k : Fin 2048 => (iblk m c 0 t (ix3 0 r k) : EReal)) = fun k => m ((c : Thread nD τ).loc main_arg0) (ix3 b s k) :=
    funext fun k => blk_x m c t r k b s hb hs
  refine (pay6_at (iblk m c 0 t) (iblk m c 1 t) r d).trans (Eq.trans ?_ (RN_at _ _ b s d).symm)
  rw [e, blk_g m c t d]

/-- A column of the projection of a point's block is a column of the plain projection. -/
theorem col_blk (c : Dev nD) (t : Fin cfg0.N) (r : Fin 256) (b : Fin 1) (s : Fin 512)
    (hb : b.val = t.val / 2) (hs : s.val = 256 * (t.val % 2) + r.val) (f : Fin 2048 → EReal) (j : Fin 3904)
    (hf : ∀ d, f d = m ((c : Thread nD τ).loc main_arg2) (ix2 d j)) :
    (∑ d : Fin 2048, (k0_pay6 (F := Ideal) (iblk m c 0 t) (iblk m c 1 t) (ix2 r d) : EReal) * f d) = YY m c (ix3 b s j) := by
  refine Eq.trans (Finset.sum_congr rfl fun d _ => ?_) (RY_at _ _ _ b s j).symm
  rw [rows_blk m c t r d b s hb hs, hf d]

/-! ## The result arrays -/

theorem out12 (c : Dev nD) (t : Fin cfg0.N) (r : Fin 256) (j : Fin 512) (b : Fin 1) (s : Fin 512)
    (hb : b.val = t.val / 2) (hs : s.val = 256 * (t.val % 2) + r.val) :
    (k0_pay7 (F := Ideal) (iblk m c 0 t) (iblk m c 1 t) (iblk m c 2 t) (iblk m c 8 t) (ix3 0 r j) : EReal)
      = RCQ (YY m c) (m ((c : Thread nD τ).loc main_arg3)) (ix3 b s j) := by
  refine (pay7_at _ _ _ _ 0 r j).trans (Eq.trans ?_ (RCQ_at _ _ b s j).symm)
  refine congrArg₂ (fun (f : Fin 512 → EReal) (z : EReal) => nrm f 1140850688#32 j * z) (funext fun k => ?_) (blk_gcq m c t j)
  exact col_blk m c t r b s hb hs _ _ fun d => ((blk_cq m c t d k).trans (congrFun (V_cq m c) _)).trans (WCQ_at _ d k)

theorem out13 (c : Dev nD) (t : Fin cfg0.N) (r : Fin 256) (j : Fin 256) (b : Fin 1) (s : Fin 512)
    (hb : b.val = t.val / 2) (hs : s.val = 256 * (t.val % 2) + r.val) :
    (k0_pay8 (F := Ideal) (k0_pay6 (iblk m c 0 t) (iblk m c 1 t)) (iblk m c 3 t) (iblk m c 9 t) (ix3 0 r j) : EReal)
      = RCKV (YY m c) (m ((c : Thread nD τ).loc main_arg4)) (ix3 b s j) := by
  refine (pay8_at _ _ _ 0 r j).trans (Eq.trans ?_ (RCKV_at _ _ b s j).symm)
  refine congrArg₂ (fun (f : Fin 256 → EReal) (z : EReal) => nrm f 1132462080#32 j * z) (funext fun k => ?_) (blk_gckv m c t j)
  exact col_blk m c t r b s hb hs _ _ fun d => ((blk_ckv m c t d k).trans (congrFun (V_ckv m c) _)).trans (WCKV_at _ d k)

/-- The plain positional keys. -/
def RPE (y : FVec Ideal S1x512x3904 .f32) : FVec Ideal S1x512x64 .f32 :=
  extractStridedSlice S1x512x64 ![0, 0, 768] y Cert.ProjSRefIdeal.Gen.slices_S1x512x3904_S1x512x64_0_0_768

theorem RPE_at (y : FVec Ideal S1x512x3904 .f32) (b : Fin 1) (s : Fin 512) (j : Fin 64) :
    (RPE y (ix3 b s j) : EReal) = y (ix3 b s (⟨768 + j.val, by omega⟩ : Fin 3904)) := by
  obtain rfl : b = 0 := Subsingleton.elim _ _
  pointwise [RPE]

theorem out15 (c : Dev nD) (t : Fin cfg0.N) (r : Fin 256) (j : Fin 64) (b : Fin 1) (s : Fin 512)
    (hb : b.val = t.val / 2) (hs : s.val = 256 * (t.val % 2) + r.val) :
    (k0_pay11 (F := Ideal) (k0_pay6 (iblk m c 0 t) (iblk m c 1 t)) (iblk m c 4 t) (ix3 0 r j) : EReal) = RPE (YY m c) (ix3 b s j) := by
  refine (pay11_at _ _ 0 r j).trans (Eq.trans ?_ (RPE_at _ b s j).symm)
  exact col_blk m c t r b s hb hs _ _ fun d => ((blk_pe m c t d _).trans (congrFun (V_pe m c) _)).trans (WPE_at _ d j)

/-- The plain queries, heads side by side. -/
def RQF (y : FVec Ideal S1x512x3904 .f32) (g : FVec Ideal S1x128 .f32) : FVec Ideal S1x512x1024 .bf16 :=
  truncf .bf16 (shapeCast _ (HD (RQ y) g) Cert.ProjSRefIdeal.Gen.shapeCasts_S1x512x8x128_S1x512x1024) Cert.ProjSRefIdeal.Gen.bitsLt_bf16_f32

theorem RQF_split (y : FVec Ideal S1x512x3904 .f32) (g : FVec Ideal S1x128 .f32) (b : Fin 1) (s : Fin 512) (h : Fin 8) (j : Fin 128) :
    (RQF y g (ix3 b s (⟨h.val * 128 + j.val, by omega⟩ : Fin 1024)) : EReal) = HD (RQ y) g (ix4 b s h j) := by
  obtain rfl : b = 0 := Subsingleton.elim _ _
  pointwise [RQF]

theorem RQF_at (y : FVec Ideal S1x512x3904 .f32) (g : FVec Ideal S1x128 .f32) (b : Fin 1) (s : Fin 512) (q : Fin 1024) :
    (RQF y g (ix3 b s q) : EReal) = HR (fun k => (y (ix3 b s (⟨832 + k.val, by omega⟩ : Fin 3904)) : EReal)) g q := by
  have e : q = (⟨(⟨q.val / 128, by omega⟩ : Fin 8).val * 128 + (⟨q.val % 128, by omega⟩ : Fin 128).val, by dsimp only; omega⟩ : Fin 1024) :=
    Fin.ext (by dsimp only; omega)
  rw [e, RQF_split, HD_at, HR_mk]
  simp only [RQ_at]

/-- The plain keys of one head. -/
theorem RK_head (y : FVec Ideal S1x512x3904 .f32) (g : FVec Ideal S1x128 .f32) (b : Fin 1) (s : Fin 512) (h : Fin 8) (j : Fin 128) :
    (HD (RK y) g (ix4 b s h j) : EReal)
      = HR (fun k => (y (ix3 b s (⟨1856 + k.val, by omega⟩ : Fin 3904)) : EReal)) g (⟨h.val * 128 + j.val, by omega⟩ : Fin 1024) := by
  rw [HD_at, HR_mk]
  simp only [RK_at]

theorem HR_congr (f f' : Fin 1024 → EReal) (g g' : FVec Ideal S1x128 .f32) (q : Fin 1024) (hf : ∀ k, f k = f' k)
    (hg : ∀ j : Fin 128, (g (ix2 0 j) : EReal) = g' (ix2 0 j)) : HR f g q = HR f' g' q := by
  have e : f = f' := funext hf
  subst e
  unfold HR
  rw [hg]

theorem q_blk (c : Dev nD) (t : Fin cfg0.N) (r : Fin 256) (q : Fin 1024) (b : Fin 1) (s : Fin 512)
    (hb : b.val = t.val / 2) (hs : s.val = 256 * (t.val % 2) + r.val) :
    HR (fun k => (k0_pay12 (F := Ideal) (k0_pay6 (iblk m c 0 t) (iblk m c 1 t)) (iblk m c 5 t) (ix2 r k) : EReal)) (iblk m c 10 t) q
      = RQF (YY m c) (m ((c : Thread nD τ).loc main_arg5)) (ix3 b s q) := by
  refine Eq.trans ?_ (RQF_at _ _ b s q).symm
  refine HR_congr _ _ _ _ q (fun k => (pay12_at _ _ r k).trans ?_) (blk_gq m c t)
  exact col_blk m c t r b s hb hs _ _ fun d => ((blk_wq m c t d k).trans (congrFun (V_wq m c) _)).trans (WQ_at _ d k)

theorem k_blk (c : Dev nD) (t : Fin cfg0.N) (r : Fin 256) (h : Fin 8) (j : Fin 128) (b : Fin 1) (s : Fin 512)
    (hb : b.val = t.val / 2) (hs : s.val = 256 * (t.val % 2) + r.val) :
    (KT (k0_pay14 (F := Ideal) (k0_pay6 (iblk m c 0 t) (iblk m c 1 t)) (k0_pay13 (iblk m c 6 t))) (iblk m c 11 t) (ix4 0 r h j) : EReal)
      = HD (RK (YY m c)) (m ((c : Thread nD τ).loc main_arg6)) (ix4 b s h j) := by
  refine (KT_at _ _ 0 r h j).trans ((KC_at _ _ r _).trans (Eq.trans ?_ (RK_head _ _ b s h j).symm))
  refine HR_congr _ _ _ _ _ (fun k => (pay14_at _ _ r k).trans ?_) (blk_gk m c t)
  exact col_blk m c t r b s hb hs _ _ fun d => ((blk_wk m c t d k).trans (congrFun (V_wk m c) _)).trans (WK_at _ d k)

theorem v_blk (c : Dev nD) (t : Fin cfg0.N) (r : Fin 256) (h : Fin 8) (j : Fin 128) (b : Fin 1) (s : Fin 512)
    (hb : b.val = t.val / 2) (hs : s.val = 256 * (t.val % 2) + r.val) :
    (k0_pay5 (F := Ideal) (k0_pay15 (k0_pay6 (iblk m c 0 t) (iblk m c 1 t)) (iblk m c 7 t)) (ix4 0 r h j) : EReal)
      = RV (YY m c) (ix4 b s h j) := by
  refine (pay5_at _ 0 r h j).trans ((pay15_at _ _ r _).trans (Eq.trans ?_ (RV_at _ b s h j).symm))
  exact col_blk m c t r b s hb hs _ _ fun d => ((blk_wv m c t d _).trans (congrFun (V_wv m c) _)).trans (WV_at _ d _)

theorem final12 (c : Dev nD) : (dats m 0 c).arrAt 12 cfg0.N = RCQ (YY m c) (m ((c : Thread nD τ).loc main_arg3)) := by
  refine (dats m 0 c).arrAt_eq_of_covers 12 _ (by decide +kernel) fun t _ y => ?_
  blk_simp
  rw [after0_12]
  unfold outsAt0
  dsimp only
  frame_out
  idx_vars y
  obtain rfl : y0 = 0 := Subsingleton.elim _ _
  have ht : t.val < 2 := t.isLt
  refine (out12 m c t y1 y2 (⟨t.val / 2, by omega⟩ : Fin 1) (⟨256 * (t.val % 2) + y1.val, by omega⟩ : Fin 512) rfl rfl).trans ?_
  blk_ext [idx_out t]

theorem final13 (c : Dev nD) : (dats m 0 c).arrAt 13 cfg0.N = RCKV (YY m c) (m ((c : Thread nD τ).loc main_arg4)) := by
  refine (dats m 0 c).arrAt_eq_of_covers 13 _ (by decide +kernel) fun t _ y => ?_
  blk_simp
  rw [after0_13]
  unfold outsAt0
  dsimp only
  frame_out
  idx_vars y
  obtain rfl : y0 = 0 := Subsingleton.elim _ _
  have ht : t.val < 2 := t.isLt
  refine (out13 m c t y1 y2 (⟨t.val / 2, by omega⟩ : Fin 1) (⟨256 * (t.val % 2) + y1.val, by omega⟩ : Fin 512) rfl rfl).trans ?_
  blk_ext [idx_out t]

theorem final15 (c : Dev nD) : (dats m 0 c).arrAt 15 cfg0.N = RPE (YY m c) := by
  refine (dats m 0 c).arrAt_eq_of_covers 15 _ (by decide +kernel) fun t _ y => ?_
  blk_simp
  rw [after0_15]
  unfold outsAt0
  dsimp only
  frame_out
  idx_vars y
  obtain rfl : y0 = 0 := Subsingleton.elim _ _
  have ht : t.val < 2 := t.isLt
  refine (out15 m c t y1 y2 (⟨t.val / 2, by omega⟩ : Fin 1) (⟨256 * (t.val % 2) + y1.val, by omega⟩ : Fin 512) rfl rfl).trans ?_
  blk_ext [idx_out t]

theorem final19 (c : Dev nD) : (dats m 0 c).arrAt 19 cfg0.N = HD (RK (YY m c)) (m ((c : Thread nD τ).loc main_arg6)) := by
  refine (dats m 0 c).arrAt_eq_of_covers 19 _ (by decide +kernel) fun t _ y => ?_
  blk_simp
  rw [after0_19]
  unfold outsAt0
  dsimp only
  frame_out
  idx_vars y
  obtain rfl : y0 = 0 := Subsingleton.elim _ _
  have ht : t.val < 2 := t.isLt
  refine (k_blk m c t y1 y2 y3 (⟨t.val / 2, by omega⟩ : Fin 1) (⟨256 * (t.val % 2) + y1.val, by omega⟩ : Fin 512) rfl rfl).trans ?_
  blk_ext [idx_out t]

theorem final20 (c : Dev nD) : (dats m 0 c).arrAt 20 cfg0.N = RV (YY m c) := by
  refine (dats m 0 c).arrAt_eq_of_covers 20 _ (by decide +kernel) fun t _ y => ?_
  blk_simp
  rw [after0_20]
  unfold outsAt0
  dsimp only
  frame_out
  idx_vars y
  obtain rfl : y0 = 0 := Subsingleton.elim _ _
  have ht : t.val < 2 := t.isLt
  refine (v_blk m c t y1 y2 y3 (⟨t.val / 2, by omega⟩ : Fin 1) (⟨256 * (t.val % 2) + y1.val, by omega⟩ : Fin 512) rfl rfl).trans ?_
  blk_ext [idx_out t]

end Cert.ProjSIdeal.Blk

end
-- ==== Proof.ProjSOut.lean ====
module

public import proofs.«01_k».proof.Defs
public import proofs.«01_k».proof.Proof.Gen.ProjSIdeal.Value
public import proofs.«01_k».proof.Proof.ProjSValue
public import Idealize.ShloMosaic.Lib.Pipeline.ValueKit
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.ProjSIdeal.Blk

open Cert.ProjSIdeal Cert.ProjSIdeal.Gen
open Cert.ProjSRefIdeal (S1x512x3904)
open Cert.ProjSRefIdeal.Blk (nrm RN RN_at RY RY_at RCQ RCQ_at RCKV RCKV_at HD HD_at RQ RQ_at RK RK_at RV RV_at)

variable (m : (ℓ : Loc nD τ sig) → Buf (Elt Ideal) ℓ)

/-- One stored group of queries, at a lane of the block. -/
theorem qpiece (o : ℕ) (v : FVec Ideal S256x1024 .f32) (g : FVec Ideal S1x128 .f32) (hs : Shape.Slices S256x1024 ![0, o] S256x128)
    (p : FVec Ideal S1x256x128 .bf16) (hp : p = QP (extractStridedSlice S256x128 ![0, o] v hs) g) (y : S1x256x128.Idx)
    (r : Fin 256) (q : Fin 1024) (h1 : r.val = (y 1).val) (h2 : q.val = o + (y 2).val) (ho : o % 128 = 0) :
    (p y : EReal) = HR (fun k => (v (ix2 r k) : EReal)) g q := by
  subst hp
  idx_vars y
  obtain rfl : r = y1 := Fin.ext h1
  exact (QP_at _ g y0 r y2).trans (group_at o v g hs r y2 q h2 ho)

set_option maxHeartbeats 1000000 in
/-- What a point stores into its block of the queries, group by group. -/
theorem out16 (c : Dev nD) (t : Fin cfg0.N) (r : Fin 256) (q : Fin 1024) :
    ((outsAt0 m c t).2.2.2.2.1 (ix3 0 r q) : EReal)
      = HR (fun k => (k0_pay12 (F := Ideal) (k0_pay6 (iblk m c 0 t) (iblk m c 1 t)) (iblk m c 5 t) (ix2 r k) : EReal)) (iblk m c 10 t) q := by
  unfold outsAt0
  dsimp only
  unfold out0_A_16 kernelRun0_A
  dsimp only
  rw [View.read_writes_junk_eq_canon]
  canon_tiles x h
  · frame_out
    exact qpiece 896 (k0_pay12 (F := Ideal) (k0_pay6 (iblk m c 0 t) (iblk m c 1 t)) (iblk m c 5 t)) (iblk m c 10 t) slices_S256x1024_o0_896_S256x128 _ rfl x r q h1 h2 (by decide)
  · frame_out
    exact qpiece 768 (k0_pay12 (F := Ideal) (k0_pay6 (iblk m c 0 t) (iblk m c 1 t)) (iblk m c 5 t)) (iblk m c 10 t) slices_S256x1024_o0_768_S256x128 _ rfl x r q h1 h2 (by decide)
  · frame_out
    exact qpiece 640 (k0_pay12 (F := Ideal) (k0_pay6 (iblk m c 0 t) (iblk m c 1 t)) (iblk m c 5 t)) (iblk m c 10 t) slices_S256x1024_o0_640_S256x128 _ rfl x r q h1 h2 (by decide)
  · frame_out
    exact qpiece 512 (k0_pay12 (F := Ideal) (k0_pay6 (iblk m c 0 t) (iblk m c 1 t)) (iblk m c 5 t)) (iblk m c 10 t) slices_S256x1024_o0_512_S256x128 _ rfl x r q h1 h2 (by decide)
  · frame_out
    exact qpiece 384 (k0_pay12 (F := Ideal) (k0_pay6 (iblk m c 0 t) (iblk m c 1 t)) (iblk m c 5 t)) (iblk m c 10 t) slices_S256x1024_o0_384_S256x128 _ rfl x r q h1 h2 (by decide)
  · frame_out
    exact qpiece 256 (k0_pay12 (F := Ideal) (k0_pay6 (iblk m c 0 t) (iblk m c 1 t)) (iblk m c 5 t)) (iblk m c 10 t) slices_S256x1024_o0_256_S256x128 _ rfl x r q h1 h2 (by decide)
  · frame_out
    exact qpiece 128 (k0_pay12 (F := Ideal) (k0_pay6 (iblk m c 0 t) (iblk m c 1 t)) (iblk m c 5 t)) (iblk m c 10 t) slices_S256x1024_o0_128_S256x128 _ rfl x r q h1 h2 (by decide)
  · frame_out
    exact qpiece 0 (k0_pay12 (F := Ideal) (k0_pay6 (iblk m c 0 t) (iblk m c 1 t)) (iblk m c 5 t)) (iblk m c 10 t) slices_S256x1024_o0_0_S256x128 _ rfl x r q h1 (h2.trans (Nat.zero_add _).symm) (by decide)

theorem final16 (c : Dev nD) : (dats m 0 c).arrAt 16 cfg0.N = RQF (YY m c) (m ((c : Thread nD τ).loc main_arg5)) := by
  refine (dats m 0 c).arrAt_eq_of_covers 16 _ (by decide +kernel) fun t _ y => ?_
  blk_simp
  rw [after0_16]
  idx_vars y
  obtain rfl : y0 = 0 := Subsingleton.elim _ _
  have ht : t.val < 2 := t.isLt
  refine ((out16 m c t y1 y2).trans (q_blk m c t y1 y2 (⟨t.val / 2, by omega⟩ : Fin 1) (⟨256 * (t.val % 2) + y1.val, by omega⟩ : Fin 512) rfl rfl)).trans ?_
  blk_ext [idx_out t]

end Cert.ProjSIdeal.Blk

/-- At exact arithmetic the sample phase's projection call and the plain projection leave the same six arrays: the
    query latent, the key-value latent, the positional keys, the queries, and the band mixer's keys and values. -/
theorem Cert.ProjSIdeal.Blk.algebraic : Cert.algebraic_ProjSIdeal_ProjSRefIdeal := fun m ρ m' ρ' _ hag =>
  ⟨fun c => Cert.ProjSRefIdeal.Blk.RCQ (Cert.ProjSIdeal.Blk.YY m c) (m ((c.tc : Thread Cert.ProjSIdeal.nD Cert.ProjSIdeal.τ).loc Cert.ProjSIdeal.main_arg3)),
    fun c => Cert.ProjSRefIdeal.Blk.RCKV (Cert.ProjSIdeal.Blk.YY m c) (m ((c.tc : Thread Cert.ProjSIdeal.nD Cert.ProjSIdeal.τ).loc Cert.ProjSIdeal.main_arg4)),
    fun c => Cert.ProjSIdeal.Blk.RPE (Cert.ProjSIdeal.Blk.YY m c),
    fun c => Cert.ProjSIdeal.Blk.RQF (Cert.ProjSIdeal.Blk.YY m c) (m ((c.tc : Thread Cert.ProjSIdeal.nD Cert.ProjSIdeal.τ).loc Cert.ProjSIdeal.main_arg5)),
    fun c => Cert.ProjSRefIdeal.Blk.HD (Cert.ProjSRefIdeal.Blk.RK (Cert.ProjSIdeal.Blk.YY m c)) (m ((c.tc : Thread Cert.ProjSIdeal.nD Cert.ProjSIdeal.τ).loc Cert.ProjSIdeal.main_arg6)),
    fun c => Cert.ProjSRefIdeal.Blk.RV (Cert.ProjSIdeal.Blk.YY m c),
    (θ_run Cert.ProjSIdeal.defs _ _).mono (fun _ h c => by
      obtain ⟨r0, r1, _, r3, r4, _, _, r7, r8, ra⟩ := h c
      exact ⟨r0.trans (Cert.ProjSIdeal.Blk.final12 m c), r1.trans (Cert.ProjSIdeal.Blk.final13 m c), r3.trans (Cert.ProjSIdeal.Blk.final15 m c),
        r4.trans (Cert.ProjSIdeal.Blk.final16 m c), r7.trans (Cert.ProjSIdeal.Blk.final19 m c), r8.trans (Cert.ProjSIdeal.Blk.final20 m c), ra⟩)
      (Cert.ProjSIdeal.Value.run_blocks (F := Ideal) m ρ),
    (θ_run Cert.ProjSRefIdeal.defs _ _).mono (fun _ h c => by
      obtain ⟨r0, r1, r2, r3, r4, r5, ra⟩ := h c
      obtain ⟨e0, e1, e2, e3, e4, e5, e6⟩ := hag c
      rw [e0, e1, e2, e3] at r0
      rw [e0, e1, e2, e4] at r1
      rw [e0, e1, e2] at r2
      rw [e0, e1, e2, e5] at r3
      rw [e0, e1, e2, e6] at r4
      rw [e0, e1, e2] at r5
      exact ⟨r0, r1, r2, r3, r4, r5, ra⟩)
      (Cert.ProjSRefIdeal.Value.run (F := Ideal) m' ρ')⟩

end
-- ==== Proof.FfnSValue.lean ====
module

public import proofs.«01_k».proof.Defs
public import proofs.«01_k».proof.Proof.Gen.FfnSIdeal.Value
public import proofs.«01_k».proof.Proof.Gen.FfnSRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnSIdeal.Blk

open Cert.FfnSIdeal Cert.FfnSIdeal.Gen

variable (m : (ℓ : Loc nD τ sig) → Buf (Elt Ideal) ℓ)

/-- Where each window's block sits at a grid point: the points run over batch rows, row blocks and hidden column
    blocks, the last fastest. -/
theorem idx : ∀ t : Fin cfg0.N, win0_0.index t = ![t.val / 64, t.val / 4 % 16, 0]
    ∧ win0_1.index t = ![0, 0]
    ∧ win0_2.index t = ![0, t.val % 4]
    ∧ win0_3.index t = ![t.val % 4, 0]
    ∧ win0_4.index t = ![t.val / 64, t.val / 4 % 16, 0] :=
  (by decide +kernel : ∀ t : Fin grid0.N, _)

/-- The scratch holds, after every point, the normalised rows of that point's row block: the first point of a run
    writes them, the others carry them. -/
theorem norm_blk (c : Dev nD) : ∀ (n : ℕ) (h : n < cfg0.N),
    (outsAt0 m c n h).2 = k0_pay2 (F := Ideal) (iblk m c 0 ⟨n, h⟩) (iblk m c 1 ⟨n, h⟩) := by
  intro n
  induction n with
  | zero =>
    intro h
    have := outsAt0_A m c ⟨0, h⟩ rfl
    rw [this]; frame_out
  | succ n ih =>
    intro h
    by_cases h0 : (n + 1) % 4 = 0
    · have := outsAt0_A m c ⟨n + 1, h⟩ h0
      rw [this]; frame_out
    · have := outsAt0_B m c ⟨n + 1, h⟩ h0
      rw [this]
      have e0 : (iblk m c 0 ⟨n, Nat.lt_of_succ_lt h⟩ : FVec Ideal S1x512x2048 .f32) = iblk m c 0 ⟨n + 1, h⟩ := by
        funext y
        idx_vars y
        blk_ext [iblk, V, idx ⟨n, Nat.lt_of_succ_lt h⟩, idx ⟨n + 1, h⟩]
      have e1 : (iblk m c 1 ⟨n, Nat.lt_of_succ_lt h⟩ : FVec Ideal S1x2048 .f32) = iblk m c 1 ⟨n + 1, h⟩ := by
        funext y
        idx_vars y
        blk_ext [iblk, V, idx ⟨n, Nat.lt_of_succ_lt h⟩, idx ⟨n + 1, h⟩]
      show (outsAt0 m c n (Nat.lt_of_succ_lt h)).2 = _
      rw [ih (Nat.lt_of_succ_lt h)]
      exact congrArg₂ (k0_pay2 (F := Ideal)) e0 e1

/-- One column block's contribution at an element: the squared relu of the block's hidden columns, times the block's
    rows of the down projection. -/
abbrev part (x0 : FVec Ideal S1x512x2048 .f32) (x1 : FVec Ideal S1x2048 .f32) (x2 x3 : FVec Ideal S2048x2048 .bf16)
    (y : S1x512x2048.Idx) : EReal :=
  ∑ k : Fin 2048, (max (∑ d : Fin 2048, (k0_pay2 (F := Ideal) x0 x1 (ix2 (y 1) d) : EReal) * x2 (ix2 d k)) 0
      * max (∑ d : Fin 2048, (k0_pay2 (F := Ideal) x0 x1 (ix2 (y 1) d) : EReal) * x2 (ix2 d k)) 0) * x3 (ix2 k (y 2))

/-- The normalised rows at an index. -/
theorem pay2_at (x0 : FVec Ideal S1x512x2048 .f32) (x1 : FVec Ideal S1x2048 .f32) (r : Fin 512) (d : Fin 2048) :
    k0_pay2 (F := Ideal) x0 x1 (ix2 r d) = (x0 (ix3 0 r d) : EReal) *
      Ideal.rsqrt (Ideal.div (∑ x : Fin 2048, (x0 (ix3 0 r x) : EReal) * x0 (ix3 0 r x)) (Ideal.ofBits FTy.f32 1157627904#32)
        + Ideal.ofBits FTy.f32 897988541#32) * x1 (ix2 0 d) := by
  pointwise [k0_pay2, k0_pay1]

/-- One hidden column's contribution with the normalised rows spelled out. -/
theorem term_at (x0 : FVec Ideal S1x512x2048 .f32) (x1 : FVec Ideal S1x2048 .f32) (x2 x3 : FVec Ideal S2048x2048 .bf16)
    (r : Fin 512) (k j : Fin 2048) :
    (max (∑ d : Fin 2048, (k0_pay2 (F := Ideal) x0 x1 (ix2 r d) : EReal) * x2 (ix2 d k)) 0 * max (∑ d : Fin 2048, (k0_pay2 (F := Ideal) x0 x1 (ix2 r d) : EReal) * x2 (ix2 d k)) 0) * (x3 (ix2 k j) : EReal)
      = (max (∑ d : Fin 2048, ((x0 (ix3 0 r d) : EReal) * Ideal.rsqrt (Ideal.div (∑ x : Fin 2048, (x0 (ix3 0 r x) : EReal) * x0 (ix3 0 r x)) (Ideal.ofBits FTy.f32 1157627904#32) + Ideal.ofBits FTy.f32 897988541#32) * x1 (ix2 0 d)) * x2 (ix2 d k)) 0 * max (∑ d : Fin 2048, ((x0 (ix3 0 r d) : EReal) * Ideal.rsqrt (Ideal.div (∑ x : Fin 2048, (x0 (ix3 0 r x) : EReal) * x0 (ix3 0 r x)) (Ideal.ofBits FTy.f32 1157627904#32) + Ideal.ofBits FTy.f32 897988541#32) * x1 (ix2 0 d)) * x2 (ix2 d k)) 0) * (x3 (ix2 k j) : EReal) := by
  simp only [pay2_at]

/-- The body adds one column block's contribution onto what the output block held. -/
theorem hpay (hn : FVec Ideal S512x2048 .bf16) (x2 x3 : FVec Ideal S2048x2048 .bf16) (acc : FVec Ideal S1x512x2048 .f32) (y) :
    k0_pay4 (F := Ideal) hn x2 acc x3 y = (acc y : EReal) +
      ∑ k : Fin 2048, (max (∑ d : Fin 2048, (hn (ix2 (y 1) d) : EReal) * x2 (ix2 d k)) 0
      * max (∑ d : Fin 2048, (hn (ix2 (y 1) d) : EReal) * x2 (ix2 d k)) 0) * x3 (ix2 k (y 2)) := by
  idx_vars y
  obtain rfl : y0 = 0 := Subsingleton.elim _ _
  pointwise [k0_pay4]

/-- The output block starts from the residual rows. -/
theorem hinit (x0 : FVec Ideal S1x512x2048 .f32) (y) : k0_pay3 (F := Ideal) x0 y = x0 y := by
  idx_vars y
  pointwise [k0_pay3, k0_pay1]

/-- The plain row normalisation. -/
abbrev RNORM (h : FVec Ideal Cert.FfnSRefIdeal.S1x512x2048 .f32) (g : FVec Ideal Cert.FfnSRefIdeal.S1x2048 .f32) : FVec Ideal Cert.FfnSRefIdeal.S1x512x2048 .f32 :=
  mulf (mulf h (broadcastInDim Cert.FfnSRefIdeal.S1x512x2048 ![0, 1, 2] Cert.FfnSRefIdeal.Gen.bcast_S1x512x1_S1x512x2048_0_1_2 (Host.rsqrt (addf (Host.divf (broadcastInDim Cert.FfnSRefIdeal.S1x512x1 ![0, 1] Cert.FfnSRefIdeal.Gen.bcast_S1x512_S1x512x1_0_1 (Host.reduceAdd (mulf h h) (constant Cert.FfnSRefIdeal.S_ .f32 0x00000000#32) Cert.FfnSRefIdeal.Gen.reducesTo_S1x512x2048_S1x512_d2 Cert.FfnSRefIdeal.Gen.h_S_)) (broadcastInDim Cert.FfnSRefIdeal.S1x512x1 ![] Cert.FfnSRefIdeal.Gen.bcast_S_S1x512x1 (constant Cert.FfnSRefIdeal.S_ .f32 0x45000000#32))) (broadcastInDim Cert.FfnSRefIdeal.S1x512x1 ![] Cert.FfnSRefIdeal.Gen.bcast_S_S1x512x1 (constant Cert.FfnSRefIdeal.S_ .f32 0x358637BD#32)))))) (broadcastInDim Cert.FfnSRefIdeal.S1x512x2048 ![0, 1, 2] Cert.FfnSRefIdeal.Gen.bcast_S1x1x2048_S1x512x2048_0_1_2 (broadcastInDim Cert.FfnSRefIdeal.S1x1x2048 ![2] Cert.FfnSRefIdeal.Gen.bcast_S2048_S1x1x2048_2 (shapeCast _ g Cert.FfnSRefIdeal.Gen.shapeCasts_S1x2048_S2048)))

/-- The plain hidden columns after the relu. -/
abbrev RUP (h : FVec Ideal Cert.FfnSRefIdeal.S1x512x2048 .f32) (g : FVec Ideal Cert.FfnSRefIdeal.S1x2048 .f32)
    (wu : FVec Ideal Cert.FfnSRefIdeal.S2048x8192 .f32) : FVec Ideal Cert.FfnSRefIdeal.S1x512x8192 .f32 :=
  maximumf (Host.dotGeneral Cert.FfnSRefIdeal.dot_S1x512x2048_S2048x8192_S1x512x8192_2_0_01_1_n_n none (RNORM h g) wu) (broadcastInDim Cert.FfnSRefIdeal.S1x512x8192 ![] Cert.FfnSRefIdeal.Gen.bcast_S_S1x512x8192 (constant Cert.FfnSRefIdeal.S_ .f32 0x00000000#32))

/-- The feed-forward block with its residual, as the plain program writes it. -/
abbrev REF (h : FVec Ideal Cert.FfnSRefIdeal.S1x512x2048 .f32) (g : FVec Ideal Cert.FfnSRefIdeal.S1x2048 .f32)
    (wu : FVec Ideal Cert.FfnSRefIdeal.S2048x8192 .f32) (wd : FVec Ideal Cert.FfnSRefIdeal.S8192x2048 .f32) :
    FVec Ideal Cert.FfnSRefIdeal.S1x512x2048 .f32 :=
  addf h (Host.dotGeneral Cert.FfnSRefIdeal.dot_S1x512x8192_S8192x2048_S1x512x2048_2_0_01_1_n_n none (mulf (RUP h g wu) (RUP h g wu)) wd)

/-- What a run of points leaves in its output block is the plain block there. -/
theorem outs_sum (c : Dev nD) (t : Fin cfg0.N) (ht : t.val % 4 = 3) (y) :
    (outsAt0 m c t.val t.isLt).1 y = REF (m ((c : Thread nD τ).loc main_arg0)) (m ((c : Thread nD τ).loc main_arg1))
      (m ((c : Thread nD τ).loc main_arg2)) (m ((c : Thread nD τ).loc main_arg3)) (((cfg0.win 4).blk t).view.emb y) := by
  rw [Pipeline.eq_sum_fin_of_reset_step_apply_of_flush (fun n h => (outsAt0 m c n h).1) 4 (fun _ => (0 : EReal))
    (fun p j => ((if p.val % 4 = 0 then (iblk m c 0 p : FVec Ideal S1x512x2048 .f32) j else 0 : EReal))
      + part (iblk m c 0 p) (iblk m c 1 p) (iblk m c 2 p) (iblk m c 3 p) j)
    (fun t h j => by
      rw [outsAt0_A m c t h]; frame_out; rw [hpay, hinit, if_pos h, zero_add])
    (fun t h j => by
      have hn := norm_blk m c (t.val - 1) (Nat.lt_of_le_of_lt (Nat.sub_le _ _) t.isLt)
      have e0 : (iblk m c 0 ⟨t.val - 1, Nat.lt_of_le_of_lt (Nat.sub_le _ _) t.isLt⟩ : FVec Ideal S1x512x2048 .f32) = iblk m c 0 t := by
        funext y
        idx_vars y
        blk_ext [iblk, V, idx ⟨t.val - 1, Nat.lt_of_le_of_lt (Nat.sub_le _ _) t.isLt⟩, idx t]
      have e1 : (iblk m c 1 ⟨t.val - 1, Nat.lt_of_le_of_lt (Nat.sub_le _ _) t.isLt⟩ : FVec Ideal S1x2048 .f32) = iblk m c 1 t := by
        funext y
        idx_vars y
        blk_ext [iblk, V, idx ⟨t.val - 1, Nat.lt_of_le_of_lt (Nat.sub_le _ _) t.isLt⟩, idx t]
      rw [e0, e1] at hn
      rw [outsAt0_B m c t h]; frame_out
      simp only [read_unread_whole]
      rw [hpay, if_neg h, zero_add, hn])
    t ht _, zero_add]
  have hb := fun s : Fin 4 => idx ⟨_, Pipeline.run_point_lt_of_flush t ht s⟩
  have hA : (∑ s : Fin 4, (if (4 * (t.val / 4) + s.val) % 4 = 0 then
      (iblk m c 0 ⟨4 * (t.val / 4) + s.val, Pipeline.run_point_lt_of_flush t ht s⟩ : FVec Ideal S1x512x2048 .f32) y else 0 : EReal))
      = (iblk m c 0 t : FVec Ideal S1x512x2048 .f32) y := by
    rw [Fin.sum_univ_four, if_pos (by simp), if_neg (by simp [Nat.add_mod]), if_neg (by simp [Nat.add_mod]), if_neg (by simp [Nat.add_mod]), add_zero, add_zero, add_zero]
    idx_vars y
    blk_ext [iblk, V, hb 0, idx t]
  refine Eq.trans Finset.sum_add_distrib ?_
  refine Eq.trans (congrArg₂ (· + ·) hA rfl) ?_
  idx_vars y
  obtain rfl : y0 = 0 := Subsingleton.elim _ _
  simp only [part]
  pointwise [REF, RUP, RNORM]
  refine congrArg₂ (fun a b : EReal => a + b) ?_ ?_
  · blk_ext [iblk, V, idx t]
  · refine Fin.sum_mul_add_congr fun s k hl => ?_
    refine Eq.trans (term_at (iblk m c 0 ⟨4 * (t.val / 4) + s.val, Pipeline.run_point_lt_of_flush t ht s⟩)
      (iblk m c 1 ⟨4 * (t.val / 4) + s.val, Pipeline.run_point_lt_of_flush t ht s⟩)
      (iblk m c 2 ⟨4 * (t.val / 4) + s.val, Pipeline.run_point_lt_of_flush t ht s⟩)
      (iblk m c 3 ⟨4 * (t.val / 4) + s.val, Pipeline.run_point_lt_of_flush t ht s⟩) y1 k y2) ?_
    blk_point [iblk, V, idx t, hb s]

/-- The result array after the run is the plain block of the argument arrays. -/
theorem final (c : Dev nD) : (dats m 0 c).arrAt 4 cfg0.N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  exact outs_sum m c t ((flush0_4 t).mp hf) y

end Cert.FfnSIdeal.Blk

/-- At exact arithmetic the feed-forward kernel and the plain block leave the same array. -/
theorem Cert.FfnSIdeal.Blk.algebraic : Cert.algebraic_FfnSIdeal_FfnSRefIdeal := fun m ρ m' ρ' _ hag =>
  ⟨fun c => Cert.FfnSIdeal.Blk.REF (m ((c.tc : Thread Cert.FfnSIdeal.nD Cert.FfnSIdeal.τ).loc Cert.FfnSIdeal.main_arg0))
      (m ((c.tc : Thread Cert.FfnSIdeal.nD Cert.FfnSIdeal.τ).loc Cert.FfnSIdeal.main_arg1))
      (m ((c.tc : Thread Cert.FfnSIdeal.nD Cert.FfnSIdeal.τ).loc Cert.FfnSIdeal.main_arg2))
      (m ((c.tc : Thread Cert.FfnSIdeal.nD Cert.FfnSIdeal.τ).loc Cert.FfnSIdeal.main_arg3)),
    (θ_run Cert.FfnSIdeal.defs _ _).mono (fun _ h c => ⟨(h c).1.trans (Cert.FfnSIdeal.Blk.final m c), (h c).2⟩)
      (Cert.FfnSIdeal.Value.run_blocks (F := Ideal) m ρ),
    (θ_run Cert.FfnSRefIdeal.defs _ _).mono (fun _ h c => ⟨(h c).1.trans (by
        rw [(hag c).1, (hag c).2.1, (hag c).2.2.1, (hag c).2.2.2]), (h c).2⟩)
      (Cert.FfnSRefIdeal.Value.run (F := Ideal) m' ρ')⟩
-- ==== Proof.MergeSValue.lean ====
module

public import proofs.«01_k».proof.Defs
public import proofs.«01_k».proof.Proof.Gen.MergeSIdeal.Value
public import proofs.«01_k».proof.Proof.Gen.MergeSRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeSIdeal.Proj

open Cert.MergeSIdeal Cert.MergeSIdeal.Gen

variable (m : (ℓ : Loc nD τ sig) → Buf (Elt Ideal) ℓ)

/-- The output projection with its residual: the two mixers' outputs side by side, times the weight, added onto the
    residual stream. -/
abbrev REF (x : FVec Ideal S1x512x2048 .f32) (oa ob : FVec Ideal S1x512x1024 .f32) (w : FVec Ideal S2048x2048 .f32) :
    FVec Ideal S1x512x2048 .f32 :=
  addf x (Host.dotGeneral Cert.MergeSRefIdeal.dot_S1x512x2048_S2048x2048_S1x512x2048_2_0_01_1_n_n none
    (concatenate S1x512x2048 2 [⟨S1x512x1024, oa⟩, ⟨S1x512x1024, ob⟩]
      Cert.MergeSRefIdeal.Gen.concatenates_S1x512x1024_S1x512x1024_S1x512x2048_d2) w)

/-- Where each window's block sits at a grid point. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![0, 0]
    ∧ win0_4.index t = ![(grid0.coords t 0).val, (grid0.coords t 1).val, 0] :=
  (by decide +kernel : ∀ t : Fin grid0.N, _)

/-- What a grid point stores is its block of the projection: the sum over the joined columns is the sum over the
    first half plus the sum over the second. -/
theorem point (c : Dev nD) (t : Fin cfg0.N) (y) :
    out0_4 (iblk m c 0 t) (iblk m c 1 t) (iblk m c 2 t) (iblk m c 3 t) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  frame_out
  idx_vars y
  pointwise [k0_pay1, REF]
  rw [add_assoc]
  blk_point [iblk, V, idx t]

/-- The result array after the run is the projection of the argument arrays. -/
theorem final (c : Dev nD) : (dats m 0 c).arrAt 4 cfg0.N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  exact point m c t y

end Cert.MergeSIdeal.Proj

/-- At exact arithmetic the projection kernel and the plain projection leave the same array. -/
theorem Cert.MergeSIdeal.Proj.algebraic : Cert.algebraic_MergeSIdeal_MergeSRefIdeal := fun m ρ m' ρ' _ hag =>
  ⟨fun c => Cert.MergeSIdeal.Proj.REF (m ((c.tc : Thread Cert.MergeSIdeal.nD Cert.MergeSIdeal.τ).loc Cert.MergeSIdeal.main_arg0))
      (m ((c.tc : Thread Cert.MergeSIdeal.nD Cert.MergeSIdeal.τ).loc Cert.MergeSIdeal.main_arg1))
      (m ((c.tc : Thread Cert.MergeSIdeal.nD Cert.MergeSIdeal.τ).loc Cert.MergeSIdeal.main_arg2))
      (m ((c.tc : Thread Cert.MergeSIdeal.nD Cert.MergeSIdeal.τ).loc Cert.MergeSIdeal.main_arg3)),
    (θ_run Cert.MergeSIdeal.defs _ _).mono (fun _ h c => ⟨(h c).1.trans (Cert.MergeSIdeal.Proj.final m c), (h c).2⟩)
      (Cert.MergeSIdeal.Value.run_blocks (F := Ideal) m ρ),
    (θ_run Cert.MergeSRefIdeal.defs _ _).mono (fun _ h c => ⟨(h c).1.trans (by
        rw [(hag c).1, (hag c).2.1, (hag c).2.2.1, (hag c).2.2.2]), (h c).2⟩)
      (Cert.MergeSRefIdeal.Value.run (F := Ideal) m' ρ')⟩
-- ==== Proof.FlashFinite.lean ====
module

public import proofs.«01_k».proof.Defs
public import Idealize.ShloMosaic.Lib.Affine
public import Idealize.ShloMosaic.Lib.Pointwise

@[expose] public section

set_option maxRecDepth 16384

noncomputable section

open Idealize.ShloMosaic

namespace Cert.Pre_finite

/-- The shape relations the finiteness test takes. -/
instance facts : Cert.Pre_finite.Facts where
  bcast_S_S2x8192x8x192 := by decide
  reducesTo_S2x8192x8x192_S_d0_1_2_3 := by decide
  h_S_ := by decide

/-- Plus infinity. -/
theorem pinf : Ideal.ofBits FTy.f32 0x7F800000#32 = ⊤ := by
  simp [Ideal.ofBits, Ideal.ieee]

/-- A value below infinity in absolute value is a real number. -/
theorem real_of_test (x : EReal) (h : Ideal.cmp .olt (max x (-x)) (Ideal.ofBits FTy.f32 0x7F800000#32) = 1#1) : ∃ r : ℝ, x = (r : EReal) := by
  rw [pinf] at h
  induction x using EReal.rec with
  | bot => simp [Ideal.cmp] at h
  | coe r => exact ⟨r, rfl⟩
  | top => simp [Ideal.cmp] at h

/-- A conjunction over every element that comes out true is true at each of them. -/
theorem all_of_reduce (x : IVec S2x8192x8x192 1) (init : IVec S_ 1) (h : S2x8192x8x192.ReducesTo [0, 1, 2, 3] S_) (hu : 0 < S_.numel)
    (j : S_.Idx) (e : Host.reduce IntOp.andi x init h hu j = 1#1) (y : S2x8192x8x192.Idx) : x y = 1#1 := by
  rw [Host.reduce_eq_fold] at e
  have hr := (Finset.fold_op_rel_iff_and (op := IntOp.andi) (r := fun _ z : BitVec 1 => z = 1#1) (s := Finset.univ.filter fun i => h.drop i = j)
    (f := x) (b := init (Shape.Idx.first hu)) (fun {_ a b} => by revert a b; decide) (c := 0#1)).mp e
  exact hr.2 y (Finset.mem_filter.mpr ⟨Finset.mem_univ _, funext fun a => a.elim0⟩)

/-- The test at one array: every element is a real number. -/
theorem reals (q : FVec Ideal S2x8192x8x192 .f32) (init : IVec S_ 1) (h : S2x8192x8x192.ReducesTo [0, 1, 2, 3] S_) (hu : 0 < S_.numel)
    (hb : S_.BroadcastsInDim S2x8192x8x192 (![] : Fin 0 → Fin S2x8192x8x192.rank)) (j : S_.Idx)
    (e : Host.reduce IntOp.andi (cmpf .olt (Host.absf q) (broadcastInDim S2x8192x8x192 ![] hb (constant S_ .f32 0x7F800000#32))) init h hu j = 1#1) :
    ∃ r : S2x8192x8x192.Idx → ℝ, ∀ y, (q y : EReal) = (r y : EReal) := by
  have hy : ∀ y, ∃ r : ℝ, (q y : EReal) = (r : EReal) := fun y => real_of_test _ (all_of_reduce _ init h hu j e y)
  choose r hr using hy
  exact ⟨r, hr⟩

/-- The precondition says the queries and the keys are arrays of real numbers. -/
theorem reals_of_fn (q k : FVec Ideal S2x8192x8x192 .f32) (v : FVec Ideal S2x8192x8x128 .f32) (gq gk : FVec Ideal S192 .f32)
    (wo : FVec Ideal S2048x2048 .f32) (wu : FVec Ideal S2048x8192 .f32) (wd : FVec Ideal S8192x2048 .f32)
    (h : fn q k v gq gk wo wu wd = fun _ => 1#1) :
    (∃ r : S2x8192x8x192.Idx → ℝ, ∀ y, (q y : EReal) = (r y : EReal)) ∧ ∃ r : S2x8192x8x192.Idx → ℝ, ∀ y, (k y : EReal) = (r y : EReal) := by
  have h0 := congrFun h (Shape.Idx.first Facts.h_S_)
  obtain ⟨ha, hb⟩ := IntOp.andi_eq_one.mp h0
  exact ⟨reals q _ _ _ _ _ ha, reals k _ _ _ _ _ hb⟩

end Cert.Pre_finite

end
-- ==== Proof.FlashCore.lean ====
module

public import Idealize.ShloMosaic.Lib.Pipeline.ValueKit
public import Idealize.ShloMosaic.Lib.Pointwise

@[expose] public section

set_option maxRecDepth 16384

noncomputable section

open Idealize.ShloMosaic

namespace Cert.FlashCore

/-- A nonnegative real factor goes into a finite sum of extended reals. -/
theorem coe_mul_sum {ι : Type} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- A sum of real numbers, read in the extended reals. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- Dividing reals, the divisor not zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- Weights up to a positive factor: the weighted sum over the sum of the weights does not see the factor. -/
theorem weighted {ι : Type} (s : Finset ι) (v : ι → EReal) (w : ι → ℝ) (hw : ∀ k ∈ s, 0 ≤ w k)
    (hW : 0 < ∑ k ∈ s, w k) (A B : ℝ) (hA : 0 < A) (hB : 0 < B) :
    Ideal.div (∑ k ∈ s, v k * ((A * w k : ℝ) : EReal)) (∑ k ∈ s, ((A * w k : ℝ) : EReal))
      = ∑ k ∈ s, v k * Ideal.div ((B * w k : ℝ) : EReal) (∑ j ∈ s, ((B * w j : ℝ) : EReal)) := by
  rw [sum_coe, sum_coe, ← Finset.mul_sum, ← Finset.mul_sum]
  have hA' : A * ∑ k ∈ s, w k ≠ 0 := (mul_pos hA hW).ne'
  have hB' : B * ∑ k ∈ s, w k ≠ 0 := (mul_pos hB hW).ne'
  have e : ∀ x : EReal, Ideal.div x ((A * ∑ k ∈ s, w k : ℝ) : EReal) = (((A * ∑ k ∈ s, w k)⁻¹ : ℝ) : EReal) * x := by
    intro x
    unfold Ideal.div
    rw [if_neg (by exact_mod_cast hA'), ← EReal.coe_inv, mul_comm]
  rw [e, coe_mul_sum _ _ (inv_nonneg.mpr (mul_pos hA hW).le)]
  refine Finset.sum_congr rfl fun k _ => ?_
  rw [div_coe _ _ hB', mul_left_comm, ← EReal.coe_mul]
  congr 2
  field_simp

/-- The exponential of a visible score less a real number, and of a masked one. -/
theorem exp_masked (p : Prop) [Decidable p] (x M : ℝ) :
    Ideal.exp ((if p then (x : EReal) else ⊥) - (M : EReal))
      = ((Real.exp (-M) * (if p then Real.exp x else 0) : ℝ) : EReal) := by
  by_cases h : p
  · rw [if_pos h, if_pos h, ← EReal.coe_sub]
    show ((Real.exp (x - M) : ℝ) : EReal) = _
    rw [← Real.exp_add, neg_add_eq_sub]
  · rw [if_neg h, if_neg h, mul_zero, EReal.bot_sub]
    rfl

/-- The power of two of a visible score that was divided by the logarithm of two and shifted, and of a masked one. -/
theorem exp2_masked (p : Prop) [Decidable p] (x σ : ℝ) :
    Ideal.exp2 (if p then ((x / Real.log 2 - σ : ℝ) : EReal) else ⊥)
      = (((2 : ℝ) ^ (-σ) * (if p then Real.exp x else 0) : ℝ) : EReal) := by
  by_cases h : p
  · rw [if_pos h, if_pos h]
    show ((Real.rpow 2 (x / Real.log 2 - σ) : ℝ) : EReal) = _
    congr 1
    show (2 : ℝ) ^ (x / Real.log 2 - σ) = _
    have h2 : Real.log 2 ≠ 0 := (Real.log_pos (by norm_num)).ne'
    rw [sub_eq_neg_add, Real.rpow_add (by norm_num), Real.rpow_def_of_pos (by norm_num : (0:ℝ) < 2) (x / Real.log 2),
      mul_div_cancel₀ _ h2]
  · rw [if_neg h, if_neg h, mul_zero]
    rfl

/-- Softmax attention of one query. On the left, weights are powers of two of shifted scores and the division comes
    last; on the right they are exponentials of the scores less a real number, each divided by their sum. Masked keys
    weigh nothing. Values may be infinite. -/
theorem softmax {n : ℕ} (v : Fin n → EReal) (x : Fin n → ℝ) (vis : Fin n → Prop) [DecidablePred vis] (k₀ : Fin n)
    (hk₀ : vis k₀) (σ M : ℝ) :
    Ideal.div (∑ k, v k * Ideal.exp2 (if vis k then ((x k / Real.log 2 - σ : ℝ) : EReal) else ⊥))
        (∑ k, Ideal.exp2 (if vis k then ((x k / Real.log 2 - σ : ℝ) : EReal) else ⊥))
      = ∑ k, v k * Ideal.div (Ideal.exp ((if vis k then (x k : EReal) else ⊥) - (M : EReal)))
          (∑ j, Ideal.exp ((if vis j then (x j : EReal) else ⊥) - (M : EReal))) := by
  simp only [exp2_masked, exp_masked]
  refine weighted _ v (fun k => if vis k then Real.exp (x k) else 0) (fun k _ => ?_) ?_ _ _
    (Real.rpow_pos_of_pos (by norm_num) _) (Real.exp_pos _)
  · split
    · exact (Real.exp_pos _).le
    · exact le_rfl
  · refine lt_of_lt_of_le ?_ (Finset.single_le_sum (f := fun k => if vis k then Real.exp (x k) else 0)
      (fun k _ => ?_) (Finset.mem_univ k₀))
    · rw [if_pos hk₀]; exact Real.exp_pos _
    · split
      · exact (Real.exp_pos _).le
      · exact le_rfl

/-- The largest of finitely many scores, masked ones counted as minus infinity, is real when one is visible. -/
theorem fold_max_real {n : ℕ} (x : Fin n → ℝ) (vis : Fin n → Prop) [DecidablePred vis] (k₀ : Fin n) (hk₀ : vis k₀) :
    ∃ M : ℝ, max (⊥ : EReal) (Finset.univ.fold max ⊥ fun k => if vis k then (x k : EReal) else ⊥) = (M : EReal) := by
  have hne : (Finset.univ.fold max (⊥ : EReal) fun k => if vis k then (x k : EReal) else ⊥) ≠ ⊤ := by
    have : (Finset.univ.fold max (⊥ : EReal) fun k => if vis k then (x k : EReal) else ⊥) < ⊤ := by
      rw [Finset.fold_max_lt]
      refine ⟨bot_lt_top, fun k _ => ?_⟩
      split
      · exact EReal.coe_lt_top _
      · exact bot_lt_top
    exact this.ne
  have hnb : (Finset.univ.fold max (⊥ : EReal) fun k => if vis k then (x k : EReal) else ⊥) ≠ ⊥ := by
    have : (⊥ : EReal) < (Finset.univ.fold max (⊥ : EReal) fun k => if vis k then (x k : EReal) else ⊥) := by
      rw [Finset.lt_fold_max]
      exact Or.inr ⟨k₀, Finset.mem_univ _, by rw [if_pos hk₀]; exact EReal.bot_lt_coe _⟩
    exact this.ne'
  rw [max_eq_right bot_le]
  exact ⟨_, (EReal.coe_toReal hne hnb).symm⟩

/-- One more tile of a running sum: the sum over the naturals below `N`, and the next `w` terms. -/
theorem tile (T : ℕ → EReal) (N w : ℕ) (g : Fin w → EReal) (hg : ∀ x : Fin w, g x = T (N + x.val)) :
    ∑ n ∈ Finset.range N, T n + ∑ x, g x = ∑ n ∈ Finset.range (N + w), T n := by
  rw [Finset.sum_range_add, Finset.sum_range (fun x => T (N + x))]
  exact congrArg _ (Finset.sum_congr rfl fun x _ => hg x)

/-- A tile whose terms all vanish leaves the running sum. -/
theorem tile_zero (T : ℕ → EReal) (N w : ℕ) (h : ∀ x < w, T (N + x) = 0) :
    ∑ n ∈ Finset.range N, T n = ∑ n ∈ Finset.range (N + w), T n := by
  rw [Finset.sum_range_add, Finset.sum_eq_zero (s := Finset.range w) fun x hx => h x (Finset.mem_range.mp hx), add_zero]

/-- A product of reals summed in the extended reals: the scale on one factor comes out of the sum. -/
theorem scaled_dot {n : ℕ} (q k : Fin n → ℝ) (c : ℝ) :
    ∑ d, ((q d * c : ℝ) : EReal) * (k d : EReal) = (((∑ d, q d * k d) * c : ℝ) : EReal) := by
  simp only [← EReal.coe_mul]
  rw [sum_coe, Finset.sum_mul]
  congr 1
  exact Finset.sum_congr rfl fun d _ => by ring

end Cert.FlashCore
-- ==== Proof.FlashPay.lean ====
module

public import proofs.«01_k».proof.Proof.Gen.KernelIdeal.Value
public import proofs.«01_k».proof.Proof.FlashCore
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen

/-! ## The chunk mask -/

/-- The chunk number of a position, as the kernel computes it with 32-bit words. -/
abbrev chunk (a : BitVec 32) : BitVec 32 :=
  Scalar.select
    (IntOp.andi
      (IntOp.cmpi CmpIPredicate.ne
        (IntOp.subi (BitVec.setWidth 32 (IntOp.cmpi CmpIPredicate.sgt a 0#32))
          (BitVec.setWidth 32 (IntOp.cmpi CmpIPredicate.slt a 0#32)))
        1#32)
      (IntOp.cmpi CmpIPredicate.ne (IntOp.remsi ArithUnit.vector a 64#32) 0#32))
    (IntOp.subi (IntOp.divsi ArithUnit.vector a 64#32) 1#32)
    (IntOp.divsi ArithUnit.vector a 64#32)

/-- On positions below 1024 that is the position over 64. -/
theorem chunk_eq : ∀ n : Fin 1024, chunk (BitVec.ofNat 32 n.val) = BitVec.ofNat 32 (n.val / 64) := by
  decide +kernel

/-- Comparing two small chunk numbers as signed words compares the numbers. -/
theorem sle_small : ∀ a b : Fin 16, (IntOp.cmpi CmpIPredicate.sle (BitVec.ofNat 32 a.val) (BitVec.ofNat 32 b.val) = 1#1)
    = (a.val ≤ b.val) := by
  decide +kernel

/-- The kernel's comparison of the chunks of two positions below 1024. -/
theorem sle_chunk (k x : ℕ) (hk : k < 1024) (hx : x < 1024) :
    (IntOp.cmpi CmpIPredicate.sle (chunk (BitVec.ofNat 32 k)) (chunk (BitVec.ofNat 32 x)) = 1#1) = (k / 64 ≤ x / 64) := by
  rw [chunk_eq ⟨k, hk⟩, chunk_eq ⟨x, hx⟩]
  exact sle_small ⟨k / 64, by omega⟩ ⟨x / 64, by omega⟩

/-- The first diagonal tile's mask at a key and a query of the tile. -/
theorem mask0 (k : Fin 256) (x : Fin 1024) :
    ((cmpi CmpIPredicate.sle kernelRun0_A.sl.v71 kernelRun0_A.sl.v46) (ix2 k x) = 1#1) = (k.val / 64 ≤ x.val / 64) := by
  rw [← sle_chunk k.val x.val (by omega) (by omega)]
  sl_unfold_run_names
  simp [chunk, cmpi, select, andi, divsi, remsi, subi, iota, extui, broadcast, ix2]

/-- The second diagonal tile's mask. -/
theorem mask1 (k : Fin 256) (x : Fin 768) :
    ((cmpi CmpIPredicate.sle kernelRun0_A.sl.v125 kernelRun0_A.sl.v100) (ix2 k x) = 1#1) = (k.val / 64 ≤ x.val / 64) := by
  rw [← sle_chunk k.val x.val (by omega) (by omega)]
  sl_unfold_run_names
  simp [chunk, cmpi, select, andi, divsi, remsi, subi, iota, extui, broadcast, ix2]

/-- The third diagonal tile's mask. -/
theorem mask2 (k : Fin 256) (x : Fin 512) :
    ((cmpi CmpIPredicate.sle kernelRun0_A.sl.v179 kernelRun0_A.sl.v154) (ix2 k x) = 1#1) = (k.val / 64 ≤ x.val / 64) := by
  rw [← sle_chunk k.val x.val (by omega) (by omega)]
  sl_unfold_run_names
  simp [chunk, cmpi, select, andi, divsi, remsi, subi, iota, extui, broadcast, ix2]

/-- The last diagonal tile's mask. -/
theorem mask3 (k : Fin 256) (x : Fin 256) :
    ((cmpi CmpIPredicate.sle kernelRun0_A.sl.v233 kernelRun0_A.sl.v208) (ix2 k x) = 1#1) = (k.val / 64 ≤ x.val / 64) := by
  rw [← sle_chunk k.val x.val (by omega) (by omega)]
  sl_unfold_run_names
  simp [chunk, cmpi, select, andi, divsi, remsi, subi, iota, extui, broadcast, ix2]

/-! ## What the body computes from its loads, at an element -/

/-- The unmasked step on the weights' sums. -/
theorem l_trip0 (a b : FVec Ideal S1x1x1024x256 .bf16) (l : FVec Ideal S1x1x1024 .f32) (x : Fin 1024) :
    k0_pay4 (F := Ideal) a b l (ix3 0 0 x) = (l (ix3 0 0 x) : EReal)
      + ∑ k : Fin 1024, Ideal.exp2 (∑ d : Fin 256, (a (ix4 0 0 k d) : EReal) * b (ix4 0 0 x d)) := by
  pointwise [k0_pay4, k0_pay3]
  rfl

theorem l_trip1 (a b : FVec Ideal S1x1x1024x256 .bf16) (l : FVec Ideal S1x1x1024 .f32) (x : Fin 1024) :
    k0_pay18 (F := Ideal) (k0_pay1 a b) l (ix3 0 0 x) = (l (ix3 0 0 x) : EReal)
      + ∑ k : Fin 1024, Ideal.exp2 (∑ d : Fin 256, (a (ix4 0 0 k d) : EReal) * b (ix4 0 0 x d)) := by
  pointwise [k0_pay18, k0_pay17, k0_pay1]
  rfl

/-- The unmasked step on the weighted values. -/
theorem a_trip0 (a b : FVec Ideal S1x1x1024x256 .bf16) (v : FVec Ideal S1x1x128x1024 .bf16)
    (l : FVec Ideal S1x128x1024 .f32) (j : Fin 128) (x : Fin 1024) :
    k0_pay16 (F := Ideal) (k0_pay2 v) (k0_pay3 a b) (k0_pay5 l) (ix3 0 j x) = (l (ix3 0 j x) : EReal)
      + ∑ k : Fin 1024, (v (ix4 0 0 j k) : EReal) * Ideal.exp2 (∑ d : Fin 256, (a (ix4 0 0 k d) : EReal) * b (ix4 0 0 x d)) := by
  pointwise [k0_pay16, k0_pay2, k0_pay3, k0_pay5]
  rfl

theorem a_trip1 (a b : FVec Ideal S1x1x1024x256 .bf16) (v : FVec Ideal S1x1x128x1024 .bf16)
    (l : FVec Ideal S1x128x1024 .f32) (j : Fin 128) (x : Fin 1024) :
    k0_pay19 (F := Ideal) (k0_pay1 a b) v l (ix3 0 j x) = (l (ix3 0 j x) : EReal)
      + ∑ k : Fin 1024, (v (ix4 0 0 j k) : EReal) * Ideal.exp2 (∑ d : Fin 256, (a (ix4 0 0 k d) : EReal) * b (ix4 0 0 x d)) := by
  pointwise [k0_pay19, k0_pay17, k0_pay1]
  rfl

/-- A masked weight at a key and a query. -/
abbrev wgt {n w : ℕ} (m : IVec ⟨2, ![n, w]⟩ 1) (s : FVec Ideal ⟨2, ![n, w]⟩ .f32) (k : Fin n) (x : Fin w) : EReal :=
  Ideal.exp2 (if m (ix2 k x) = 1#1 then s (ix2 k x) else ⊥)

/-- First diagonal tile, first head: the weights' sums. -/
theorem l_diag0 (m : IVec S256x1024 1) (s : FVec Ideal S256x1024 .f32) (l : FVec Ideal S1x1x1024 .f32) (x : Fin 1024) :
    k0_pay55 (F := Ideal) m s l (ix3 0 0 x) = (l (ix3 0 0 x) : EReal) + ∑ k : Fin 256, wgt m s k x := by
  pointwise [k0_pay55, k0_pay54]
  rfl

/-- First diagonal tile, first head: the weighted values. -/
theorem a_diag0 (m : IVec S256x1024 1) (s : FVec Ideal S256x1024 .f32) (v : FVec Ideal S1x1x128x256 .bf16)
    (l : FVec Ideal S1x128x1024 .f32) (j : Fin 128) (x : Fin 1024) :
    k0_pay57 (F := Ideal) (k0_pay53 v) (k0_pay54 m s) (k0_pay56 l) (ix3 0 j x) = (l (ix3 0 j x) : EReal) + ∑ k : Fin 256, (v (ix4 0 0 j k) : EReal) * wgt m s k x := by
  pointwise [k0_pay57, k0_pay53, k0_pay54, k0_pay56]
  rfl

/-- First diagonal tile, second head: the weights' sums. -/
theorem l_diag0b (m : IVec S256x1024 1) (s : FVec Ideal S256x1024 .f32) (l : FVec Ideal S1x1x1024 .f32) (x : Fin 1024) :
    k0_pay59 (F := Ideal) m s l (ix3 0 0 x) = (l (ix3 0 0 x) : EReal) + ∑ k : Fin 256, wgt m s k x := by
  pointwise [k0_pay59, k0_pay58]
  rfl

/-- First diagonal tile, second head: the weighted values. -/
theorem a_diag0b (m : IVec S256x1024 1) (s : FVec Ideal S256x1024 .f32) (v : FVec Ideal S1x1x128x256 .bf16)
    (l : FVec Ideal S1x128x1024 .f32) (j : Fin 128) (x : Fin 1024) :
    k0_pay60 (F := Ideal) m s v l (ix3 0 j x) = (l (ix3 0 j x) : EReal) + ∑ k : Fin 256, (v (ix4 0 0 j k) : EReal) * wgt m s k x := by
  pointwise [k0_pay60, k0_pay58]
  rfl

/-- Second diagonal tile, first head: the weights' sums. -/
theorem l_diag1 (m : IVec S256x768 1) (s : FVec Ideal S256x768 .f32) (l : FVec Ideal S1x1x768 .f32) (x : Fin 768) :
    k0_pay63 (F := Ideal) (k0_pay61 m s) l (ix3 0 0 x) = (l (ix3 0 0 x) : EReal) + ∑ k : Fin 256, wgt m s k x := by
  pointwise [k0_pay63, k0_pay62, k0_pay61]
  rfl

/-- Second diagonal tile, first head: the weighted values. -/
theorem a_diag1 (m : IVec S256x768 1) (s : FVec Ideal S256x768 .f32) (v : FVec Ideal S1x1x128x256 .bf16)
    (l : FVec Ideal S1x128x768 .f32) (j : Fin 128) (x : Fin 768) :
    k0_pay64 (F := Ideal) (k0_pay61 m s) v l (ix3 0 j x) = (l (ix3 0 j x) : EReal) + ∑ k : Fin 256, (v (ix4 0 0 j k) : EReal) * wgt m s k x := by
  pointwise [k0_pay64, k0_pay62, k0_pay61]
  rfl

/-- Second diagonal tile, second head: the weights' sums. -/
theorem l_diag1b (m : IVec S256x768 1) (s : FVec Ideal S256x768 .f32) (l : FVec Ideal S1x1x768 .f32) (x : Fin 768) :
    k0_pay67 (F := Ideal) m s l (ix3 0 0 x) = (l (ix3 0 0 x) : EReal) + ∑ k : Fin 256, wgt m s k x := by
  pointwise [k0_pay67, k0_pay66]
  rfl

/-- Second diagonal tile, second head: the weighted values. -/
theorem a_diag1b (m : IVec S256x768 1) (s : FVec Ideal S256x768 .f32) (v : FVec Ideal S1x1x128x256 .bf16)
    (l : FVec Ideal S1x128x768 .f32) (j : Fin 128) (x : Fin 768) :
    k0_pay68 (F := Ideal) (k0_pay65 v) (k0_pay66 m s) l (ix3 0 j x) = (l (ix3 0 j x) : EReal) + ∑ k : Fin 256, (v (ix4 0 0 j k) : EReal) * wgt m s k x := by
  pointwise [k0_pay68, k0_pay66, k0_pay65]
  rfl

/-- Third diagonal tile, first head: the weights' sums. -/
theorem l_diag2 (m : IVec S256x512 1) (s : FVec Ideal S256x512 .f32) (l : FVec Ideal S1x1x512 .f32) (x : Fin 512) :
    k0_pay70 (F := Ideal) m s l (ix3 0 0 x) = (l (ix3 0 0 x) : EReal) + ∑ k : Fin 256, wgt m s k x := by
  pointwise [k0_pay70, k0_pay69]
  rfl

/-- Third diagonal tile, first head: the weighted values. -/
theorem a_diag2 (m : IVec S256x512 1) (s : FVec Ideal S256x512 .f32) (v : FVec Ideal S1x1x128x256 .bf16)
    (l : FVec Ideal S1x128x512 .f32) (j : Fin 128) (x : Fin 512) :
    k0_pay71 (F := Ideal) m s v l (ix3 0 j x) = (l (ix3 0 j x) : EReal) + ∑ k : Fin 256, (v (ix4 0 0 j k) : EReal) * wgt m s k x := by
  pointwise [k0_pay71, k0_pay69]
  rfl

/-- Third diagonal tile, second head: the weights' sums. -/
theorem l_diag2b (m : IVec S256x512 1) (s : FVec Ideal S256x512 .f32) (l : FVec Ideal S1x1x512 .f32) (x : Fin 512) :
    k0_pay73 (F := Ideal) m s kernelRun0_A.sl.cst_230 l (ix3 0 0 x) = (l (ix3 0 0 x) : EReal) + ∑ k : Fin 256, wgt m s k x := by
  pointwise [k0_pay73, k0_pay72, kernelRun0_A.sl.cst_230]
  rfl

/-- Third diagonal tile, second head: the weighted values. -/
theorem a_diag2b (m : IVec S256x512 1) (s : FVec Ideal S256x512 .f32) (v : FVec Ideal S1x1x128x256 .bf16)
    (l : FVec Ideal S1x128x512 .f32) (j : Fin 128) (x : Fin 512) :
    k0_pay74 (F := Ideal) m s kernelRun0_A.sl.cst_230 v l (ix3 0 j x) = (l (ix3 0 j x) : EReal) + ∑ k : Fin 256, (v (ix4 0 0 j k) : EReal) * wgt m s k x := by
  pointwise [k0_pay74, k0_pay72, kernelRun0_A.sl.cst_230]
  rfl

/-- Last diagonal tile, first head: the weights' sums. -/
theorem l_diag3 (m : IVec S256x256 1) (s : FVec Ideal S256x256 .f32) (l : FVec Ideal S1x1x256 .f32) (x : Fin 256) :
    k0_pay78 (F := Ideal) (k0_pay77 m s l) (ix3 0 0 x) = (l (ix3 0 0 x) : EReal) + ∑ k : Fin 256, wgt m s k x := by
  pointwise [k0_pay78, k0_pay77, k0_pay76]
  rfl

/-- Last diagonal tile, first head: the weighted values. -/
theorem a_diag3 (m : IVec S256x256 1) (s : FVec Ideal S256x256 .f32) (v : FVec Ideal S1x1x128x256 .bf16)
    (l : FVec Ideal S1x128x256 .f32) (j : Fin 128) (x : Fin 256) :
    k0_pay79 (F := Ideal) (k0_pay75 v) (k0_pay76 m s) l (ix3 0 j x) = (l (ix3 0 j x) : EReal) + ∑ k : Fin 256, (v (ix4 0 0 j k) : EReal) * wgt m s k x := by
  pointwise [k0_pay79, k0_pay76, k0_pay75]
  rfl

/-- Last diagonal tile, second head: the weights' sums. -/
theorem l_diag3b (m : IVec S256x256 1) (s : FVec Ideal S256x256 .f32) (l : FVec Ideal S1x1x256 .f32) (x : Fin 256) :
    k0_pay81 (F := Ideal) m s l (ix3 0 0 x) = (l (ix3 0 0 x) : EReal) + ∑ k : Fin 256, wgt m s k x := by
  pointwise [k0_pay81, k0_pay80]
  rfl

/-- Last diagonal tile, second head: the weighted values. -/
theorem a_diag3b (m : IVec S256x256 1) (s : FVec Ideal S256x256 .f32) (v : FVec Ideal S1x1x128x256 .bf16)
    (l : FVec Ideal S1x128x256 .f32) (j : Fin 128) (x : Fin 256) :
    k0_pay83 (F := Ideal) (k0_pay82 m s v l) (ix3 0 j x) = (l (ix3 0 j x) : EReal) + ∑ k : Fin 256, (v (ix4 0 0 j k) : EReal) * wgt m s k x := by
  pointwise [k0_pay83, k0_pay82, k0_pay80]
  rfl

/-! ## The products of the diagonal tiles -/

theorem s_42 (a : FVec Ideal S1x1x256x256 .bf16) (b : FVec Ideal S1x1x1024x256 .bf16) (k : Fin 256) (x : Fin 1024) :
    k0_pay42 (F := Ideal) a b (ix2 k x) = ∑ d : Fin 256, (a (ix4 0 0 k d) : EReal) * b (ix4 0 0 x d) := by
  pointwise [k0_pay42]

theorem s_44 (a : FVec Ideal S1x1x256x256 .bf16) (b : FVec Ideal S1x1x1024x256 .bf16) (k : Fin 256) (x : Fin 1024) :
    k0_pay44 (F := Ideal) (k0_pay43 a) b (ix2 k x) = ∑ d : Fin 256, (a (ix4 0 0 k d) : EReal) * b (ix4 0 0 x d) := by
  pointwise [k0_pay44, k0_pay43]

theorem s_45 (a : FVec Ideal S1x1x256x256 .bf16) (b : FVec Ideal S1x1x768x256 .bf16) (k : Fin 256) (x : Fin 768) :
    k0_pay45 (F := Ideal) a b (ix2 k x) = ∑ d : Fin 256, (a (ix4 0 0 k d) : EReal) * b (ix4 0 0 x d) := by
  pointwise [k0_pay45]

theorem s_46 (a : FVec Ideal S1x1x256x256 .bf16) (b : FVec Ideal S1x1x768x256 .bf16) (k : Fin 256) (x : Fin 768) :
    k0_pay46 (F := Ideal) a b (ix2 k x) = ∑ d : Fin 256, (a (ix4 0 0 k d) : EReal) * b (ix4 0 0 x d) := by
  pointwise [k0_pay46]

theorem s_47 (a : FVec Ideal S1x1x256x256 .bf16) (b : FVec Ideal S1x1x512x256 .bf16) (k : Fin 256) (x : Fin 512) :
    k0_pay47 (F := Ideal) a b (ix2 k x) = ∑ d : Fin 256, (a (ix4 0 0 k d) : EReal) * b (ix4 0 0 x d) := by
  pointwise [k0_pay47]

theorem s_50 (a : FVec Ideal S1x1x256x256 .bf16) (b : FVec Ideal S1x1x512x256 .bf16) (k : Fin 256) (x : Fin 512) :
    k0_pay50 (F := Ideal) (k0_pay48 a) (k0_pay49 b) kernelRun0_A.sl.cst_116 (ix2 k x) = ∑ d : Fin 256, (a (ix4 0 0 k d) : EReal) * b (ix4 0 0 x d) := by
  pointwise [k0_pay50, k0_pay49, k0_pay48, kernelRun0_A.sl.cst_116]

theorem s_51 (a : FVec Ideal S1x1x256x256 .bf16) (b : FVec Ideal S1x1x256x256 .bf16) (k : Fin 256) (x : Fin 256) :
    k0_pay51 (F := Ideal) a b (ix2 k x) = ∑ d : Fin 256, (a (ix4 0 0 k d) : EReal) * b (ix4 0 0 x d) := by
  pointwise [k0_pay51]

theorem s_52 (a : FVec Ideal S1x1x256x256 .bf16) (b : FVec Ideal S1x1x256x256 .bf16) (k : Fin 256) (x : Fin 256) :
    k0_pay52 (F := Ideal) a b (ix2 k x) = ∑ d : Fin 256, (a (ix4 0 0 k d) : EReal) * b (ix4 0 0 x d) := by
  pointwise [k0_pay52]

/-- The output block's two halves: the weighted values over the weights' sums. -/
theorem o_84 (a : FVec Ideal S1x128x1024 .f32) (l : FVec Ideal S1x1x1024 .f32) (x : Fin 1024) (j : Fin 128) :
    k0_pay84 (F := Ideal) a l (ix3 0 x j) = Ideal.div (a (ix3 0 j x)) (l (ix3 0 0 x)) := by
  pointwise [k0_pay84]

theorem o_85 (a : FVec Ideal S1x128x1024 .f32) (l : FVec Ideal S1x1x1024 .f32) (x : Fin 1024) (j : Fin 128) :
    k0_pay85 (F := Ideal) a l (ix3 0 x j) = Ideal.div (a (ix3 0 j x)) (l (ix3 0 0 x)) := by
  pointwise [k0_pay85]

end Cert.KernelIdeal.Flash

end
-- ==== Proof.FlashState.lean ====
module

public import proofs.«01_k».proof.Proof.FlashPay
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen

/-! ## Reading loads and lists of stores at an index -/

section Read

variable {κ : Kind} {sp : Space} {s : Shape} {e : EltTy}

theorem canon_mem {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    View.canon (⟨Rect.unit off size inb, w⟩ :: L) y = w x := by
  have hy : (Rect.unit off size inb).emb x = y := funext fun a => Fin.ext (by
    show off a + 1 * (x a).val = (y a).val
    rw [hx a, Nat.one_mul])
  rw [← hy]
  exact View.canon_cons_emb _ _ _ _

theorem canon_not_mem {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a ∨ off a + size a ≤ (y a).val) :
    View.canon (⟨Rect.unit off size inb, w⟩ :: L) y = View.canon L y := by
  refine View.canon_cons_of_not_mem _ _ ?_
  show y ∉ (Rect.unit off size inb).set
  rw [Rect.mem_set_unit]
  intro hall
  have := hall a
  omega

theorem idx_pt {off size : Fin s.rank → ℕ} (inb : ∀ a, off a + size a ≤ s.size a)
    (y : (Rect.unit off size inb).shape.Idx) (z : s.Idx) (hz : ∀ a, (z a).val = off a + (y a).val) :
    (Rect.unit off size inb).toLoadRect.idx y = z := funext fun a => Fin.ext (by
    show off a + 1 * (y a).val = (z a).val
    rw [hz a, Nat.one_mul])

theorem load_pt (arg : Memref sig κ sp s e) (harg : arg.IsWhole) (x : Vec Ideal s e) {off size : Fin s.rank → ℕ}
    (inb : ∀ a, off a + size a ≤ s.size a) (y : (Rect.unit off size inb).shape.Idx) (z : s.Idx)
    (hz : ∀ a, (z a).val = off a + (y a).val) :
    View.readAt (Elt Ideal) arg.view (Rect.unit off size inb).toLoadRect (harg.unread x) y = x z := by
  rw [View.readAt_eq_ld, harg.read_unread]
  exact congrArg x (idx_pt inb y z hz)

theorem cov_pt (v : View sig κ sp s e) (L : List (View.Piece (Elt Ideal) s e)) {off size : Fin s.rank → ℕ}
    (inb : ∀ a, off a + size a ≤ s.size a) (y : (Rect.unit off size inb).shape.Idx) (z : s.Idx)
    (hz : ∀ a, (z a).val = off a + (y a).val) :
    v.readCov L (Rect.unit off size inb).toLoadRect y = View.canon L z := by
  rw [View.readCov_eq_canon']
  exact congrArg (View.canon L) (idx_pt inb y z hz)

theorem acc_pt (v : View sig κ sp s e) (A B : List (View.Piece (Elt Ideal) s e)) {off size : Fin s.rank → ℕ}
    (inb : ∀ a, off a + size a ≤ s.size a) (y : (Rect.unit off size inb).shape.Idx) (z : s.Idx)
    (hz : ∀ a, (z a).val = off a + (y a).val) :
    View.readAt (Elt Ideal) v (Rect.unit off size inb).toLoadRect (v.writes (Elt Ideal) (v.writes (Elt Ideal) v.junk A) B) y
      = View.canon (B ++ A) z := by
  rw [← View.writes_append, View.readAt_writes_junk_eq_canon]
  exact congrArg (View.canon (B ++ A)) (idx_pt inb y z hz)

end Read

/-! ## The sums the scratch holds -/

variable (q : FVec Ideal S1x2x1024x256 .bf16) (kk : FVec Ideal S1x2x8192x256 .bf16) (vt : FVec Ideal S1x2x128x8192 .bf16)
  (i : ℕ)

/-- The weight of key `n` for the query at row `x` of query block `i`: two to the product where the key's chunk is not
    later than the query's, zero elsewhere. -/
def pw (hh : Fin 2) (x : Fin 1024) (n : ℕ) : EReal :=
  if h : n < 8192 then Ideal.exp2 (if n / 64 ≤ (1024 * i + x.val) / 64 then
    ∑ d : Fin 256, (kk (ix4 0 hh ⟨n, h⟩ d) : EReal) * q (ix4 0 hh x d) else ⊥) else 0

/-- The value's column at key `n`, weighted. -/
def pa (hh : Fin 2) (j : Fin 128) (x : Fin 1024) (n : ℕ) : EReal :=
  if h : n < 8192 then (vt (ix4 0 hh j ⟨n, h⟩) : EReal) * pw q kk i hh x n else 0

theorem pw_zero (hh : Fin 2) (x : Fin 1024) (n : ℕ) (h : (1024 * i + x.val) / 64 < n / 64) : pw q kk i hh x n = 0 := by
  unfold pw
  split
  · rw [if_neg (by omega)]; rfl
  · rfl

theorem pa_zero (hh : Fin 2) (j : Fin 128) (x : Fin 1024) (n : ℕ) (h : (1024 * i + x.val) / 64 < n / 64) :
    pa q kk vt i hh j x n = 0 := by
  unfold pa
  split
  · rw [pw_zero q kk i hh x n h, mul_zero]
  · rfl

/-- The first scratch array holds, for head `hh`, the weights' sums over the first `N` keys. -/
def SL (L : List (View.Piece (Elt Ideal) S2x1x1024 .f32)) (hh : Fin 2) (N : ℕ) : Prop :=
  ∀ x : Fin 1024, (View.canon L (ix3 hh 0 x) : EReal) = ∑ n ∈ Finset.range N, pw q kk i hh x n

/-- The second scratch array holds, for head `hh`, the weighted sums of the values over the first `N` keys. -/
def SA (L : List (View.Piece (Elt Ideal) S2x128x1024 .f32)) (hh : Fin 2) (N : ℕ) : Prop :=
  ∀ (j : Fin 128) (x : Fin 1024), (View.canon L (ix3 hh j x) : EReal) = ∑ n ∈ Finset.range N, pa q kk vt i hh j x n

variable {q kk vt i}

/-- Storing the next tile's sums for a head, over the queries from `q0` on: the earlier queries see none of the tile. -/
theorem SL.push {L : List (View.Piece (Elt Ideal) S2x1x1024 .f32)} {hh : Fin 2} {N : ℕ} (hS : SL q kk i L hh N)
    (q0 w kn : ℕ) (hw : q0 + w = 1024) (inb : ∀ a, (![hh.val, 0, q0] : Fin 3 → ℕ) a + (![1, 1, w] : Fin 3 → ℕ) a ≤ S2x1x1024.size a)
    (W : FVec Ideal ⟨3, ![1, 1, w]⟩ .f32)
    (hW : ∀ x : Fin w, (W (ix3 0 0 x) : EReal) = ∑ n ∈ Finset.range N, pw q kk i hh ⟨q0 + x.val, by omega⟩ n
      + ∑ k : Fin kn, pw q kk i hh ⟨q0 + x.val, by omega⟩ (N + k.val))
    (hz : ∀ x : Fin 1024, x.val < q0 → ∀ k < kn, pw q kk i hh x (N + k) = 0) :
    SL q kk i (⟨Rect.unit (s := S2x1x1024) ![hh.val, 0, q0] ![1, 1, w] inb, W⟩ :: L) hh (N + kn) := by
  intro x
  by_cases hx : x.val < q0
  · rw [canon_not_mem inb W L _ (2 : Fin 3) (Or.inl hx), hS x]
    exact FlashCore.tile_zero _ N kn (hz x hx)
  · have hxw : x.val - q0 < w := by omega
    refine (canon_mem inb W L (ix3 hh 0 x) (ix3 0 0 ⟨x.val - q0, hxw⟩ : (⟨3, ![1, 1, w]⟩ : Shape).Idx) (by
      intro a; fin_cases a
      · rfl
      · rfl
      · show x.val = q0 + (x.val - q0); omega)).trans ?_
    have e : (⟨q0 + (x.val - q0), by omega⟩ : Fin 1024) = x := Fin.ext (by show q0 + (x.val - q0) = x.val; omega)
    rw [hW ⟨x.val - q0, hxw⟩]
    simp only [e]
    exact FlashCore.tile _ N kn _ fun _ => rfl

/-- A store for the other head leaves a head's sums. -/
theorem SL.skip {L : List (View.Piece (Elt Ideal) S2x1x1024 .f32)} {hh : Fin 2} {N : ℕ} (hS : SL q kk i L hh N)
    (o q0 w : ℕ) (ho : o ≠ hh.val) (inb : ∀ a, (![o, 0, q0] : Fin 3 → ℕ) a + (![1, 1, w] : Fin 3 → ℕ) a ≤ S2x1x1024.size a)
    (W : FVec Ideal ⟨3, ![1, 1, w]⟩ .f32) :
    SL q kk i (⟨Rect.unit (s := S2x1x1024) ![o, 0, q0] ![1, 1, w] inb, W⟩ :: L) hh N := by
  intro x
  rw [canon_not_mem inb W L _ (0 : Fin 3) (by
    show hh.val < o ∨ o + 1 ≤ hh.val
    omega), hS x]

theorem SA.push {L : List (View.Piece (Elt Ideal) S2x128x1024 .f32)} {hh : Fin 2} {N : ℕ} (hS : SA q kk vt i L hh N)
    (q0 w kn : ℕ) (hw : q0 + w = 1024) (inb : ∀ a, (![hh.val, 0, q0] : Fin 3 → ℕ) a + (![1, 128, w] : Fin 3 → ℕ) a ≤ S2x128x1024.size a)
    (W : FVec Ideal ⟨3, ![1, 128, w]⟩ .f32)
    (hW : ∀ (j : Fin 128) (x : Fin w), (W (ix3 0 j x) : EReal) = ∑ n ∈ Finset.range N, pa q kk vt i hh j ⟨q0 + x.val, by omega⟩ n
      + ∑ k : Fin kn, pa q kk vt i hh j ⟨q0 + x.val, by omega⟩ (N + k.val))
    (hz : ∀ (j : Fin 128) (x : Fin 1024), x.val < q0 → ∀ k < kn, pa q kk vt i hh j x (N + k) = 0) :
    SA q kk vt i (⟨Rect.unit (s := S2x128x1024) ![hh.val, 0, q0] ![1, 128, w] inb, W⟩ :: L) hh (N + kn) := by
  intro j x
  by_cases hx : x.val < q0
  · rw [canon_not_mem inb W L _ (2 : Fin 3) (Or.inl hx), hS j x]
    exact FlashCore.tile_zero _ N kn (hz j x hx)
  · have hxw : x.val - q0 < w := by omega
    refine (canon_mem inb W L (ix3 hh j x) (ix3 0 j ⟨x.val - q0, hxw⟩ : (⟨3, ![1, 128, w]⟩ : Shape).Idx) (by
      intro a; fin_cases a
      · rfl
      · exact (Nat.zero_add _).symm
      · show x.val = q0 + (x.val - q0); omega)).trans ?_
    have e : (⟨q0 + (x.val - q0), by omega⟩ : Fin 1024) = x := Fin.ext (by show q0 + (x.val - q0) = x.val; omega)
    rw [hW j ⟨x.val - q0, hxw⟩]
    simp only [e]
    exact FlashCore.tile _ N kn _ fun _ => rfl

theorem SA.skip {L : List (View.Piece (Elt Ideal) S2x128x1024 .f32)} {hh : Fin 2} {N : ℕ} (hS : SA q kk vt i L hh N)
    (o q0 w : ℕ) (ho : o ≠ hh.val) (inb : ∀ a, (![o, 0, q0] : Fin 3 → ℕ) a + (![1, 128, w] : Fin 3 → ℕ) a ≤ S2x128x1024.size a)
    (W : FVec Ideal ⟨3, ![1, 128, w]⟩ .f32) :
    SA q kk vt i (⟨Rect.unit (s := S2x128x1024) ![o, 0, q0] ![1, 128, w] inb, W⟩ :: L) hh N := by
  intro j x
  rw [canon_not_mem inb W L _ (0 : Fin 3) (by
    show hh.val < o ∨ o + 1 ≤ hh.val
    omega), hS j x]

/-- A weight of a diagonal tile, from the tile's mask and products. -/
theorem wgt_eq {w : ℕ} (hh : Fin 2) (hi : i < 8) (q0 : ℕ) (hw : q0 + w = 1024) (m : IVec ⟨2, ![256, w]⟩ 1) (s : FVec Ideal ⟨2, ![256, w]⟩ .f32)
    (hq0 : 64 ∣ q0) (hq : q0 + 256 ≤ 1024)
    (hm : ∀ k x, (m (ix2 k x) = 1#1) = (k.val / 64 ≤ x.val / 64))
    (hs : ∀ (k : Fin 256) (x : Fin w), (s (ix2 k x) : EReal) = ∑ d : Fin 256,
      (kk (ix4 0 hh (⟨1024 * i + q0 + k.val, by omega⟩ : Fin 8192) d) : EReal) * q (ix4 0 hh (⟨q0 + x.val, by omega⟩ : Fin 1024) d))
    (k : Fin 256) (x : Fin w) :
    wgt m s k x = pw q kk i hh ⟨q0 + x.val, by omega⟩ (1024 * i + q0 + k.val) := by
  obtain ⟨r, rfl⟩ := hq0
  unfold wgt pw
  rw [dif_pos (by omega), hs k x]
  simp only [hm]
  have : (k.val / 64 ≤ x.val / 64) = ((1024 * i + 64 * r + k.val) / 64 ≤ (1024 * i + (64 * r + x.val)) / 64) := by
    apply propext; omega
  simp only [this]

end Cert.KernelIdeal.Flash

end
-- ==== Proof.FlashBlock.lean ====
module

public import proofs.«01_k».proof.Proof.FlashState

@[expose] public section

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen

/-! ## The walk over the earlier key blocks -/

/-- The walk takes as many steps as there are earlier query blocks. -/
theorem trips1 (i : grid0.Coords) : (k0_t1_loop i).trips = (i 2).val :=
  (by decide +kernel : ∀ j : Fin 8, Scf.trips 0#32 (Scalar.addi 0#32 (Scalar.muli (Scalar.divsi (Scalar.subi (BitVec.ofNat 32 j.val) 0#32) 1#32) 1#32)) 1#32 = j.val) (i 2)

/-- The remainder loop takes none. -/
theorem trips2 (i : grid0.Coords) : Scf.trips (k0_t2_loop i).lb (k0_t2_loop i).ub (k0_t2_loop i).st = 0 :=
  (by decide +kernel : ∀ j : Fin 8, Scf.trips (Scalar.addi 0#32 (Scalar.muli (Scalar.divsi (Scalar.subi (BitVec.ofNat 32 j.val) 0#32) 1#32) 1#32)) (Scalar.addi 0#32 (Scalar.subi (BitVec.ofNat 32 j.val) 0#32)) 1#32 = 0) (i 2)

/-- Step `k` reads its keys at `1024 * k`. -/
theorem word1 : ∀ n : Fin 8, (Scalar.indexCast (Scalar.muli (Scf.iv 0#32 1#32 n.val) 1024#32) : Index).toNat = 1024 * n.val := by
  decide +kernel

theorem lt8 (i : grid0.Coords) (k : Fin (k0_t1_loop i).trips) : k.val < 8 := by
  exact (k.isLt.trans_eq (trips1 i)).trans (i 2).isLt

theorem off1 (i : grid0.Coords) (k : Fin (k0_t1_loop i).trips) : k0_off1 i k = ![0, 0, 1024 * k.val, 0] :=
  congrArg (fun w : ℕ => ![0, 0, w, 0]) (word1 ⟨k.val, lt8 i k⟩)
theorem off2 (i : grid0.Coords) (k : Fin (k0_t1_loop i).trips) : k0_off2 i k = ![0, 1, 1024 * k.val, 0] :=
  congrArg (fun w : ℕ => ![0, 1, w, 0]) (word1 ⟨k.val, lt8 i k⟩)
theorem off3 (i : grid0.Coords) (k : Fin (k0_t1_loop i).trips) : k0_off3 i k = ![0, 0, 0, 1024 * k.val] :=
  congrArg (fun w : ℕ => ![0, 0, 0, w]) (word1 ⟨k.val, lt8 i k⟩)
theorem off4 (i : grid0.Coords) (k : Fin (k0_t1_loop i).trips) : k0_off4 i k = ![0, 1, 0, 1024 * k.val] :=
  congrArg (fun w : ℕ => ![0, 1, 0, w]) (word1 ⟨k.val, lt8 i k⟩)

/-- A load of keys, at a key and a coordinate. -/
theorem key_at (arg4 : Memref sig .tc .vmem S1x2x8192x256 .bf16) (harg4 : arg4.IsWhole) (x1 : Vec Ideal S1x2x8192x256 .bf16)
    {off : Fin 4 → ℕ} {n : ℕ} (inb : ∀ a, off a + (![1, 1, n, 256] : Fin 4 → ℕ) a ≤ S1x2x8192x256.size a) (hh : Fin 2) (n0 : ℕ)
    (hoff : off = ![0, hh.val, n0, 0]) (k : Fin n) (d : Fin 256) (hk : n0 + k.val < 8192) :
    View.readAt (Elt Ideal) arg4.view (Rect.unit (s := S1x2x8192x256) off ![1, 1, n, 256] inb).toLoadRect (harg4.unread x1) (ix4 0 0 k d)
      = x1 (ix4 0 hh ⟨n0 + k.val, hk⟩ d) := by
  subst hoff
  refine load_pt arg4 harg4 x1 inb _ _ fun a => ?_
  fin_cases a
  · rfl
  · rfl
  · rfl
  · exact (Nat.zero_add _).symm

/-- A load of queries, at a query and a coordinate. -/
theorem query_at (arg3 : Memref sig .tc .vmem S1x2x1024x256 .bf16) (harg3 : arg3.IsWhole) (x0 : Vec Ideal S1x2x1024x256 .bf16)
    {off : Fin 4 → ℕ} {n : ℕ} (inb : ∀ a, off a + (![1, 1, n, 256] : Fin 4 → ℕ) a ≤ S1x2x1024x256.size a) (hh : Fin 2) (n0 : ℕ)
    (hoff : off = ![0, hh.val, n0, 0]) (k : Fin n) (d : Fin 256) (hk : n0 + k.val < 1024) :
    View.readAt (Elt Ideal) arg3.view (Rect.unit (s := S1x2x1024x256) off ![1, 1, n, 256] inb).toLoadRect (harg3.unread x0) (ix4 0 0 k d)
      = x0 (ix4 0 hh ⟨n0 + k.val, hk⟩ d) := by
  subst hoff
  refine load_pt arg3 harg3 x0 inb _ _ fun a => ?_
  fin_cases a
  · rfl
  · rfl
  · rfl
  · exact (Nat.zero_add _).symm

/-- A load of values, at a column and a key. -/
theorem value_at (arg5 : Memref sig .tc .vmem S1x2x128x8192 .bf16) (harg5 : arg5.IsWhole) (x2 : Vec Ideal S1x2x128x8192 .bf16)
    {off : Fin 4 → ℕ} {n : ℕ} (inb : ∀ a, off a + (![1, 1, 128, n] : Fin 4 → ℕ) a ≤ S1x2x128x8192.size a) (hh : Fin 2) (n0 : ℕ)
    (hoff : off = ![0, hh.val, 0, n0]) (j : Fin 128) (k : Fin n) (hk : n0 + k.val < 8192) :
    View.readAt (Elt Ideal) arg5.view (Rect.unit (s := S1x2x128x8192) off ![1, 1, 128, n] inb).toLoadRect (harg5.unread x2) (ix4 0 0 j k)
      = x2 (ix4 0 hh j ⟨n0 + k.val, hk⟩) := by
  subst hoff
  refine load_pt arg5 harg5 x2 inb _ _ fun a => ?_
  fin_cases a
  · rfl
  · rfl
  · exact (Nat.zero_add _).symm
  · rfl

/-- The position of an element of a head's rows within a scratch array. -/
theorem row_ix {m : ℕ} {w : ℕ} (hh : Fin 2) (q0 : ℕ) (j : Fin m) (x : Fin w) (h : q0 + x.val < 1024) :
    ∀ a : Fin 3, ((ix3 hh j (⟨q0 + x.val, h⟩ : Fin 1024) : (⟨3, ![2, m, 1024]⟩ : Shape).Idx) a).val
      = (![hh.val, 0, q0] : Fin 3 → ℕ) a + ((ix3 0 j x : (⟨3, ![1, m, w]⟩ : Shape).Idx) a).val := by
  intro a
  fin_cases a
  · rfl
  · exact (Nat.zero_add _).symm
  · rfl

/-- The weights of an earlier key block: every key is seen. -/
theorem trip_pw (q : FVec Ideal S1x2x1024x256 .bf16) (kk : FVec Ideal S1x2x8192x256 .bf16) (i n : ℕ) (hn : n < i) (hi : i < 8)
    (hh : Fin 2) (a b : FVec Ideal S1x1x1024x256 .bf16)
    (ha : ∀ (k : Fin 1024) (d : Fin 256), a (ix4 0 0 k d) = kk (ix4 0 hh (⟨1024 * n + k.val, by omega⟩ : Fin 8192) d))
    (hb : ∀ (x : Fin 1024) (d : Fin 256), b (ix4 0 0 x d) = q (ix4 0 hh (⟨0 + x.val, by omega⟩ : Fin 1024) d)) (x k : Fin 1024) :
    Ideal.exp2 (∑ d : Fin 256, (a (ix4 0 0 k d) : EReal) * b (ix4 0 0 x d)) = pw q kk i hh ⟨0 + x.val, by omega⟩ (1024 * n + k.val) := by
  unfold pw
  rw [dif_pos (by omega), if_pos (by show (1024 * n + k.val) / 64 ≤ (1024 * i + (0 + x.val)) / 64; omega)]
  simp only [ha, hb]

/-- One step of the walk: both heads' sums grow by the step's 1024 keys. -/
theorem trip_step {q : FVec Ideal S1x2x1024x256 .bf16} {kk : FVec Ideal S1x2x8192x256 .bf16} {vt : FVec Ideal S1x2x128x8192 .bf16}
    {i n : ℕ} {L : List (View.Piece (Elt Ideal) S2x1x1024 .f32)} {A : List (View.Piece (Elt Ideal) S2x128x1024 .f32)}
    (hS : ∀ hh, SL q kk i L hh (1024 * n) ∧ SA q kk vt i A hh (1024 * n))
    (W0 W1 : Vec Ideal ⟨3, ![1, 1, 1024]⟩ .f32) (U0 U1 : Vec Ideal ⟨3, ![1, 128, 1024]⟩ .f32) (i0 i1 j0 j1)
    (hW0 : ∀ x : Fin 1024, (W0 (ix3 0 0 x) : EReal) = View.canon L (ix3 (0 : Fin 2) 0 (⟨0 + x.val, by omega⟩ : Fin 1024))
      + ∑ k : Fin 1024, pw q kk i 0 ⟨0 + x.val, by omega⟩ (1024 * n + k.val))
    (hW1 : ∀ x : Fin 1024, (W1 (ix3 0 0 x) : EReal) = View.canon L (ix3 (1 : Fin 2) 0 (⟨0 + x.val, by omega⟩ : Fin 1024))
      + ∑ k : Fin 1024, pw q kk i 1 ⟨0 + x.val, by omega⟩ (1024 * n + k.val))
    (hU0 : ∀ (j : Fin 128) (x : Fin 1024), (U0 (ix3 0 j x) : EReal) = View.canon A (ix3 (0 : Fin 2) j (⟨0 + x.val, by omega⟩ : Fin 1024))
      + ∑ k : Fin 1024, pa q kk vt i 0 j ⟨0 + x.val, by omega⟩ (1024 * n + k.val))
    (hU1 : ∀ (j : Fin 128) (x : Fin 1024), (U1 (ix3 0 j x) : EReal) = View.canon A (ix3 (1 : Fin 2) j (⟨0 + x.val, by omega⟩ : Fin 1024))
      + ∑ k : Fin 1024, pa q kk vt i 1 j ⟨0 + x.val, by omega⟩ (1024 * n + k.val))
    (hh : Fin 2) :
    SL q kk i (⟨Rect.unit (s := S2x1x1024) ![1, 0, 0] ![1, 1, 1024] i1, W1⟩
      :: ⟨Rect.unit (s := S2x1x1024) ![0, 0, 0] ![1, 1, 1024] i0, W0⟩ :: L) hh (1024 * (n + 1))
    ∧ SA q kk vt i (⟨Rect.unit (s := S2x128x1024) ![1, 0, 0] ![1, 128, 1024] j1, U1⟩
      :: ⟨Rect.unit (s := S2x128x1024) ![0, 0, 0] ![1, 128, 1024] j0, U0⟩ :: A) hh (1024 * (n + 1)) := by
  obtain rfl | rfl : hh = 0 ∨ hh = 1 := by omega
  · exact ⟨SL.skip (SL.push (hS 0).1 0 1024 1024 rfl i0 _ (fun x => (hW0 x).trans (by rw [(hS 0).1]))
        (fun x hx => absurd hx (Nat.not_lt_zero _))) 1 0 1024 (by decide) i1 _,
      SA.skip (SA.push (hS 0).2 0 1024 1024 rfl j0 _ (fun j x => (hU0 j x).trans (by rw [(hS 0).2]))
        (fun j x hx => absurd hx (Nat.not_lt_zero _))) 1 0 1024 (by decide) j1 _⟩
  · exact ⟨SL.push (SL.skip (hS 1).1 0 0 1024 (by decide) i0 _) 0 1024 1024 rfl i1 _ (fun x => (hW1 x).trans (by rw [(hS 1).1]))
        (fun x hx => absurd hx (Nat.not_lt_zero _)),
      SA.push (SA.skip (hS 1).2 0 0 1024 (by decide) j0 _) 0 1024 1024 rfl j1 _ (fun j x => (hU1 j x).trans (by rw [(hS 1).2]))
        (fun j x hx => absurd hx (Nat.not_lt_zero _))⟩

/-- A product with the key's value, when the value loaded is the array's. -/
theorem pa_at (q : FVec Ideal S1x2x1024x256 .bf16) (kk : FVec Ideal S1x2x8192x256 .bf16) (vt : FVec Ideal S1x2x128x8192 .bf16)
    (i : ℕ) (hh : Fin 2) (j : Fin 128) (x : Fin 1024) (n : ℕ) (hn : n < 8192) (a b : EReal) (ha : a = vt (ix4 0 hh j (⟨n, hn⟩ : Fin 8192)))
    (hb : b = pw q kk i hh x n) : a * b = pa q kk vt i hh j x n := by
  unfold pa; rw [dif_pos hn, ha, hb]

/-- After `n` steps the scratch holds the sums over the first `1024 * n` keys. -/
theorem walk (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole)
    (x0 : Vec Ideal S1x2x1024x256 .bf16) (x1 : Vec Ideal S1x2x8192x256 .bf16) (x2 : Vec Ideal S1x2x128x8192 .bf16) (n : ℕ) (hn : n ≤ (i 2).val) (hh : Fin 2) :
    SL x0 x1 (i 2).val ((pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread x0) (harg4.unread x1) (harg5.unread x2) (arg14.view.writes (Elt Ideal) arg14.view.junk kernelRun0_A.sl.HS1_1) (arg15.view.writes (Elt Ideal) arg15.view.junk kernelRun0_A.sl.HS2_1) n).1 ++ kernelRun0_A.sl.HS1_1) hh (1024 * n)
    ∧ SA x0 x1 x2 (i 2).val ((pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread x0) (harg4.unread x1) (harg5.unread x2) (arg14.view.writes (Elt Ideal) arg14.view.junk kernelRun0_A.sl.HS1_1) (arg15.view.writes (Elt Ideal) arg15.view.junk kernelRun0_A.sl.HS2_1) n).2 ++ kernelRun0_A.sl.HS2_1) hh (1024 * n) := by
  induction n generalizing hh with
  | zero =>
    rw [pb_k0_t1.eq_1]
    constructor
    · intro x
      rw [Nat.mul_zero, Finset.range_zero, Finset.sum_empty]
      unfold kernelRun0_A.sl.HS1_1
      refine (canon_mem _ _ [] (ix3 hh 0 x) (ix3 hh 0 x) (by intro a; fin_cases a <;> exact (Nat.zero_add _).symm)).trans ?_
      sl_unfold_run_names
      pointwise []
    · intro j x
      rw [Nat.mul_zero, Finset.range_zero, Finset.sum_empty]
      unfold kernelRun0_A.sl.HS2_1
      refine (canon_mem _ _ [] (ix3 hh j x) (ix3 hh j x) (by intro a; fin_cases a <;> exact (Nat.zero_add _).symm)).trans ?_
      sl_unfold_run_names
      pointwise []
  | succ n ih =>
    have hnt : n < (k0_t1_loop i).trips := by rw [trips1]; omega
    have h8 := (i 2).isLt
    have ih0 := ih (by omega) 0
    have ih1 := ih (by omega) 1
    have e := pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread x0) (harg4.unread x1) (harg5.unread x2) (arg14.view.writes (Elt Ideal) arg14.view.junk kernelRun0_A.sl.HS1_1) (arg15.view.writes (Elt Ideal) arg15.view.junk kernelRun0_A.sl.HS2_1) ⟨n, hnt⟩
    simp only at e
    rw [e]
    clear e ih
    generalize pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread x0) (harg4.unread x1) (harg5.unread x2) (arg14.view.writes (Elt Ideal) arg14.view.junk kernelRun0_A.sl.HS1_1) (arg15.view.writes (Elt Ideal) arg15.view.junk kernelRun0_A.sl.HS2_1) n = p at ih0 ih1 ⊢
    generalize kernelRun0_A.sl.HS1_1 (F := Ideal) = A at ih0 ih1 ⊢
    generalize kernelRun0_A.sl.HS2_1 (F := Ideal) = B at ih0 ih1 ⊢
    unfold trip_k0_t1
    dsimp only
    have hi : (i 2).val < 8 := h8
    have hn' : n < (i 2).val := hn
    have P0 := fun (x k : Fin 1024) => trip_pw x0 x1 (i 2).val n hn' hi 0
      (View.readAt (Elt Ideal) arg4.view (Rect.unit (s := S1x2x8192x256) (k0_off1 i ⟨n, hnt⟩) ![1, 1, 1024, 256] (k0_off1_inb i ⟨n, hnt⟩)).toLoadRect (harg4.unread x1))
      (View.readAt (Elt Ideal) arg3.view (Rect.unit (s := S1x2x1024x256) ![0, 0, 0, 0] ![1, 1, 1024, 256] inb_S1x2x1024x256_S1x1x1024x256_0_0_0_0).toLoadRect (harg3.unread x0))
      (fun k d => key_at arg4 harg4 x1 _ 0 (1024 * n) (off1 i ⟨n, hnt⟩) k d _)
      (fun x d => query_at arg3 harg3 x0 _ 0 0 rfl x d _) x k
    have P1 := fun (x k : Fin 1024) => trip_pw x0 x1 (i 2).val n hn' hi 1
      (View.readAt (Elt Ideal) arg4.view (Rect.unit (s := S1x2x8192x256) (k0_off2 i ⟨n, hnt⟩) ![1, 1, 1024, 256] (k0_off2_inb i ⟨n, hnt⟩)).toLoadRect (harg4.unread x1))
      (View.readAt (Elt Ideal) arg3.view (Rect.unit (s := S1x2x1024x256) ![0, 1, 0, 0] ![1, 1, 1024, 256] inb_S1x2x1024x256_S1x1x1024x256_0_1_0_0).toLoadRect (harg3.unread x0))
      (fun k d => key_at arg4 harg4 x1 _ 1 (1024 * n) (off2 i ⟨n, hnt⟩) k d _)
      (fun x d => query_at arg3 harg3 x0 _ 1 0 rfl x d _) x k
    refine trip_step (fun hh => by obtain rfl | rfl : hh = 0 ∨ hh = 1 := by omega
                                   · exact ih0
                                   · exact ih1) _ _ _ _ _ _ _ _ ?_ ?_ ?_ ?_ hh
    · intro x
      refine (l_trip0 (View.readAt (Elt Ideal) arg4.view (Rect.unit (s := S1x2x8192x256) (k0_off1 i ⟨n, hnt⟩) ![1, 1, 1024, 256] (k0_off1_inb i ⟨n, hnt⟩)).toLoadRect (harg4.unread x1)) (View.readAt (Elt Ideal) arg3.view (Rect.unit (s := S1x2x1024x256) ![0, 0, 0, 0] ![1, 1, 1024, 256] inb_S1x2x1024x256_S1x1x1024x256_0_0_0_0).toLoadRect (harg3.unread x0)) (View.readAt (Elt Ideal) arg14.view (Rect.unit (s := S2x1x1024) ![0, 0, 0] ![1, 1, 1024] inb_S2x1x1024_S1x1x1024_0_0_0).toLoadRect (arg14.view.writes (Elt Ideal) (arg14.view.writes (Elt Ideal) arg14.view.junk A) p.1)) x).trans ?_
      exact congrArg₂ (· + ·) (acc_pt arg14.view A p.1 _ _ _ (row_ix 0 0 0 x _)) (Finset.sum_congr rfl fun k _ => P0 x k)
    · intro x
      refine (l_trip1 (View.readAt (Elt Ideal) arg4.view (Rect.unit (s := S1x2x8192x256) (k0_off2 i ⟨n, hnt⟩) ![1, 1, 1024, 256] (k0_off2_inb i ⟨n, hnt⟩)).toLoadRect (harg4.unread x1)) (View.readAt (Elt Ideal) arg3.view (Rect.unit (s := S1x2x1024x256) ![0, 1, 0, 0] ![1, 1, 1024, 256] inb_S1x2x1024x256_S1x1x1024x256_0_1_0_0).toLoadRect (harg3.unread x0)) (View.readAt (Elt Ideal) arg14.view (Rect.unit (s := S2x1x1024) ![1, 0, 0] ![1, 1, 1024] inb_S2x1x1024_S1x1x1024_1_0_0).toLoadRect (arg14.view.writes (Elt Ideal) (arg14.view.writes (Elt Ideal) arg14.view.junk A) p.1)) x).trans ?_
      exact congrArg₂ (· + ·) (acc_pt arg14.view A p.1 _ _ _ (row_ix 1 0 0 x _)) (Finset.sum_congr rfl fun k _ => P1 x k)
    · intro j x
      refine (a_trip0 (View.readAt (Elt Ideal) arg4.view (Rect.unit (s := S1x2x8192x256) (k0_off1 i ⟨n, hnt⟩) ![1, 1, 1024, 256] (k0_off1_inb i ⟨n, hnt⟩)).toLoadRect (harg4.unread x1)) (View.readAt (Elt Ideal) arg3.view (Rect.unit (s := S1x2x1024x256) ![0, 0, 0, 0] ![1, 1, 1024, 256] inb_S1x2x1024x256_S1x1x1024x256_0_0_0_0).toLoadRect (harg3.unread x0)) (View.readAt (Elt Ideal) arg5.view (Rect.unit (s := S1x2x128x8192) (k0_off3 i ⟨n, hnt⟩) ![1, 1, 128, 1024] (k0_off3_inb i ⟨n, hnt⟩)).toLoadRect (harg5.unread x2)) (View.readAt (Elt Ideal) arg15.view (Rect.unit (s := S2x128x1024) ![0, 0, 0] ![1, 128, 1024] inb_S2x128x1024_S1x128x1024_0_0_0).toLoadRect (arg15.view.writes (Elt Ideal) (arg15.view.writes (Elt Ideal) arg15.view.junk B) p.2)) j x).trans ?_
      exact congrArg₂ (· + ·) (acc_pt arg15.view B p.2 _ _ _ (row_ix 0 0 j x _)) (Finset.sum_congr rfl fun k _ =>
        pa_at x0 x1 x2 (i 2).val 0 j _ _ (by omega) _ _ (value_at arg5 harg5 x2 _ 0 (1024 * n) (off3 i ⟨n, hnt⟩) j k _) (P0 x k))
    · intro j x
      refine (a_trip1 (View.readAt (Elt Ideal) arg4.view (Rect.unit (s := S1x2x8192x256) (k0_off2 i ⟨n, hnt⟩) ![1, 1, 1024, 256] (k0_off2_inb i ⟨n, hnt⟩)).toLoadRect (harg4.unread x1)) (View.readAt (Elt Ideal) arg3.view (Rect.unit (s := S1x2x1024x256) ![0, 1, 0, 0] ![1, 1, 1024, 256] inb_S1x2x1024x256_S1x1x1024x256_0_1_0_0).toLoadRect (harg3.unread x0)) (View.readAt (Elt Ideal) arg5.view (Rect.unit (s := S1x2x128x8192) (k0_off4 i ⟨n, hnt⟩) ![1, 1, 128, 1024] (k0_off4_inb i ⟨n, hnt⟩)).toLoadRect (harg5.unread x2)) (View.readAt (Elt Ideal) arg15.view (Rect.unit (s := S2x128x1024) ![1, 0, 0] ![1, 128, 1024] inb_S2x128x1024_S1x128x1024_1_0_0).toLoadRect (arg15.view.writes (Elt Ideal) (arg15.view.writes (Elt Ideal) arg15.view.junk B) p.2)) j x).trans ?_
      exact congrArg₂ (· + ·) (acc_pt arg15.view B p.2 _ _ _ (row_ix 1 0 j x _)) (Finset.sum_congr rfl fun k _ =>
        pa_at x0 x1 x2 (i 2).val 1 j _ _ (by omega) _ _ (value_at arg5 harg5 x2 _ 1 (1024 * n) (off4 i ⟨n, hnt⟩) j k _) (P1 x k))

end Cert.KernelIdeal.Flash

end
-- ==== Proof.FlashDiag.lean ====
module

public import proofs.«01_k».proof.Proof.FlashBlock

@[expose] public section

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen

/-! ## The diagonal block, in tiles of 256 keys -/

section Tile

variable {q : FVec Ideal S1x2x1024x256 .bf16} {kk : FVec Ideal S1x2x8192x256 .bf16} {vt : FVec Ideal S1x2x128x8192 .bf16} {i : ℕ}

/-- A diagonal tile's store into the first scratch adds the tile's 256 keys to a head's sums. -/
theorem SL.diag {L : List (View.Piece (Elt Ideal) S2x1x1024 .f32)} {hh : Fin 2} (hi : i < 8) (q0 w : ℕ) (hw : q0 + w = 1024)
    (hq0 : 64 ∣ q0) (hq : q0 + 256 ≤ 1024) (hS : SL q kk i L hh (1024 * i + q0))
    (inb : ∀ a, (![hh.val, 0, q0] : Fin 3 → ℕ) a + (![1, 1, w] : Fin 3 → ℕ) a ≤ S2x1x1024.size a)
    (W l : FVec Ideal ⟨3, ![1, 1, w]⟩ .f32) (m : IVec ⟨2, ![256, w]⟩ 1) (s : FVec Ideal ⟨2, ![256, w]⟩ .f32)
    (hm : ∀ k x, (m (ix2 k x) = 1#1) = (k.val / 64 ≤ x.val / 64))
    (hs : ∀ (k : Fin 256) (x : Fin w), (s (ix2 k x) : EReal) = ∑ d : Fin 256,
      (kk (ix4 0 hh (⟨1024 * i + q0 + k.val, by omega⟩ : Fin 8192) d) : EReal) * q (ix4 0 hh (⟨q0 + x.val, by omega⟩ : Fin 1024) d))
    (hl : ∀ x : Fin w, (l (ix3 0 0 x) : EReal) = View.canon L (ix3 hh 0 (⟨q0 + x.val, by omega⟩ : Fin 1024)))
    (hW : ∀ x : Fin w, (W (ix3 0 0 x) : EReal) = (l (ix3 0 0 x) : EReal) + ∑ k : Fin 256, wgt m s k x) :
    SL q kk i (⟨Rect.unit (s := S2x1x1024) ![hh.val, 0, q0] ![1, 1, w] inb, W⟩ :: L) hh (1024 * i + q0 + 256) :=
  SL.push hS q0 w 256 hw inb W
    (fun x => by
      rw [hW, hl, hS]
      exact congrArg₂ (· + ·) rfl (Finset.sum_congr rfl fun k _ => wgt_eq hh hi q0 hw m s hq0 hq hm hs k x))
    (fun x hx k hk => pw_zero q kk i hh x _ (by obtain ⟨r, rfl⟩ := hq0; omega))

/-- A diagonal tile's store into the second scratch likewise. -/
theorem SA.diag {L : List (View.Piece (Elt Ideal) S2x128x1024 .f32)} {hh : Fin 2} (hi : i < 8) (q0 w : ℕ) (hw : q0 + w = 1024)
    (hq0 : 64 ∣ q0) (hq : q0 + 256 ≤ 1024) (hS : SA q kk vt i L hh (1024 * i + q0))
    (inb : ∀ a, (![hh.val, 0, q0] : Fin 3 → ℕ) a + (![1, 128, w] : Fin 3 → ℕ) a ≤ S2x128x1024.size a)
    (W l : FVec Ideal ⟨3, ![1, 128, w]⟩ .f32) (v : FVec Ideal S1x1x128x256 .bf16) (m : IVec ⟨2, ![256, w]⟩ 1) (s : FVec Ideal ⟨2, ![256, w]⟩ .f32)
    (hm : ∀ k x, (m (ix2 k x) = 1#1) = (k.val / 64 ≤ x.val / 64))
    (hs : ∀ (k : Fin 256) (x : Fin w), (s (ix2 k x) : EReal) = ∑ d : Fin 256,
      (kk (ix4 0 hh (⟨1024 * i + q0 + k.val, by omega⟩ : Fin 8192) d) : EReal) * q (ix4 0 hh (⟨q0 + x.val, by omega⟩ : Fin 1024) d))
    (hv : ∀ (j : Fin 128) (k : Fin 256), (v (ix4 0 0 j k) : EReal) = vt (ix4 0 hh j (⟨1024 * i + q0 + k.val, by omega⟩ : Fin 8192)))
    (hl : ∀ (j : Fin 128) (x : Fin w), (l (ix3 0 j x) : EReal) = View.canon L (ix3 hh j (⟨q0 + x.val, by omega⟩ : Fin 1024)))
    (hW : ∀ (j : Fin 128) (x : Fin w), (W (ix3 0 j x) : EReal)
      = (l (ix3 0 j x) : EReal) + ∑ k : Fin 256, (v (ix4 0 0 j k) : EReal) * wgt m s k x) :
    SA q kk vt i (⟨Rect.unit (s := S2x128x1024) ![hh.val, 0, q0] ![1, 128, w] inb, W⟩ :: L) hh (1024 * i + q0 + 256) :=
  SA.push hS q0 w 256 hw inb W
    (fun j x => by
      rw [hW, hl, hS]
      exact congrArg₂ (· + ·) rfl (Finset.sum_congr rfl fun k _ =>
        pa_at q kk vt i hh j _ _ (by omega) _ _ (hv j k) (wgt_eq hh hi q0 hw m s hq0 hq hm hs k x)))
    (fun j x hx k hk => pa_zero q kk vt i hh j x _ (by obtain ⟨r, rfl⟩ := hq0; omega))

end Tile

/-- What the first scratch holds when the diagonal begins. -/
def BL (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole) (x0 : Vec Ideal S1x2x1024x256 .bf16) (x1 : Vec Ideal S1x2x8192x256 .bf16) (x2 : Vec Ideal S1x2x128x8192 .bf16) : List (View.Piece (Elt Ideal) S2x1x1024 .f32) :=
  ((pb_k0_t2 (F := Ideal) Variants.none c none i arg3 harg3 arg4 harg4 arg5 harg5 arg6 harg6 arg7 harg7 arg8 harg8 arg9 harg9 arg10
        harg10 arg11 harg11 arg12 harg12 arg13 harg13 arg14 harg14 arg15 harg15 (kernelRun0_A.sl.v21 i)
        (harg3.unread x0) (harg4.unread x1) (harg5.unread x2)
        (arg14.view.writes (Elt Ideal) arg14.view.junk
          ((pb_k0_t1 (F := Ideal) Variants.none c none i arg3 harg3 arg4 harg4 arg5 harg5 arg6 harg6 arg7 harg7 arg8 harg8 arg9 harg9
                arg10 harg10 arg11 harg11 arg12 harg12 arg13 harg13 arg14 harg14 arg15 harg15 (harg3.unread x0)
                (harg4.unread x1) (harg5.unread x2) (arg14.view.writes (Elt Ideal) arg14.view.junk kernelRun0_A.sl.HS1_1)
                (arg15.view.writes (Elt Ideal) arg15.view.junk kernelRun0_A.sl.HS2_1)
                (Scf.trips (k0_t1_loop i).lb (k0_t1_loop i).ub (k0_t1_loop i).st)).1 ++
            kernelRun0_A.sl.HS1_1))
        (arg15.view.writes (Elt Ideal) arg15.view.junk
          ((pb_k0_t1 (F := Ideal) Variants.none c none i arg3 harg3 arg4 harg4 arg5 harg5 arg6 harg6 arg7 harg7 arg8 harg8 arg9 harg9
                arg10 harg10 arg11 harg11 arg12 harg12 arg13 harg13 arg14 harg14 arg15 harg15 (harg3.unread x0)
                (harg4.unread x1) (harg5.unread x2) (arg14.view.writes (Elt Ideal) arg14.view.junk kernelRun0_A.sl.HS1_1)
                (arg15.view.writes (Elt Ideal) arg15.view.junk kernelRun0_A.sl.HS2_1)
                (Scf.trips (k0_t1_loop i).lb (k0_t1_loop i).ub (k0_t1_loop i).st)).2 ++
            kernelRun0_A.sl.HS2_1))
        (Scf.trips (k0_t2_loop i).lb (k0_t2_loop i).ub (k0_t2_loop i).st)).1 ++
    ((pb_k0_t1 (F := Ideal) Variants.none c none i arg3 harg3 arg4 harg4 arg5 harg5 arg6 harg6 arg7 harg7 arg8 harg8 arg9 harg9 arg10
          harg10 arg11 harg11 arg12 harg12 arg13 harg13 arg14 harg14 arg15 harg15 (harg3.unread x0) (harg4.unread x1)
          (harg5.unread x2) (arg14.view.writes (Elt Ideal) arg14.view.junk kernelRun0_A.sl.HS1_1)
          (arg15.view.writes (Elt Ideal) arg15.view.junk kernelRun0_A.sl.HS2_1)
          (Scf.trips (k0_t1_loop i).lb (k0_t1_loop i).ub (k0_t1_loop i).st)).1 ++
      kernelRun0_A.sl.HS1_1))

/-- What the second scratch holds when the diagonal begins. -/
def BA (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole) (x0 : Vec Ideal S1x2x1024x256 .bf16) (x1 : Vec Ideal S1x2x8192x256 .bf16) (x2 : Vec Ideal S1x2x128x8192 .bf16) : List (View.Piece (Elt Ideal) S2x128x1024 .f32) :=
  ((pb_k0_t2 (F := Ideal) Variants.none c none i arg3 harg3 arg4 harg4 arg5 harg5 arg6 harg6 arg7 harg7 arg8 harg8 arg9 harg9 arg10
        harg10 arg11 harg11 arg12 harg12 arg13 harg13 arg14 harg14 arg15 harg15 (kernelRun0_A.sl.v21 i)
        (harg3.unread x0) (harg4.unread x1) (harg5.unread x2)
        (arg14.view.writes (Elt Ideal) arg14.view.junk
          ((pb_k0_t1 (F := Ideal) Variants.none c none i arg3 harg3 arg4 harg4 arg5 harg5 arg6 harg6 arg7 harg7 arg8 harg8 arg9 harg9
                arg10 harg10 arg11 harg11 arg12 harg12 arg13 harg13 arg14 harg14 arg15 harg15 (harg3.unread x0)
                (harg4.unread x1) (harg5.unread x2) (arg14.view.writes (Elt Ideal) arg14.view.junk kernelRun0_A.sl.HS1_1)
                (arg15.view.writes (Elt Ideal) arg15.view.junk kernelRun0_A.sl.HS2_1)
                (Scf.trips (k0_t1_loop i).lb (k0_t1_loop i).ub (k0_t1_loop i).st)).1 ++
            kernelRun0_A.sl.HS1_1))
        (arg15.view.writes (Elt Ideal) arg15.view.junk
          ((pb_k0_t1 (F := Ideal) Variants.none c none i arg3 harg3 arg4 harg4 arg5 harg5 arg6 harg6 arg7 harg7 arg8 harg8 arg9 harg9
                arg10 harg10 arg11 harg11 arg12 harg12 arg13 harg13 arg14 harg14 arg15 harg15 (harg3.unread x0)
                (harg4.unread x1) (harg5.unread x2) (arg14.view.writes (Elt Ideal) arg14.view.junk kernelRun0_A.sl.HS1_1)
                (arg15.view.writes (Elt Ideal) arg15.view.junk kernelRun0_A.sl.HS2_1)
                (Scf.trips (k0_t1_loop i).lb (k0_t1_loop i).ub (k0_t1_loop i).st)).2 ++
            kernelRun0_A.sl.HS2_1))
        (Scf.trips (k0_t2_loop i).lb (k0_t2_loop i).ub (k0_t2_loop i).st)).2 ++
    ((pb_k0_t1 (F := Ideal) Variants.none c none i arg3 harg3 arg4 harg4 arg5 harg5 arg6 harg6 arg7 harg7 arg8 harg8 arg9 harg9 arg10
          harg10 arg11 harg11 arg12 harg12 arg13 harg13 arg14 harg14 arg15 harg15 (harg3.unread x0) (harg4.unread x1)
          (harg5.unread x2) (arg14.view.writes (Elt Ideal) arg14.view.junk kernelRun0_A.sl.HS1_1)
          (arg15.view.writes (Elt Ideal) arg15.view.junk kernelRun0_A.sl.HS2_1)
          (Scf.trips (k0_t1_loop i).lb (k0_t1_loop i).ub (k0_t1_loop i).st)).2 ++
      kernelRun0_A.sl.HS2_1))

/-- Before the diagonal the scratch holds the sums over the earlier blocks' keys. -/
theorem base (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole) (x0 : Vec Ideal S1x2x1024x256 .bf16) (x1 : Vec Ideal S1x2x8192x256 .bf16) (x2 : Vec Ideal S1x2x128x8192 .bf16) (hh : Fin 2) :
    SL x0 x1 (i 2).val (BL c i arg3 harg3 arg4 harg4 arg5 harg5 arg6 harg6 arg7 harg7 arg8 harg8 arg9 harg9 arg10 harg10 arg11 harg11 arg12 harg12 arg13 harg13 arg14 harg14 arg15 harg15 x0 x1 x2) hh (1024 * (i 2).val)
    ∧ SA x0 x1 x2 (i 2).val (BA c i arg3 harg3 arg4 harg4 arg5 harg5 arg6 harg6 arg7 harg7 arg8 harg8 arg9 harg9 arg10 harg10 arg11 harg11 arg12 harg12 arg13 harg13 arg14 harg14 arg15 harg15 x0 x1 x2) hh (1024 * (i 2).val) := by
  unfold BL BA
  have e : Scf.trips (k0_t1_loop i).lb (k0_t1_loop i).ub (k0_t1_loop i).st = (i 2).val := trips1 i
  rw [trips2, pb_k0_t2.eq_1, e]
  exact walk c i arg3 harg3 arg4 harg4 arg5 harg5 arg6 harg6 arg7 harg7 arg8 harg8 arg9 harg9 arg10 harg10 arg11 harg11 arg12 harg12 arg13 harg13 arg14 harg14 arg15 harg15 x0 x1 x2 (i 2).val le_rfl hh

/-- Tile 0's products for head 0. -/
theorem score00 (i : grid0.Coords) (arg3 : Memref sig .tc .vmem S1x2x1024x256 .bf16) (harg3 : arg3.IsWhole) (arg4 : Memref sig .tc .vmem S1x2x8192x256 .bf16) (harg4 : arg4.IsWhole)
    (x0 : Vec Ideal S1x2x1024x256 .bf16) (x1 : Vec Ideal S1x2x8192x256 .bf16) (hi : (i 2).val < 8) (k : Fin 256) (x : Fin 1024) :
    (kernelRun0_A.sl.v243 (F := Ideal) i arg3 harg3 arg4 harg4 x0 x1 (ix2 k x) : EReal) = ∑ d : Fin 256,
      (x1 (ix4 0 0 (⟨1024 * (i 2).val + 0 + k.val, by omega⟩ : Fin 8192) d) : EReal) * x0 (ix4 0 0 (⟨0 + x.val, by omega⟩ : Fin 1024) d) :=
  (s_42 (View.readAt (Elt Ideal) arg4.view (Rect.unit (s := S1x2x8192x256) (k0_off9 i 0#32) ![1, 1, 256, 256] (k0_off9_inb i 0)).toLoadRect (harg4.unread x1))
      (View.readAt (Elt Ideal) arg3.view (Rect.unit (s := S1x2x1024x256) ![0, 0, 0, 0] ![1, 1, 1024, 256] inb_S1x2x1024x256_S1x1x1024x256_0_0_0_0).toLoadRect (harg3.unread x0)) k x).trans
    (Finset.sum_congr rfl fun d _ => congrArg₂ (fun a b : EReal => a * b)
      (key_at arg4 harg4 x1 _ 0 (1024 * (i 2).val + 0) (k0_off9_eq i 0) k d _) (query_at arg3 harg3 x0 _ 0 0 rfl x d _))

/-- Tile 0's products for head 1. -/
theorem score01 (i : grid0.Coords) (arg3 : Memref sig .tc .vmem S1x2x1024x256 .bf16) (harg3 : arg3.IsWhole) (arg4 : Memref sig .tc .vmem S1x2x8192x256 .bf16) (harg4 : arg4.IsWhole)
    (x0 : Vec Ideal S1x2x1024x256 .bf16) (x1 : Vec Ideal S1x2x8192x256 .bf16) (hi : (i 2).val < 8) (k : Fin 256) (x : Fin 1024) :
    (kernelRun0_A.sl.v249 (F := Ideal) i arg3 harg3 arg4 harg4 x0 x1 (ix2 k x) : EReal) = ∑ d : Fin 256,
      (x1 (ix4 0 1 (⟨1024 * (i 2).val + 0 + k.val, by omega⟩ : Fin 8192) d) : EReal) * x0 (ix4 0 1 (⟨0 + x.val, by omega⟩ : Fin 1024) d) :=
  (s_44 (View.readAt (Elt Ideal) arg4.view (Rect.unit (s := S1x2x8192x256) (k0_off10 i 0#32) ![1, 1, 256, 256] (k0_off10_inb i 0)).toLoadRect (harg4.unread x1))
      (View.readAt (Elt Ideal) arg3.view (Rect.unit (s := S1x2x1024x256) ![0, 1, 0, 0] ![1, 1, 1024, 256] inb_S1x2x1024x256_S1x1x1024x256_0_1_0_0).toLoadRect (harg3.unread x0)) k x).trans
    (Finset.sum_congr rfl fun d _ => congrArg₂ (fun a b : EReal => a * b)
      (key_at arg4 harg4 x1 _ 1 (1024 * (i 2).val + 0) (k0_off10_eq i 0) k d _) (query_at arg3 harg3 x0 _ 1 0 rfl x d _))

/-- Tile 1's products for head 0. -/
theorem score10 (i : grid0.Coords) (arg3 : Memref sig .tc .vmem S1x2x1024x256 .bf16) (harg3 : arg3.IsWhole) (arg4 : Memref sig .tc .vmem S1x2x8192x256 .bf16) (harg4 : arg4.IsWhole)
    (x0 : Vec Ideal S1x2x1024x256 .bf16) (x1 : Vec Ideal S1x2x8192x256 .bf16) (hi : (i 2).val < 8) (k : Fin 256) (x : Fin 768) :
    (kernelRun0_A.sl.v255 (F := Ideal) i arg3 harg3 arg4 harg4 x0 x1 (ix2 k x) : EReal) = ∑ d : Fin 256,
      (x1 (ix4 0 0 (⟨1024 * (i 2).val + 256 + k.val, by omega⟩ : Fin 8192) d) : EReal) * x0 (ix4 0 0 (⟨256 + x.val, by omega⟩ : Fin 1024) d) :=
  (s_45 (View.readAt (Elt Ideal) arg4.view (Rect.unit (s := S1x2x8192x256) (k0_off9 i 256#32) ![1, 1, 256, 256] (k0_off9_inb i 1)).toLoadRect (harg4.unread x1))
      (View.readAt (Elt Ideal) arg3.view (Rect.unit (s := S1x2x1024x256) ![0, 0, 256, 0] ![1, 1, 768, 256] inb_S1x2x1024x256_S1x1x768x256_0_0_256_0).toLoadRect (harg3.unread x0)) k x).trans
    (Finset.sum_congr rfl fun d _ => congrArg₂ (fun a b : EReal => a * b)
      (key_at arg4 harg4 x1 _ 0 (1024 * (i 2).val + 256) (k0_off9_eq i 1) k d _) (query_at arg3 harg3 x0 _ 0 256 rfl x d _))

/-- Tile 1's products for head 1. -/
theorem score11 (i : grid0.Coords) (arg3 : Memref sig .tc .vmem S1x2x1024x256 .bf16) (harg3 : arg3.IsWhole) (arg4 : Memref sig .tc .vmem S1x2x8192x256 .bf16) (harg4 : arg4.IsWhole)
    (x0 : Vec Ideal S1x2x1024x256 .bf16) (x1 : Vec Ideal S1x2x8192x256 .bf16) (hi : (i 2).val < 8) (k : Fin 256) (x : Fin 768) :
    (kernelRun0_A.sl.v261 (F := Ideal) i arg3 harg3 arg4 harg4 x0 x1 (ix2 k x) : EReal) = ∑ d : Fin 256,
      (x1 (ix4 0 1 (⟨1024 * (i 2).val + 256 + k.val, by omega⟩ : Fin 8192) d) : EReal) * x0 (ix4 0 1 (⟨256 + x.val, by omega⟩ : Fin 1024) d) :=
  (s_46 (View.readAt (Elt Ideal) arg4.view (Rect.unit (s := S1x2x8192x256) (k0_off10 i 256#32) ![1, 1, 256, 256] (k0_off10_inb i 1)).toLoadRect (harg4.unread x1))
      (View.readAt (Elt Ideal) arg3.view (Rect.unit (s := S1x2x1024x256) ![0, 1, 256, 0] ![1, 1, 768, 256] inb_S1x2x1024x256_S1x1x768x256_0_1_256_0).toLoadRect (harg3.unread x0)) k x).trans
    (Finset.sum_congr rfl fun d _ => congrArg₂ (fun a b : EReal => a * b)
      (key_at arg4 harg4 x1 _ 1 (1024 * (i 2).val + 256) (k0_off10_eq i 1) k d _) (query_at arg3 harg3 x0 _ 1 256 rfl x d _))

/-- Tile 2's products for head 0. -/
theorem score20 (i : grid0.Coords) (arg3 : Memref sig .tc .vmem S1x2x1024x256 .bf16) (harg3 : arg3.IsWhole) (arg4 : Memref sig .tc .vmem S1x2x8192x256 .bf16) (harg4 : arg4.IsWhole)
    (x0 : Vec Ideal S1x2x1024x256 .bf16) (x1 : Vec Ideal S1x2x8192x256 .bf16) (hi : (i 2).val < 8) (k : Fin 256) (x : Fin 512) :
    (kernelRun0_A.sl.v267 (F := Ideal) i arg3 harg3 arg4 harg4 x0 x1 (ix2 k x) : EReal) = ∑ d : Fin 256,
      (x1 (ix4 0 0 (⟨1024 * (i 2).val + 512 + k.val, by omega⟩ : Fin 8192) d) : EReal) * x0 (ix4 0 0 (⟨512 + x.val, by omega⟩ : Fin 1024) d) :=
  (s_47 (View.readAt (Elt Ideal) arg4.view (Rect.unit (s := S1x2x8192x256) (k0_off9 i 512#32) ![1, 1, 256, 256] (k0_off9_inb i 2)).toLoadRect (harg4.unread x1))
      (View.readAt (Elt Ideal) arg3.view (Rect.unit (s := S1x2x1024x256) ![0, 0, 512, 0] ![1, 1, 512, 256] inb_S1x2x1024x256_S1x1x512x256_0_0_512_0).toLoadRect (harg3.unread x0)) k x).trans
    (Finset.sum_congr rfl fun d _ => congrArg₂ (fun a b : EReal => a * b)
      (key_at arg4 harg4 x1 _ 0 (1024 * (i 2).val + 512) (k0_off9_eq i 2) k d _) (query_at arg3 harg3 x0 _ 0 512 rfl x d _))

/-- Tile 2's products for head 1. -/
theorem score21 (i : grid0.Coords) (arg3 : Memref sig .tc .vmem S1x2x1024x256 .bf16) (harg3 : arg3.IsWhole) (arg4 : Memref sig .tc .vmem S1x2x8192x256 .bf16) (harg4 : arg4.IsWhole)
    (x0 : Vec Ideal S1x2x1024x256 .bf16) (x1 : Vec Ideal S1x2x8192x256 .bf16) (hi : (i 2).val < 8) (k : Fin 256) (x : Fin 512) :
    (kernelRun0_A.sl.r (F := Ideal) i arg3 harg3 arg4 harg4 x0 x1 (ix2 k x) : EReal) = ∑ d : Fin 256,
      (x1 (ix4 0 1 (⟨1024 * (i 2).val + 512 + k.val, by omega⟩ : Fin 8192) d) : EReal) * x0 (ix4 0 1 (⟨512 + x.val, by omega⟩ : Fin 1024) d) :=
  (s_50 (View.readAt (Elt Ideal) arg4.view (Rect.unit (s := S1x2x8192x256) (k0_off10 i 512#32) ![1, 1, 256, 256] (k0_off10_inb i 2)).toLoadRect (harg4.unread x1))
      (View.readAt (Elt Ideal) arg3.view (Rect.unit (s := S1x2x1024x256) ![0, 1, 512, 0] ![1, 1, 512, 256] inb_S1x2x1024x256_S1x1x512x256_0_1_512_0).toLoadRect (harg3.unread x0)) k x).trans
    (Finset.sum_congr rfl fun d _ => congrArg₂ (fun a b : EReal => a * b)
      (key_at arg4 harg4 x1 _ 1 (1024 * (i 2).val + 512) (k0_off10_eq i 2) k d _) (query_at arg3 harg3 x0 _ 1 512 rfl x d _))

/-- Tile 3's products for head 0. -/
theorem score30 (i : grid0.Coords) (arg3 : Memref sig .tc .vmem S1x2x1024x256 .bf16) (harg3 : arg3.IsWhole) (arg4 : Memref sig .tc .vmem S1x2x8192x256 .bf16) (harg4 : arg4.IsWhole)
    (x0 : Vec Ideal S1x2x1024x256 .bf16) (x1 : Vec Ideal S1x2x8192x256 .bf16) (hi : (i 2).val < 8) (k : Fin 256) (x : Fin 256) :
    (kernelRun0_A.sl.r_1 (F := Ideal) i arg3 harg3 arg4 harg4 x0 x1 (ix2 k x) : EReal) = ∑ d : Fin 256,
      (x1 (ix4 0 0 (⟨1024 * (i 2).val + 768 + k.val, by omega⟩ : Fin 8192) d) : EReal) * x0 (ix4 0 0 (⟨768 + x.val, by omega⟩ : Fin 1024) d) :=
  (s_51 (View.readAt (Elt Ideal) arg4.view (Rect.unit (s := S1x2x8192x256) (k0_off9 i 768#32) ![1, 1, 256, 256] (k0_off9_inb i 3)).toLoadRect (harg4.unread x1))
      (View.readAt (Elt Ideal) arg3.view (Rect.unit (s := S1x2x1024x256) ![0, 0, 768, 0] ![1, 1, 256, 256] inb_S1x2x1024x256_S1x1x256x256_0_0_768_0).toLoadRect (harg3.unread x0)) k x).trans
    (Finset.sum_congr rfl fun d _ => congrArg₂ (fun a b : EReal => a * b)
      (key_at arg4 harg4 x1 _ 0 (1024 * (i 2).val + 768) (k0_off9_eq i 3) k d _) (query_at arg3 harg3 x0 _ 0 768 rfl x d _))

/-- Tile 3's products for head 1. -/
theorem score31 (i : grid0.Coords) (arg3 : Memref sig .tc .vmem S1x2x1024x256 .bf16) (harg3 : arg3.IsWhole) (arg4 : Memref sig .tc .vmem S1x2x8192x256 .bf16) (harg4 : arg4.IsWhole)
    (x0 : Vec Ideal S1x2x1024x256 .bf16) (x1 : Vec Ideal S1x2x8192x256 .bf16) (hi : (i 2).val < 8) (k : Fin 256) (x : Fin 256) :
    (kernelRun0_A.sl.r_2 (F := Ideal) i arg3 harg3 arg4 harg4 x0 x1 (ix2 k x) : EReal) = ∑ d : Fin 256,
      (x1 (ix4 0 1 (⟨1024 * (i 2).val + 768 + k.val, by omega⟩ : Fin 8192) d) : EReal) * x0 (ix4 0 1 (⟨768 + x.val, by omega⟩ : Fin 1024) d) :=
  (s_52 (View.readAt (Elt Ideal) arg4.view (Rect.unit (s := S1x2x8192x256) (k0_off10 i 768#32) ![1, 1, 256, 256] (k0_off10_inb i 3)).toLoadRect (harg4.unread x1))
      (View.readAt (Elt Ideal) arg3.view (Rect.unit (s := S1x2x1024x256) ![0, 1, 768, 0] ![1, 1, 256, 256] inb_S1x2x1024x256_S1x1x256x256_0_1_768_0).toLoadRect (harg3.unread x0)) k x).trans
    (Finset.sum_congr rfl fun d _ => congrArg₂ (fun a b : EReal => a * b)
      (key_at arg4 harg4 x1 _ 1 (1024 * (i 2).val + 768) (k0_off10_eq i 3) k d _) (query_at arg3 harg3 x0 _ 1 768 rfl x d _))

/-- After tile 0 of head 0. -/
theorem tile00 (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole) (x0 : Vec Ideal S1x2x1024x256 .bf16) (x1 : Vec Ideal S1x2x8192x256 .bf16) (x2 : Vec Ideal S1x2x128x8192 .bf16) :
    SL x0 x1 (i 2).val (kernelRun0_A.sl.HS1_1_1 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 256)
    ∧ SL x0 x1 (i 2).val (kernelRun0_A.sl.HS1_1_1 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 0)
    ∧ SA x0 x1 x2 (i 2).val (kernelRun0_A.sl.HS2_1_1 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 256)
    ∧ SA x0 x1 x2 (i 2).val (kernelRun0_A.sl.HS2_1_1 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 0) := by
  have hi : (i 2).val < 8 := (i 2).isLt
  have hS0 := base c i arg3 harg3 arg4 harg4 arg5 harg5 arg6 harg6 arg7 harg7 arg8 harg8 arg9 harg9 arg10 harg10 arg11 harg11 arg12 harg12 arg13 harg13 arg14 harg14 arg15 harg15 x0 x1 x2 0
  have hS1 := base c i arg3 harg3 arg4 harg4 arg5 harg5 arg6 harg6 arg7 harg7 arg8 harg8 arg9 harg9 arg10 harg10 arg11 harg11 arg12 harg12 arg13 harg13 arg14 harg14 arg15 harg15 x0 x1 x2 1
  have P : _ ∧ _ ∧ _ ∧ _ := ⟨hS0.1, hS1.1, hS0.2, hS1.2⟩
  refine ⟨?_, ?_, ?_, ?_⟩
  · exact SL.diag hi 0 1024 rfl (by decide) (by decide) P.1 _ _ (kernelRun0_A.sl.v292 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (cmpi CmpIPredicate.sle kernelRun0_A.sl.v71 kernelRun0_A.sl.v46) (kernelRun0_A.sl.v243 (F := Ideal) i arg3 harg3 arg4 harg4 x0 x1) mask0 (score00 i arg3 harg3 arg4 harg4 x0 x1 hi)
        (fun x => cov_pt arg14.view _ _ _ _ (row_ix 0 0 0 x _)) (fun x => l_diag0 (cmpi CmpIPredicate.sle kernelRun0_A.sl.v71 kernelRun0_A.sl.v46) (kernelRun0_A.sl.v243 (F := Ideal) i arg3 harg3 arg4 harg4 x0 x1) (kernelRun0_A.sl.v292 (F := Ideal) c i arg3 harg3 arg4 harg4 arg5 harg5 arg6 harg6 arg7 harg7 arg8 harg8 arg9 harg9 arg10 harg10 arg11 harg11 arg12 harg12 arg13 harg13 arg14 harg14 arg15 harg15 x0 x1 x2) x)
  · exact SL.skip P.2.1 0 0 1024 (by decide) _ _
  · exact SA.diag hi 0 1024 rfl (by decide) (by decide) P.2.2.1 _ _ (kernelRun0_A.sl.v300 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (View.readAt (Elt Ideal) arg5.view (Rect.unit (s := S1x2x128x8192) (k0_off11 i 0#32) ![1, 1, 128, 256] (k0_off11_inb i 0)).toLoadRect (harg5.unread x2)) (cmpi CmpIPredicate.sle kernelRun0_A.sl.v71 kernelRun0_A.sl.v46) (kernelRun0_A.sl.v243 (F := Ideal) i arg3 harg3 arg4 harg4 x0 x1) mask0 (score00 i arg3 harg3 arg4 harg4 x0 x1 hi)
        (fun j k => value_at arg5 harg5 x2 _ 0 (1024 * (i 2).val + 0) (k0_off11_eq i 0) j k _)
        (fun j x => cov_pt arg15.view _ _ _ _ (row_ix 0 0 j x _)) (fun j x => a_diag0 (cmpi CmpIPredicate.sle kernelRun0_A.sl.v71 kernelRun0_A.sl.v46) (kernelRun0_A.sl.v243 (F := Ideal) i arg3 harg3 arg4 harg4 x0 x1) (View.readAt (Elt Ideal) arg5.view (Rect.unit (s := S1x2x128x8192) (k0_off11 i 0#32) ![1, 1, 128, 256] (k0_off11_inb i 0)).toLoadRect (harg5.unread x2)) (kernelRun0_A.sl.v300 (F := Ideal) c i arg3 harg3 arg4 harg4 arg5 harg5 arg6 harg6 arg7 harg7 arg8 harg8 arg9 harg9 arg10 harg10 arg11 harg11 arg12 harg12 arg13 harg13 arg14 harg14 arg15 harg15 x0 x1 x2) j x)
  · exact SA.skip P.2.2.2 0 0 1024 (by decide) _ _

/-- After tile 0 of head 1. -/
theorem tile01 (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole) (x0 : Vec Ideal S1x2x1024x256 .bf16) (x1 : Vec Ideal S1x2x8192x256 .bf16) (x2 : Vec Ideal S1x2x128x8192 .bf16) :
    SL x0 x1 (i 2).val (kernelRun0_A.sl.HS1_2 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 256)
    ∧ SL x0 x1 (i 2).val (kernelRun0_A.sl.HS1_2 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 256)
    ∧ SA x0 x1 x2 (i 2).val (kernelRun0_A.sl.HS2_2 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 256)
    ∧ SA x0 x1 x2 (i 2).val (kernelRun0_A.sl.HS2_2 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 256) := by
  have hi : (i 2).val < 8 := (i 2).isLt
  have P := tile00 c i arg3 harg3 arg4 harg4 arg5 harg5 arg6 harg6 arg7 harg7 arg8 harg8 arg9 harg9 arg10 harg10 arg11 harg11 arg12 harg12 arg13 harg13 arg14 harg14 arg15 harg15 x0 x1 x2
  refine ⟨?_, ?_, ?_, ?_⟩
  · exact SL.skip P.1 1 0 1024 (by decide) _ _
  · exact SL.diag hi 0 1024 rfl (by decide) (by decide) P.2.1 _ _ (kernelRun0_A.sl.v314 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (cmpi CmpIPredicate.sle kernelRun0_A.sl.v71 kernelRun0_A.sl.v46) (kernelRun0_A.sl.v249 (F := Ideal) i arg3 harg3 arg4 harg4 x0 x1) mask0 (score01 i arg3 harg3 arg4 harg4 x0 x1 hi)
        (fun x => cov_pt arg14.view _ _ _ _ (row_ix 1 0 0 x _)) (fun x => l_diag0b (cmpi CmpIPredicate.sle kernelRun0_A.sl.v71 kernelRun0_A.sl.v46) (kernelRun0_A.sl.v249 (F := Ideal) i arg3 harg3 arg4 harg4 x0 x1) (kernelRun0_A.sl.v314 (F := Ideal) c i arg3 harg3 arg4 harg4 arg5 harg5 arg6 harg6 arg7 harg7 arg8 harg8 arg9 harg9 arg10 harg10 arg11 harg11 arg12 harg12 arg13 harg13 arg14 harg14 arg15 harg15 x0 x1 x2) x)
  · exact SA.skip P.2.2.1 1 0 1024 (by decide) _ _
  · exact SA.diag hi 0 1024 rfl (by decide) (by decide) P.2.2.2 _ _ (kernelRun0_A.sl.v322 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (View.readAt (Elt Ideal) arg5.view (Rect.unit (s := S1x2x128x8192) (k0_off12 i 0#32) ![1, 1, 128, 256] (k0_off12_inb i 0)).toLoadRect (harg5.unread x2)) (cmpi CmpIPredicate.sle kernelRun0_A.sl.v71 kernelRun0_A.sl.v46) (kernelRun0_A.sl.v249 (F := Ideal) i arg3 harg3 arg4 harg4 x0 x1) mask0 (score01 i arg3 harg3 arg4 harg4 x0 x1 hi)
        (fun j k => value_at arg5 harg5 x2 _ 1 (1024 * (i 2).val + 0) (k0_off12_eq i 0) j k _)
        (fun j x => cov_pt arg15.view _ _ _ _ (row_ix 1 0 j x _)) (fun j x => a_diag0b (cmpi CmpIPredicate.sle kernelRun0_A.sl.v71 kernelRun0_A.sl.v46) (kernelRun0_A.sl.v249 (F := Ideal) i arg3 harg3 arg4 harg4 x0 x1) (View.readAt (Elt Ideal) arg5.view (Rect.unit (s := S1x2x128x8192) (k0_off12 i 0#32) ![1, 1, 128, 256] (k0_off12_inb i 0)).toLoadRect (harg5.unread x2)) (kernelRun0_A.sl.v322 (F := Ideal) c i arg3 harg3 arg4 harg4 arg5 harg5 arg6 harg6 arg7 harg7 arg8 harg8 arg9 harg9 arg10 harg10 arg11 harg11 arg12 harg12 arg13 harg13 arg14 harg14 arg15 harg15 x0 x1 x2) j x)

/-- After tile 1 of head 0. -/
theorem tile10 (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole) (x0 : Vec Ideal S1x2x1024x256 .bf16) (x1 : Vec Ideal S1x2x8192x256 .bf16) (x2 : Vec Ideal S1x2x128x8192 .bf16) :
    SL x0 x1 (i 2).val (kernelRun0_A.sl.HS1_3 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 512)
    ∧ SL x0 x1 (i 2).val (kernelRun0_A.sl.HS1_3 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 256)
    ∧ SA x0 x1 x2 (i 2).val (kernelRun0_A.sl.HS2_3 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 512)
    ∧ SA x0 x1 x2 (i 2).val (kernelRun0_A.sl.HS2_3 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 256) := by
  have hi : (i 2).val < 8 := (i 2).isLt
  have P := tile01 c i arg3 harg3 arg4 harg4 arg5 harg5 arg6 harg6 arg7 harg7 arg8 harg8 arg9 harg9 arg10 harg10 arg11 harg11 arg12 harg12 arg13 harg13 arg14 harg14 arg15 harg15 x0 x1 x2
  refine ⟨?_, ?_, ?_, ?_⟩
  · exact SL.diag hi 256 768 rfl (by decide) (by decide) P.1 _ _ (kernelRun0_A.sl.v336 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (cmpi CmpIPredicate.sle kernelRun0_A.sl.v125 kernelRun0_A.sl.v100) (kernelRun0_A.sl.v255 (F := Ideal) i arg3 harg3 arg4 harg4 x0 x1) mask1 (score10 i arg3 harg3 arg4 harg4 x0 x1 hi)
        (fun x => cov_pt arg14.view _ _ _ _ (row_ix 0 256 0 x _)) (fun x => l_diag1 (cmpi CmpIPredicate.sle kernelRun0_A.sl.v125 kernelRun0_A.sl.v100) (kernelRun0_A.sl.v255 (F := Ideal) i arg3 harg3 arg4 harg4 x0 x1) (kernelRun0_A.sl.v336 (F := Ideal) c i arg3 harg3 arg4 harg4 arg5 harg5 arg6 harg6 arg7 harg7 arg8 harg8 arg9 harg9 arg10 harg10 arg11 harg11 arg12 harg12 arg13 harg13 arg14 harg14 arg15 harg15 x0 x1 x2) x)
  · exact SL.skip P.2.1 0 256 768 (by decide) _ _
  · exact SA.diag hi 256 768 rfl (by decide) (by decide) P.2.2.1 _ _ (kernelRun0_A.sl.v344 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (View.readAt (Elt Ideal) arg5.view (Rect.unit (s := S1x2x128x8192) (k0_off11 i 256#32) ![1, 1, 128, 256] (k0_off11_inb i 1)).toLoadRect (harg5.unread x2)) (cmpi CmpIPredicate.sle kernelRun0_A.sl.v125 kernelRun0_A.sl.v100) (kernelRun0_A.sl.v255 (F := Ideal) i arg3 harg3 arg4 harg4 x0 x1) mask1 (score10 i arg3 harg3 arg4 harg4 x0 x1 hi)
        (fun j k => value_at arg5 harg5 x2 _ 0 (1024 * (i 2).val + 256) (k0_off11_eq i 1) j k _)
        (fun j x => cov_pt arg15.view _ _ _ _ (row_ix 0 256 j x _)) (fun j x => a_diag1 (cmpi CmpIPredicate.sle kernelRun0_A.sl.v125 kernelRun0_A.sl.v100) (kernelRun0_A.sl.v255 (F := Ideal) i arg3 harg3 arg4 harg4 x0 x1) (View.readAt (Elt Ideal) arg5.view (Rect.unit (s := S1x2x128x8192) (k0_off11 i 256#32) ![1, 1, 128, 256] (k0_off11_inb i 1)).toLoadRect (harg5.unread x2)) (kernelRun0_A.sl.v344 (F := Ideal) c i arg3 harg3 arg4 harg4 arg5 harg5 arg6 harg6 arg7 harg7 arg8 harg8 arg9 harg9 arg10 harg10 arg11 harg11 arg12 harg12 arg13 harg13 arg14 harg14 arg15 harg15 x0 x1 x2) j x)
  · exact SA.skip P.2.2.2 0 256 768 (by decide) _ _

/-- After tile 1 of head 1. -/
theorem tile11 (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole) (x0 : Vec Ideal S1x2x1024x256 .bf16) (x1 : Vec Ideal S1x2x8192x256 .bf16) (x2 : Vec Ideal S1x2x128x8192 .bf16) :
    SL x0 x1 (i 2).val (kernelRun0_A.sl.HS1_4 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 512)
    ∧ SL x0 x1 (i 2).val (kernelRun0_A.sl.HS1_4 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 512)
    ∧ SA x0 x1 x2 (i 2).val (kernelRun0_A.sl.HS2_4 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 512)
    ∧ SA x0 x1 x2 (i 2).val (kernelRun0_A.sl.HS2_4 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 512) := by
  have hi : (i 2).val < 8 := (i 2).isLt
  have P := tile10 c i arg3 harg3 arg4 harg4 arg5 harg5 arg6 harg6 arg7 harg7 arg8 harg8 arg9 harg9 arg10 harg10 arg11 harg11 arg12 harg12 arg13 harg13 arg14 harg14 arg15 harg15 x0 x1 x2
  refine ⟨?_, ?_, ?_, ?_⟩
  · exact SL.skip P.1 1 256 768 (by decide) _ _
  · exact SL.diag hi 256 768 rfl (by decide) (by decide) P.2.1 _ _ (kernelRun0_A.sl.v358 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (cmpi CmpIPredicate.sle kernelRun0_A.sl.v125 kernelRun0_A.sl.v100) (kernelRun0_A.sl.v261 (F := Ideal) i arg3 harg3 arg4 harg4 x0 x1) mask1 (score11 i arg3 harg3 arg4 harg4 x0 x1 hi)
        (fun x => cov_pt arg14.view _ _ _ _ (row_ix 1 256 0 x _)) (fun x => l_diag1b (cmpi CmpIPredicate.sle kernelRun0_A.sl.v125 kernelRun0_A.sl.v100) (kernelRun0_A.sl.v261 (F := Ideal) i arg3 harg3 arg4 harg4 x0 x1) (kernelRun0_A.sl.v358 (F := Ideal) c i arg3 harg3 arg4 harg4 arg5 harg5 arg6 harg6 arg7 harg7 arg8 harg8 arg9 harg9 arg10 harg10 arg11 harg11 arg12 harg12 arg13 harg13 arg14 harg14 arg15 harg15 x0 x1 x2) x)
  · exact SA.skip P.2.2.1 1 256 768 (by decide) _ _
  · exact SA.diag hi 256 768 rfl (by decide) (by decide) P.2.2.2 _ _ (kernelRun0_A.sl.v366 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (View.readAt (Elt Ideal) arg5.view (Rect.unit (s := S1x2x128x8192) (k0_off12 i 256#32) ![1, 1, 128, 256] (k0_off12_inb i 1)).toLoadRect (harg5.unread x2)) (cmpi CmpIPredicate.sle kernelRun0_A.sl.v125 kernelRun0_A.sl.v100) (kernelRun0_A.sl.v261 (F := Ideal) i arg3 harg3 arg4 harg4 x0 x1) mask1 (score11 i arg3 harg3 arg4 harg4 x0 x1 hi)
        (fun j k => value_at arg5 harg5 x2 _ 1 (1024 * (i 2).val + 256) (k0_off12_eq i 1) j k _)
        (fun j x => cov_pt arg15.view _ _ _ _ (row_ix 1 256 j x _)) (fun j x => a_diag1b (cmpi CmpIPredicate.sle kernelRun0_A.sl.v125 kernelRun0_A.sl.v100) (kernelRun0_A.sl.v261 (F := Ideal) i arg3 harg3 arg4 harg4 x0 x1) (View.readAt (Elt Ideal) arg5.view (Rect.unit (s := S1x2x128x8192) (k0_off12 i 256#32) ![1, 1, 128, 256] (k0_off12_inb i 1)).toLoadRect (harg5.unread x2)) (kernelRun0_A.sl.v366 (F := Ideal) c i arg3 harg3 arg4 harg4 arg5 harg5 arg6 harg6 arg7 harg7 arg8 harg8 arg9 harg9 arg10 harg10 arg11 harg11 arg12 harg12 arg13 harg13 arg14 harg14 arg15 harg15 x0 x1 x2) j x)

/-- After tile 2 of head 0. -/
theorem tile20 (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole) (x0 : Vec Ideal S1x2x1024x256 .bf16) (x1 : Vec Ideal S1x2x8192x256 .bf16) (x2 : Vec Ideal S1x2x128x8192 .bf16) :
    SL x0 x1 (i 2).val (kernelRun0_A.sl.HS1_5 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 768)
    ∧ SL x0 x1 (i 2).val (kernelRun0_A.sl.HS1_5 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 512)
    ∧ SA x0 x1 x2 (i 2).val (kernelRun0_A.sl.HS2_5 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 768)
    ∧ SA x0 x1 x2 (i 2).val (kernelRun0_A.sl.HS2_5 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 512) := by
  have hi : (i 2).val < 8 := (i 2).isLt
  have P := tile11 c i arg3 harg3 arg4 harg4 arg5 harg5 arg6 harg6 arg7 harg7 arg8 harg8 arg9 harg9 arg10 harg10 arg11 harg11 arg12 harg12 arg13 harg13 arg14 harg14 arg15 harg15 x0 x1 x2
  refine ⟨?_, ?_, ?_, ?_⟩
  · exact SL.diag hi 512 512 rfl (by decide) (by decide) P.1 _ _ (kernelRun0_A.sl.v380 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (cmpi CmpIPredicate.sle kernelRun0_A.sl.v179 kernelRun0_A.sl.v154) (kernelRun0_A.sl.v267 (F := Ideal) i arg3 harg3 arg4 harg4 x0 x1) mask2 (score20 i arg3 harg3 arg4 harg4 x0 x1 hi)
        (fun x => cov_pt arg14.view _ _ _ _ (row_ix 0 512 0 x _)) (fun x => l_diag2 (cmpi CmpIPredicate.sle kernelRun0_A.sl.v179 kernelRun0_A.sl.v154) (kernelRun0_A.sl.v267 (F := Ideal) i arg3 harg3 arg4 harg4 x0 x1) (kernelRun0_A.sl.v380 (F := Ideal) c i arg3 harg3 arg4 harg4 arg5 harg5 arg6 harg6 arg7 harg7 arg8 harg8 arg9 harg9 arg10 harg10 arg11 harg11 arg12 harg12 arg13 harg13 arg14 harg14 arg15 harg15 x0 x1 x2) x)
  · exact SL.skip P.2.1 0 512 512 (by decide) _ _
  · exact SA.diag hi 512 512 rfl (by decide) (by decide) P.2.2.1 _ _ (kernelRun0_A.sl.v388 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (View.readAt (Elt Ideal) arg5.view (Rect.unit (s := S1x2x128x8192) (k0_off11 i 512#32) ![1, 1, 128, 256] (k0_off11_inb i 2)).toLoadRect (harg5.unread x2)) (cmpi CmpIPredicate.sle kernelRun0_A.sl.v179 kernelRun0_A.sl.v154) (kernelRun0_A.sl.v267 (F := Ideal) i arg3 harg3 arg4 harg4 x0 x1) mask2 (score20 i arg3 harg3 arg4 harg4 x0 x1 hi)
        (fun j k => value_at arg5 harg5 x2 _ 0 (1024 * (i 2).val + 512) (k0_off11_eq i 2) j k _)
        (fun j x => cov_pt arg15.view _ _ _ _ (row_ix 0 512 j x _)) (fun j x => a_diag2 (cmpi CmpIPredicate.sle kernelRun0_A.sl.v179 kernelRun0_A.sl.v154) (kernelRun0_A.sl.v267 (F := Ideal) i arg3 harg3 arg4 harg4 x0 x1) (View.readAt (Elt Ideal) arg5.view (Rect.unit (s := S1x2x128x8192) (k0_off11 i 512#32) ![1, 1, 128, 256] (k0_off11_inb i 2)).toLoadRect (harg5.unread x2)) (kernelRun0_A.sl.v388 (F := Ideal) c i arg3 harg3 arg4 harg4 arg5 harg5 arg6 harg6 arg7 harg7 arg8 harg8 arg9 harg9 arg10 harg10 arg11 harg11 arg12 harg12 arg13 harg13 arg14 harg14 arg15 harg15 x0 x1 x2) j x)
  · exact SA.skip P.2.2.2 0 512 512 (by decide) _ _

/-- After tile 2 of head 1. -/
theorem tile21 (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole) (x0 : Vec Ideal S1x2x1024x256 .bf16) (x1 : Vec Ideal S1x2x8192x256 .bf16) (x2 : Vec Ideal S1x2x128x8192 .bf16) :
    SL x0 x1 (i 2).val (kernelRun0_A.sl.HS1_6 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 768)
    ∧ SL x0 x1 (i 2).val (kernelRun0_A.sl.HS1_6 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 768)
    ∧ SA x0 x1 x2 (i 2).val (kernelRun0_A.sl.HS2_6 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 768)
    ∧ SA x0 x1 x2 (i 2).val (kernelRun0_A.sl.HS2_6 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 768) := by
  have hi : (i 2).val < 8 := (i 2).isLt
  have P := tile20 c i arg3 harg3 arg4 harg4 arg5 harg5 arg6 harg6 arg7 harg7 arg8 harg8 arg9 harg9 arg10 harg10 arg11 harg11 arg12 harg12 arg13 harg13 arg14 harg14 arg15 harg15 x0 x1 x2
  refine ⟨?_, ?_, ?_, ?_⟩
  · exact SL.skip P.1 1 512 512 (by decide) _ _
  · exact SL.diag hi 512 512 rfl (by decide) (by decide) P.2.1 _ _ (kernelRun0_A.sl.v402 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (cmpi CmpIPredicate.sle kernelRun0_A.sl.v179 kernelRun0_A.sl.v154) (kernelRun0_A.sl.r (F := Ideal) i arg3 harg3 arg4 harg4 x0 x1) mask2 (score21 i arg3 harg3 arg4 harg4 x0 x1 hi)
        (fun x => cov_pt arg14.view _ _ _ _ (row_ix 1 512 0 x _)) (fun x => l_diag2b (cmpi CmpIPredicate.sle kernelRun0_A.sl.v179 kernelRun0_A.sl.v154) (kernelRun0_A.sl.r (F := Ideal) i arg3 harg3 arg4 harg4 x0 x1) (kernelRun0_A.sl.v402 (F := Ideal) c i arg3 harg3 arg4 harg4 arg5 harg5 arg6 harg6 arg7 harg7 arg8 harg8 arg9 harg9 arg10 harg10 arg11 harg11 arg12 harg12 arg13 harg13 arg14 harg14 arg15 harg15 x0 x1 x2) x)
  · exact SA.skip P.2.2.1 1 512 512 (by decide) _ _
  · exact SA.diag hi 512 512 rfl (by decide) (by decide) P.2.2.2 _ _ (kernelRun0_A.sl.v410 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (View.readAt (Elt Ideal) arg5.view (Rect.unit (s := S1x2x128x8192) (k0_off12 i 512#32) ![1, 1, 128, 256] (k0_off12_inb i 2)).toLoadRect (harg5.unread x2)) (cmpi CmpIPredicate.sle kernelRun0_A.sl.v179 kernelRun0_A.sl.v154) (kernelRun0_A.sl.r (F := Ideal) i arg3 harg3 arg4 harg4 x0 x1) mask2 (score21 i arg3 harg3 arg4 harg4 x0 x1 hi)
        (fun j k => value_at arg5 harg5 x2 _ 1 (1024 * (i 2).val + 512) (k0_off12_eq i 2) j k _)
        (fun j x => cov_pt arg15.view _ _ _ _ (row_ix 1 512 j x _)) (fun j x => a_diag2b (cmpi CmpIPredicate.sle kernelRun0_A.sl.v179 kernelRun0_A.sl.v154) (kernelRun0_A.sl.r (F := Ideal) i arg3 harg3 arg4 harg4 x0 x1) (View.readAt (Elt Ideal) arg5.view (Rect.unit (s := S1x2x128x8192) (k0_off12 i 512#32) ![1, 1, 128, 256] (k0_off12_inb i 2)).toLoadRect (harg5.unread x2)) (kernelRun0_A.sl.v410 (F := Ideal) c i arg3 harg3 arg4 harg4 arg5 harg5 arg6 harg6 arg7 harg7 arg8 harg8 arg9 harg9 arg10 harg10 arg11 harg11 arg12 harg12 arg13 harg13 arg14 harg14 arg15 harg15 x0 x1 x2) j x)

/-- After tile 3 of head 0. -/
theorem tile30 (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole) (x0 : Vec Ideal S1x2x1024x256 .bf16) (x1 : Vec Ideal S1x2x8192x256 .bf16) (x2 : Vec Ideal S1x2x128x8192 .bf16) :
    SL x0 x1 (i 2).val (kernelRun0_A.sl.HS1_7 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 1024)
    ∧ SL x0 x1 (i 2).val (kernelRun0_A.sl.HS1_7 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 768)
    ∧ SA x0 x1 x2 (i 2).val (kernelRun0_A.sl.HS2_7 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 1024)
    ∧ SA x0 x1 x2 (i 2).val (kernelRun0_A.sl.HS2_7 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 768) := by
  have hi : (i 2).val < 8 := (i 2).isLt
  have P := tile21 c i arg3 harg3 arg4 harg4 arg5 harg5 arg6 harg6 arg7 harg7 arg8 harg8 arg9 harg9 arg10 harg10 arg11 harg11 arg12 harg12 arg13 harg13 arg14 harg14 arg15 harg15 x0 x1 x2
  refine ⟨?_, ?_, ?_, ?_⟩
  · exact SL.diag hi 768 256 rfl (by decide) (by decide) P.1 _ _ (kernelRun0_A.sl.v424 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (cmpi CmpIPredicate.sle kernelRun0_A.sl.v233 kernelRun0_A.sl.v208) (kernelRun0_A.sl.r_1 (F := Ideal) i arg3 harg3 arg4 harg4 x0 x1) mask3 (score30 i arg3 harg3 arg4 harg4 x0 x1 hi)
        (fun x => cov_pt arg14.view _ _ _ _ (row_ix 0 768 0 x _)) (fun x => l_diag3 (cmpi CmpIPredicate.sle kernelRun0_A.sl.v233 kernelRun0_A.sl.v208) (kernelRun0_A.sl.r_1 (F := Ideal) i arg3 harg3 arg4 harg4 x0 x1) (kernelRun0_A.sl.v424 (F := Ideal) c i arg3 harg3 arg4 harg4 arg5 harg5 arg6 harg6 arg7 harg7 arg8 harg8 arg9 harg9 arg10 harg10 arg11 harg11 arg12 harg12 arg13 harg13 arg14 harg14 arg15 harg15 x0 x1 x2) x)
  · exact SL.skip P.2.1 0 768 256 (by decide) _ _
  · exact SA.diag hi 768 256 rfl (by decide) (by decide) P.2.2.1 _ _ (kernelRun0_A.sl.v432 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (View.readAt (Elt Ideal) arg5.view (Rect.unit (s := S1x2x128x8192) (k0_off11 i 768#32) ![1, 1, 128, 256] (k0_off11_inb i 3)).toLoadRect (harg5.unread x2)) (cmpi CmpIPredicate.sle kernelRun0_A.sl.v233 kernelRun0_A.sl.v208) (kernelRun0_A.sl.r_1 (F := Ideal) i arg3 harg3 arg4 harg4 x0 x1) mask3 (score30 i arg3 harg3 arg4 harg4 x0 x1 hi)
        (fun j k => value_at arg5 harg5 x2 _ 0 (1024 * (i 2).val + 768) (k0_off11_eq i 3) j k _)
        (fun j x => cov_pt arg15.view _ _ _ _ (row_ix 0 768 j x _)) (fun j x => a_diag3 (cmpi CmpIPredicate.sle kernelRun0_A.sl.v233 kernelRun0_A.sl.v208) (kernelRun0_A.sl.r_1 (F := Ideal) i arg3 harg3 arg4 harg4 x0 x1) (View.readAt (Elt Ideal) arg5.view (Rect.unit (s := S1x2x128x8192) (k0_off11 i 768#32) ![1, 1, 128, 256] (k0_off11_inb i 3)).toLoadRect (harg5.unread x2)) (kernelRun0_A.sl.v432 (F := Ideal) c i arg3 harg3 arg4 harg4 arg5 harg5 arg6 harg6 arg7 harg7 arg8 harg8 arg9 harg9 arg10 harg10 arg11 harg11 arg12 harg12 arg13 harg13 arg14 harg14 arg15 harg15 x0 x1 x2) j x)
  · exact SA.skip P.2.2.2 0 768 256 (by decide) _ _

/-- After tile 3 of head 1. -/
theorem tile31 (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole) (x0 : Vec Ideal S1x2x1024x256 .bf16) (x1 : Vec Ideal S1x2x8192x256 .bf16) (x2 : Vec Ideal S1x2x128x8192 .bf16) :
    SL x0 x1 (i 2).val (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 1024)
    ∧ SL x0 x1 (i 2).val (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 1024)
    ∧ SA x0 x1 x2 (i 2).val (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 0 (1024 * (i 2).val + 1024)
    ∧ SA x0 x1 x2 (i 2).val (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2) 1 (1024 * (i 2).val + 1024) := by
  have hi : (i 2).val < 8 := (i 2).isLt
  have P := tile30 c i arg3 harg3 arg4 harg4 arg5 harg5 arg6 harg6 arg7 harg7 arg8 harg8 arg9 harg9 arg10 harg10 arg11 harg11 arg12 harg12 arg13 harg13 arg14 harg14 arg15 harg15 x0 x1 x2
  refine ⟨?_, ?_, ?_, ?_⟩
  · exact SL.skip P.1 1 768 256 (by decide) _ _
  · exact SL.diag hi 768 256 rfl (by decide) (by decide) P.2.1 _ _ (kernelRun0_A.sl.v446 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (cmpi CmpIPredicate.sle kernelRun0_A.sl.v233 kernelRun0_A.sl.v208) (kernelRun0_A.sl.r_2 (F := Ideal) i arg3 harg3 arg4 harg4 x0 x1) mask3 (score31 i arg3 harg3 arg4 harg4 x0 x1 hi)
        (fun x => cov_pt arg14.view _ _ _ _ (row_ix 1 768 0 x _)) (fun x => l_diag3b (cmpi CmpIPredicate.sle kernelRun0_A.sl.v233 kernelRun0_A.sl.v208) (kernelRun0_A.sl.r_2 (F := Ideal) i arg3 harg3 arg4 harg4 x0 x1) (kernelRun0_A.sl.v446 (F := Ideal) c i arg3 harg3 arg4 harg4 arg5 harg5 arg6 harg6 arg7 harg7 arg8 harg8 arg9 harg9 arg10 harg10 arg11 harg11 arg12 harg12 arg13 harg13 arg14 harg14 arg15 harg15 x0 x1 x2) x)
  · exact SA.skip P.2.2.1 1 768 256 (by decide) _ _
  · exact SA.diag hi 768 256 rfl (by decide) (by decide) P.2.2.2 _ _ (kernelRun0_A.sl.v454 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (View.readAt (Elt Ideal) arg5.view (Rect.unit (s := S1x2x128x8192) (k0_off12 i 768#32) ![1, 1, 128, 256] (k0_off12_inb i 3)).toLoadRect (harg5.unread x2)) (cmpi CmpIPredicate.sle kernelRun0_A.sl.v233 kernelRun0_A.sl.v208) (kernelRun0_A.sl.r_2 (F := Ideal) i arg3 harg3 arg4 harg4 x0 x1) mask3 (score31 i arg3 harg3 arg4 harg4 x0 x1 hi)
        (fun j k => value_at arg5 harg5 x2 _ 1 (1024 * (i 2).val + 768) (k0_off12_eq i 3) j k _)
        (fun j x => cov_pt arg15.view _ _ _ _ (row_ix 1 768 j x _)) (fun j x => a_diag3b (cmpi CmpIPredicate.sle kernelRun0_A.sl.v233 kernelRun0_A.sl.v208) (kernelRun0_A.sl.r_2 (F := Ideal) i arg3 harg3 arg4 harg4 x0 x1) (View.readAt (Elt Ideal) arg5.view (Rect.unit (s := S1x2x128x8192) (k0_off12 i 768#32) ![1, 1, 128, 256] (k0_off12_inb i 3)).toLoadRect (harg5.unread x2)) (kernelRun0_A.sl.v454 (F := Ideal) c i arg3 harg3 arg4 harg4 arg5 harg5 arg6 harg6 arg7 harg7 arg8 harg8 arg9 harg9 arg10 harg10 arg11 harg11 arg12 harg12 arg13 harg13 arg14 harg14 arg15 harg15 x0 x1 x2) j x)

end Cert.KernelIdeal.Flash

end
-- ==== Proof.FlashOut.lean ====
module

public import proofs.«01_k».proof.Proof.FlashDiag
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen

/-! ## What a grid point leaves in its output blocks -/

/-- The quotient stored for head 0 of a point: the weighted sum of the values over the sum of the weights. -/
theorem quot0 (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole)
    (x0 : Vec Ideal S1x2x1024x256 .bf16) (x1 : Vec Ideal S1x2x8192x256 .bf16) (x2 : Vec Ideal S1x2x128x8192 .bf16) (x : Fin 1024) (j : Fin 128) :
    (k0_pay84 (F := Ideal) (kernelRun0_A.sl.v462 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (kernelRun0_A.sl.v464 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (ix3 0 x j) : EReal)
      = Ideal.div (∑ n ∈ Finset.range (1024 * (i 2).val + 1024), pa x0 x1 x2 (i 2).val 0 j x n) (∑ n ∈ Finset.range (1024 * (i 2).val + 1024), pw x0 x1 (i 2).val 0 x n) := by
  have P := tile31 c i arg3 harg3 arg4 harg4 arg5 harg5 arg6 harg6 arg7 harg7 arg8 harg8 arg9 harg9 arg10 harg10 arg11 harg11 arg12 harg12 arg13 harg13 arg14 harg14 arg15 harg15 x0 x1 x2
  refine (o_84 _ _ x j).trans (congrArg₂ Ideal.div ?_ ?_)
  · refine (cov_pt arg15.view _ _ _ (ix3 0 j x) (fun a => by fin_cases a <;> first | rfl | exact (Nat.zero_add _).symm)).trans ?_
    exact P.2.2.1 j x
  · refine (cov_pt arg14.view _ _ _ (ix3 0 0 x) (fun a => by fin_cases a <;> first | rfl | exact (Nat.zero_add _).symm)).trans ?_
    exact P.1 x

/-- The quotient stored for head 1 of a point: the weighted sum of the values over the sum of the weights. -/
theorem quot1 (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole)
    (x0 : Vec Ideal S1x2x1024x256 .bf16) (x1 : Vec Ideal S1x2x8192x256 .bf16) (x2 : Vec Ideal S1x2x128x8192 .bf16) (x : Fin 1024) (j : Fin 128) :
    (k0_pay85 (F := Ideal) (kernelRun0_A.sl.v473 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (kernelRun0_A.sl.v475 (F := Ideal) c i arg3 harg3 arg4 harg4 arg5 harg5 arg6 harg6 arg7 harg7 arg8 harg8 arg9 harg9 arg10 harg10 arg11 harg11 arg12 harg12 arg13 harg13 arg14 harg14 arg15 harg15 x0 x1 x2) (ix3 0 x j) : EReal)
      = Ideal.div (∑ n ∈ Finset.range (1024 * (i 2).val + 1024), pa x0 x1 x2 (i 2).val 1 j x n) (∑ n ∈ Finset.range (1024 * (i 2).val + 1024), pw x0 x1 (i 2).val 1 x n) := by
  have P := tile31 c i arg3 harg3 arg4 harg4 arg5 harg5 arg6 harg6 arg7 harg7 arg8 harg8 arg9 harg9 arg10 harg10 arg11 harg11 arg12 harg12 arg13 harg13 arg14 harg14 arg15 harg15 x0 x1 x2
  refine (o_85 _ _ x j).trans (congrArg₂ Ideal.div ?_ ?_)
  · refine (cov_pt arg15.view _ _ _ (ix3 1 j x) (fun a => by fin_cases a <;> first | rfl | exact (Nat.zero_add _).symm)).trans ?_
    exact P.2.2.2 j x
  · refine (cov_pt arg14.view _ _ _ (ix3 1 0 x) (fun a => by fin_cases a <;> first | rfl | exact (Nat.zero_add _).symm)).trans ?_
    exact P.2.1 x

/-- The output block of a point, at a query and a column: head by head, the softmax-weighted values. -/
theorem out_at (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole)
    (x0 : Vec Ideal S1x2x1024x256 .bf16) (x1 : Vec Ideal S1x2x8192x256 .bf16) (x2 : Vec Ideal S1x2x128x8192 .bf16) (x3 : Vec Ideal S32x2048 .f32) (x4 : Vec Ideal S32x8192 .f32) (x5 : Vec Ideal S128x2048 .f32) (hh : Fin 2) (x : Fin 1024) (j : Fin 128) (h : hh.val * 128 + j.val < 256) :
    (out0_A_6 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 (ix3 0 x (⟨hh.val * 128 + j.val, h⟩ : Fin 256)) : EReal)
      = Ideal.div (∑ n ∈ Finset.range (1024 * (i 2).val + 1024), pa x0 x1 x2 (i 2).val hh j x n) (∑ n ∈ Finset.range (1024 * (i 2).val + 1024), pw x0 x1 (i 2).val hh x n) := by
  unfold out0_A_6 kernelRun0_A
  dsimp only
  rw [View.read_writes_junk_eq_canon]
  match hh, h with
  | ⟨0, _⟩, h =>
    refine (canon_not_mem _ _ _ _ (2 : Fin 3) (Or.inl (by show 0 * 128 + j.val < 128; omega))).trans ?_
    refine (canon_mem _ _ _ _ (ix3 0 x j : S1x1024x128.Idx) (fun a => by fin_cases a <;> first | rfl | exact (Nat.zero_add _).symm | (show 0 * 128 + j.val = 0 + j.val; omega))).trans ?_
    exact quot0 c i arg3 harg3 arg4 harg4 arg5 harg5 arg6 harg6 arg7 harg7 arg8 harg8 arg9 harg9 arg10 harg10 arg11 harg11 arg12 harg12 arg13 harg13 arg14 harg14 arg15 harg15 x0 x1 x2 x j
  | ⟨1, _⟩, h =>
    refine (canon_mem _ _ _ _ (ix3 0 x j : S1x1024x128.Idx) (fun a => by fin_cases a <;> first | rfl | exact (Nat.zero_add _).symm | (show 1 * 128 + j.val = 128 + j.val; omega))).trans ?_
    exact quot1 c i arg3 harg3 arg4 harg4 arg5 harg5 arg6 harg6 arg7 harg7 arg8 harg8 arg9 harg9 arg10 harg10 arg11 harg11 arg12 harg12 arg13 harg13 arg14 harg14 arg15 harg15 x0 x1 x2 x j

/-- The weight rows of output 7 are carried unchanged. -/
theorem rows7 (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole)
    (x0 : Vec Ideal S1x2x1024x256 .bf16) (x1 : Vec Ideal S1x2x8192x256 .bf16) (x2 : Vec Ideal S1x2x128x8192 .bf16) (x3 : Vec Ideal S32x2048 .f32) (x4 : Vec Ideal S32x8192 .f32) (x5 : Vec Ideal S128x2048 .f32) (y : S32x2048.Idx) :
    (out0_A_7 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 y : EReal) = x3 y := by
  unfold out0_A_7 kernelRun0_A
  dsimp only
  rw [View.read_writes_junk_eq_canon]
  refine (canon_mem _ _ _ _ (y : S32x2048.Idx) (fun a => by fin_cases a <;> exact (Nat.zero_add _).symm)).trans ?_
  exact load_pt arg6 harg6 x3 _ y y (fun a => by fin_cases a <;> exact (Nat.zero_add _).symm)

/-- The weight rows of output 8 are carried unchanged. -/
theorem rows8 (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole)
    (x0 : Vec Ideal S1x2x1024x256 .bf16) (x1 : Vec Ideal S1x2x8192x256 .bf16) (x2 : Vec Ideal S1x2x128x8192 .bf16) (x3 : Vec Ideal S32x2048 .f32) (x4 : Vec Ideal S32x8192 .f32) (x5 : Vec Ideal S128x2048 .f32) (y : S32x8192.Idx) :
    (out0_A_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 y : EReal) = x4 y := by
  unfold out0_A_8 kernelRun0_A
  dsimp only
  rw [View.read_writes_junk_eq_canon]
  refine (canon_mem _ _ _ _ (y : S32x8192.Idx) (fun a => by fin_cases a <;> exact (Nat.zero_add _).symm)).trans ?_
  exact load_pt arg7 harg7 x4 _ y y (fun a => by fin_cases a <;> exact (Nat.zero_add _).symm)

/-- The weight rows of output 9 are carried unchanged. -/
theorem rows9 (c : Dev nD) (i : grid0.Coords) (arg3 : Memref sig .tc .vmem S1x2x1024x256 .bf16) (harg3 : arg3.IsWhole) (arg4 : Memref sig .tc .vmem S1x2x8192x256 .bf16) (harg4 : arg4.IsWhole) (arg5 : Memref sig .tc .vmem S1x2x128x8192 .bf16) (harg5 : arg5.IsWhole) (arg6 : Memref sig .tc .vmem S32x2048 .f32) (harg6 : arg6.IsWhole) (arg7 : Memref sig .tc .vmem S32x8192 .f32) (harg7 : arg7.IsWhole) (arg8 : Memref sig .tc .vmem S128x2048 .f32) (harg8 : arg8.IsWhole) (arg9 : Memref sig .tc .vmem S1x1024x256 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x128x1024 .f32) (harg15 : arg15.IsWhole)
    (x0 : Vec Ideal S1x2x1024x256 .bf16) (x1 : Vec Ideal S1x2x8192x256 .bf16) (x2 : Vec Ideal S1x2x128x8192 .bf16) (x3 : Vec Ideal S32x2048 .f32) (x4 : Vec Ideal S32x8192 .f32) (x5 : Vec Ideal S128x2048 .f32) (y : S128x2048.Idx) :
    (out0_A_9 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 y : EReal) = x5 y := by
  unfold out0_A_9 kernelRun0_A
  dsimp only
  rw [View.read_writes_junk_eq_canon]
  refine (canon_mem _ _ _ _ (y : S128x2048.Idx) (fun a => by fin_cases a <;> exact (Nat.zero_add _).symm)).trans ?_
  exact load_pt arg8 harg8 x5 _ y y (fun a => by fin_cases a <;> exact (Nat.zero_add _).symm)

end Cert.KernelIdeal.Flash

end
-- ==== Proof.FlashHost.lean ====
module

public import proofs.«01_k».proof.Proof.Gen.KernelIdeal.Value
public import Idealize.ShloMosaic.Lib.Pipeline.ValueKit
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem Idealize.ShloMosaic.StableHlo

namespace Cert.KernelIdeal.Flash

open Cert.KernelIdeal Cert.KernelIdeal.Gen

/-! ## What the call is given -/

/-- One on lane 192, zero on the other lanes. -/
def LANE : IVec S256 1 := cmpi .eq (iotaInDim S256 32 0) (broadcastInDim S256 ![] bcast_S_S256 (constantI S_ 32 192#32))

/-- The queries the call is given: scaled by the softmax scale over the logarithm of two, 256 lanes wide, with a one on lane 192. -/
def QA (q : FVec Ideal S2x8192x8x192 .f32) : FVec Ideal S2x8x8192x256 .bf16 :=
  truncf .bf16 (addf (pad S2x8x8192x256 ![0, 0, 0, 0] ![0, 0, 0, 64] ![0, 0, 0, 0]
    (transpose S2x8x8192x192 [0, 2, 1, 3] (mulf q (broadcastInDim S2x8192x8x192 ![] bcast_S_S2x8192x8x192
      (Host.divf (constant S_ .f32 0x3D93CD3A#32) (Host.log (constant S_ .f32 0x40000000#32))))) transposes_S2x8192x8x192_S2x8x8192x192_0_2_1_3)
    (sitofp .f32 (constantI S_ 32 0#32)) pads_S2x8x8192x192_S2x8x8192x256_000_000_000_0640 h_S_)
    (broadcastInDim S2x8x8192x256 ![0, 1, 2, 3] bcast_S1x1x1x256_S2x8x8192x256_0_1_2_3
      (broadcastInDim S1x1x1x256 ![3] bcast_S256_S1x1x1x256_3 (uitofp .f32 LANE)))) bitsLt_bf16_f32

/-- The bound on the scores the two gains give. -/
def BOUND (gq gk : FVec Ideal S192 .f32) : FVec Ideal S_ .f32 :=
  mulf (mulf (mulf (constant S_ .f32 0x419FECAF#32) (Host.reduce FloatOps.maximumf (Host.absf gq) (constant S_ .f32 0xFF800000#32) reducesTo_S192_S_d0 h_S_))
    (Host.reduce FloatOps.maximumf (Host.absf gk) (constant S_ .f32 0xFF800000#32) reducesTo_S192_S_d0 h_S_)) (constant S_ .f32 0x3F828F5C#32)

/-- The shift the call subtracts from every score: the bound where it is at most 60, zero otherwise. -/
def SHIFT (gq gk : FVec Ideal S192 .f32) : FVec Ideal S_ .f32 :=
  select (cmpf .ole (BOUND gq gk) (constant S_ .f32 0x42700000#32)) (BOUND gq gk) (constant S_ .f32 0x00000000#32)

/-- The keys the call is given: 256 lanes wide, with the negated shift on lane 192. -/
def KA (k : FVec Ideal S2x8192x8x192 .f32) (gq gk : FVec Ideal S192 .f32) : FVec Ideal S2x8x8192x256 .bf16 :=
  truncf .bf16 (addf (pad S2x8x8192x256 ![0, 0, 0, 0] ![0, 0, 0, 64] ![0, 0, 0, 0]
    (transpose S2x8x8192x192 [0, 2, 1, 3] k transposes_S2x8192x8x192_S2x8x8192x192_0_2_1_3)
    (sitofp .f32 (constantI S_ 32 0#32)) pads_S2x8x8192x192_S2x8x8192x256_000_000_000_0640 h_S_)
    (broadcastInDim S2x8x8192x256 ![0, 1, 2, 3] bcast_S1x1x1x256_S2x8x8192x256_0_1_2_3
      (broadcastInDim S1x1x1x256 ![3] bcast_S256_S1x1x1x256_3
        (select LANE (broadcastInDim S256 ![] bcast_S_S256 (Host.negf (SHIFT gq gk))) (broadcastInDim S256 ![] bcast_S_S256 (constant S_ .f32 0x00000000#32)))))) bitsLt_bf16_f32

/-- The values the call is given: each head's values, a column per key. -/
def VT (v : FVec Ideal S2x8192x8x128 .f32) : FVec Ideal S2x8x128x8192 .bf16 :=
  truncf .bf16 (transpose S2x8x128x8192 [0, 2, 3, 1] v transposes_S2x8192x8x128_S2x8x128x8192_0_2_3_1) bitsLt_bf16_f32

variable (m : (ℓ : Loc nD τ sig) → Buf (Elt Ideal) ℓ)

set_option maxHeartbeats 2000000 in
theorem V_q (c : Dev nD) : V m c main_v22 = QA (m ((c : Thread nD τ).loc main_arg0)) := by
  show StableHlo.after (List.flatten [hostOps0, hostOps0_1, hostOps0_2, hostOps0_3, hostOps0_4, hostOps0_5, hostOps0_6, hostOps0_7, hostOps0_8]) (fun b => m (c, b)) main_v22 = _
  simp only [List.flatten_cons, List.flatten_nil, List.cons_append, List.nil_append, List.append_nil, hostOps0, hostOps0_1, hostOps0_2, hostOps0_3, hostOps0_4, hostOps0_5, hostOps0_6, hostOps0_7, hostOps0_8, TRef.binary, TRef.nullary, TRef.ternary, TRef.unary, TRef.toBuf, TRef.ofBuf, cast_eq]
  after_results_simp <;> rfl

set_option maxHeartbeats 2000000 in
theorem V_k (c : Dev nD) : V m c main_v32 = KA (m ((c : Thread nD τ).loc main_arg1)) (m ((c : Thread nD τ).loc main_arg3)) (m ((c : Thread nD τ).loc main_arg4)) := by
  show StableHlo.after (List.flatten [hostOps0, hostOps0_1, hostOps0_2, hostOps0_3, hostOps0_4, hostOps0_5, hostOps0_6, hostOps0_7, hostOps0_8]) (fun b => m (c, b)) main_v32 = _
  simp only [List.flatten_cons, List.flatten_nil, List.cons_append, List.nil_append, List.append_nil, hostOps0, hostOps0_1, hostOps0_2, hostOps0_3, hostOps0_4, hostOps0_5, hostOps0_6, hostOps0_7, hostOps0_8, TRef.binary, TRef.nullary, TRef.ternary, TRef.unary, TRef.toBuf, TRef.ofBuf, cast_eq]
  after_results_simp <;> rfl

set_option maxHeartbeats 2000000 in
theorem V_v (c : Dev nD) : V m c main_v34 = VT (m ((c : Thread nD τ).loc main_arg2)) := by
  show StableHlo.after (List.flatten [hostOps0, hostOps0_1, hostOps0_2, hostOps0_3, hostOps0_4, hostOps0_5, hostOps0_6, hostOps0_7, hostOps0_8]) (fun b => m (c, b)) main_v34 = _
  simp only [List.flatten_cons, List.flatten_nil, List.cons_append, List.nil_append, List.append_nil, hostOps0, hostOps0_1, hostOps0_2, hostOps0_3, hostOps0_4, hostOps0_5, hostOps0_6, hostOps0_7, hostOps0_8, TRef.binary, TRef.nullary, TRef.ternary, TRef.unary, TRef.toBuf, TRef.ofBuf, cast_eq]
  after_results_simp <;> rfl

/-- Lane 192 is marked and no other. -/
theorem lane_at (d : Fin 256) : LANE (ix1 d) = if d.val = 192 then 1#1 else 0#1 := by
  have e : LANE (ix1 d) = IntOp.cmpi CmpIPredicate.eq (BitVec.ofNat 32 d.val) 192#32 := by
    pointwise [LANE]
  rw [e]
  exact (by decide +kernel : ∀ d : Fin 256, IntOp.cmpi CmpIPredicate.eq (BitVec.ofNat 32 d.val) 192#32 = if d.val = 192 then 1#1 else 0#1) d

/-- The factor on the queries. -/
abbrev FACTOR : EReal := Ideal.div (Ideal.ofBits FTy.f32 0x3D93CD3A#32) (Ideal.log (Ideal.ofBits FTy.f32 0x40000000#32))

/-- A query the call is given, lane by lane. -/
theorem QA_at (q : FVec Ideal S2x8192x8x192 .f32) (b : Fin 2) (h : Fin 8) (n : Fin 8192) (d : Fin 256) :
    (QA q (ix4 b h n d) : EReal) = (if hd : d.val < 192 then (q (ix4 b n h ⟨d.val, hd⟩) : EReal) * FACTOR
      else FloatOps.sitofp (F := Ideal) FTy.f32 0#32) + FloatOps.uitofp (F := Ideal) FTy.f32 (LANE (ix1 d)) := by
  pointwise [QA]

/-- A key the call is given, lane by lane. -/
theorem KA_at (k : FVec Ideal S2x8192x8x192 .f32) (gq gk : FVec Ideal S192 .f32) (b : Fin 2) (h : Fin 8) (n : Fin 8192) (d : Fin 256) :
    (KA k gq gk (ix4 b h n d) : EReal) = (if hd : d.val < 192 then (k (ix4 b n h ⟨d.val, hd⟩) : EReal)
      else FloatOps.sitofp (F := Ideal) FTy.f32 0#32) + Scalar.select (LANE (ix1 d)) (-(SHIFT gq gk ix0 : EReal)) 0 := by
  pointwise [KA]

/-- A value the call is given. -/
theorem VT_at (v : FVec Ideal S2x8192x8x128 .f32) (b : Fin 2) (h : Fin 8) (n : Fin 8192) (d : Fin 128) :
    (VT v (ix4 b h d n) : EReal) = v (ix4 b n h d) := by
  pointwise [VT]

/-- The greatest magnitude of a gain is not negative. -/
theorem greatest_nonneg (g : FVec Ideal S192 .f32) (z : EReal) :
    0 ≤ Finset.fold max z (fun k : Fin 192 => (FloatOps.absf (g (ix1 k)) : EReal)) Finset.univ := by
  refine le_trans ?_ ((Finset.le_fold_max _).mpr (Or.inr ⟨(0 : Fin 192), Finset.mem_univ _, le_refl _⟩))
  show (0 : EReal) ≤ max (g (ix1 0) : EReal) (-(g (ix1 0) : EReal))
  rcases le_total (0 : EReal) (g (ix1 0)) with h | h
  · exact le_max_of_le_left h
  · exact le_max_of_le_right (EReal.neg_nonneg.mpr h)

/-- The scale is a real. -/
theorem scale_real : Ideal.ofBits FTy.f32 0x3D93CD3A#32 = ((9686330 / 134217728 : ℝ) : EReal) := by
  simp [Ideal.ofBits, Ideal.ieee, -EReal.coe_mul]; norm_num

theorem two : Ideal.ofBits FTy.f32 0x40000000#32 = ((2 : ℝ) : EReal) := by
  simp [Ideal.ofBits, Ideal.ieee, -EReal.coe_mul]; norm_num

theorem nonneg1 : 0 ≤ Ideal.ofBits FTy.f32 0x419FECAF#32 := by
  simp [Ideal.ofBits, Ideal.ieee, -EReal.coe_mul]

theorem nonneg2 : 0 ≤ Ideal.ofBits FTy.f32 0x3F828F5C#32 := by
  simp [Ideal.ofBits, Ideal.ieee, -EReal.coe_mul]

theorem finite60 : Ideal.ofBits FTy.f32 0x42700000#32 < ⊤ := by
  simp [Ideal.ofBits, Ideal.ieee, -EReal.coe_mul]

/-- The shift is a real. -/
theorem SHIFT_at (gq gk : FVec Ideal S192 .f32) : ∃ σ : ℝ, (SHIFT gq gk ix0 : EReal) = (σ : EReal) := by
  set A := Ideal.ofBits FTy.f32 0x419FECAF#32 * Finset.fold max (Ideal.ofBits FTy.f32 0xFF800000#32) (fun k : Fin 192 => (FloatOps.absf (gq (ix1 k)) : EReal)) Finset.univ
      * Finset.fold max (Ideal.ofBits FTy.f32 0xFF800000#32) (fun k : Fin 192 => (FloatOps.absf (gk (ix1 k)) : EReal)) Finset.univ * Ideal.ofBits FTy.f32 0x3F828F5C#32 with hA
  have e : (SHIFT gq gk ix0 : EReal) = if A ≤ Ideal.ofBits FTy.f32 0x42700000#32 then A else 0 := by
    rw [hA]
    pointwise [SHIFT, BOUND]
  rw [e]
  split
  · rename_i hle
    have h0 : 0 ≤ A := mul_nonneg (mul_nonneg (mul_nonneg nonneg1 (greatest_nonneg _ _)) (greatest_nonneg _ _)) nonneg2
    exact ⟨A.toReal, (EReal.coe_toReal (lt_of_le_of_lt hle finite60).ne (lt_of_lt_of_le EReal.bot_lt_zero h0).ne').symm⟩
  · exact ⟨0, rfl⟩

end Cert.KernelIdeal.Flash

end
-- ==== Proof.FlashRef.lean ====
module

public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo

namespace Cert.ReferenceIdeal.Soft

open Cert.ReferenceIdeal Cert.ReferenceIdeal.Gen

/-! ## The plain attention, read at an index -/

/-- The chunk of every position. -/
def CHUNK : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- The masked scores. -/
def SCORE (q k : FVec Ideal S2x8192x8x192 .f32) : FVec Ideal S2x8x8192x8192 .f32 :=
  select (broadcastInDim S2x8x8192x8192 ![0, 1, 2, 3] bcast_S1x1x8192x8192_S2x8x8192x8192_0_1_2_3 (broadcastInDim S1x1x8192x8192 ![2, 3] bcast_S8192x8192_S1x1x8192x8192_2_3 (cmpi .sle (broadcastInDim S8192x8192 ![0, 1] bcast_S1x8192_S8192x8192_0_1 (broadcastInDim S1x8192 ![1] bcast_S8192_S1x8192_1 CHUNK)) (broadcastInDim S8192x8192 ![0, 1] bcast_S8192x1_S8192x8192_0_1 (broadcastInDim S8192x1 ![0] bcast_S8192_S8192x1_0 CHUNK))))) (mulf (Host.dotGeneral dot_S2x8192x8x192_S2x8192x8x192_S2x8x8192x8192_3_3_1_1_02_02 none q k) (broadcastInDim S2x8x8192x8192 ![] bcast_S_S2x8x8192x8192 (constant S_ .f32 0x3D93CD3A#32))) (broadcastInDim S2x8x8192x8192 ![] bcast_S_S2x8x8192x8192 (id (constant S_ .f32 0xFF800000#32)))

/-- The exponentials of the scores, each less its row's greatest. -/
def EXPS (s : FVec Ideal S2x8x8192x8192 .f32) : FVec Ideal S2x8x8192x8192 .f32 :=
  Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 (maximumf (broadcastInDim S2x8x8192 ![] bcast_S_S2x8x8192 (constant S_ .f32 0xFF800000#32)) (Host.reduce FloatOps.maximumf s (constant S_ .f32 0xFF800000#32) reducesTo_S2x8x8192x8192_S2x8x8192_d3 h_S_)))))

/-- The values weighted by the exponentials over their sum. -/
def MIX (e : FVec Ideal S2x8x8192x8192 .f32) (v : FVec Ideal S2x8192x8x128 .f32) : FVec Ideal S2x8192x1024 .bf16 :=
  truncf .bf16 (shapeCast _ (transpose S2x8192x8x128 [0, 3, 1, 2] (Host.dotGeneral dot_S2x8192x8x128_S2x8x8192x8192_S2x8x128x8192_1_3_3_2_02_01 none v (Host.divf e (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd e (constant S_ .f32 0x00000000#32) reducesTo_S2x8x8192x8192_S2x8x8192_d3 h_S_))))) transposes_S2x8x128x8192_S2x8192x8x128_0_3_1_2) shapeCasts_S2x8192x8x128_S2x8192x1024) bitsLt_bf16_f32

/-- The plain program's first result is the values mixed by the exponentials of the masked scores. -/
theorem res_eq (m : (ℓ : Loc nD τ sig) → Buf (Elt Ideal) ℓ) (c : Dev nD) :
    Value.res_main_v26 (F := Ideal) m c = MIX (EXPS (SCORE (m ((c.tc : Thread nD τ).loc main_arg0)) (m ((c.tc : Thread nD τ).loc main_arg1)))) (m ((c.tc : Thread nD τ).loc main_arg2)) := by
  unfold Value.res_main_v26 MIX EXPS SCORE CHUNK
  rfl

/-- The floored quotient of a word by 64, as the program spells it. -/
def quot (a : BitVec 32) : BitVec 32 :=
  Scalar.select
    (IntOp.andi
      (IntOp.cmpi CmpIPredicate.ne (if a = 0 then (0 : BitVec 32) else if a.msb = true then -1 else 1)
        (if (64#32 : BitVec 32) = 0 then (0 : BitVec 32) else if (64#32 : BitVec 32).msb = true then -1 else 1))
      (IntOp.cmpi CmpIPredicate.ne (IntOp.remsi ArithUnit.host a 64#32) 0#32))
    (IntOp.subi (IntOp.divsi ArithUnit.host a 64#32) 1#32)
    (IntOp.divsi ArithUnit.host a 64#32)

/-- On positions below 8192 that is the position over 64. -/
theorem quot_eq : ∀ n : Fin 8192, quot (BitVec.ofNat 32 n.val) = BitVec.ofNat 32 (n.val / 64) := by
  decide +kernel

/-- Comparing two chunk numbers as signed words compares the numbers. -/
theorem sle_chunk : ∀ a b : Fin 128, (IntOp.cmpi CmpIPredicate.sle (BitVec.ofNat 32 a.val) (BitVec.ofNat 32 b.val) = 1#1)
    ↔ a.val ≤ b.val := by
  decide +kernel

/-- A position's chunk is the position over 64. -/
theorem CHUNK_at (n : Fin 8192) : CHUNK (ix1 n) = BitVec.ofNat 32 (n.val / 64) := by
  refine Eq.trans ?_ (quot_eq n)
  pointwise [CHUNK]
  rfl

/-- The masked score of a query and a key: the scaled product where the key's chunk is not later, minus infinity elsewhere. -/
theorem SCORE_at (q k : FVec Ideal S2x8192x8x192 .f32) (b : Fin 2) (h : Fin 8) (x y : Fin 8192) :
    (SCORE q k (ix4 b h x y) : EReal) = if y.val / 64 ≤ x.val / 64 then
      (∑ d : Fin 192, (q (ix4 b x h d) : EReal) * k (ix4 b y h d)) * Ideal.ofBits FTy.f32 0x3D93CD3A#32
      else Ideal.ofBits FTy.f32 0xFF800000#32 := by
  have e : (SCORE q k (ix4 b h x y) : EReal) = Scalar.select (IntOp.cmpi CmpIPredicate.sle (CHUNK (ix1 y)) (CHUNK (ix1 x)))
      ((∑ d : Fin 192, (q (ix4 b x h d) : EReal) * k (ix4 b y h d)) * Ideal.ofBits FTy.f32 0x3D93CD3A#32)
      (Ideal.ofBits FTy.f32 0xFF800000#32) := by
    pointwise [SCORE]
    rfl
  rw [e, CHUNK_at, CHUNK_at]
  unfold Scalar.select
  have hc := sle_chunk ⟨y.val / 64, by omega⟩ ⟨x.val / 64, by omega⟩
  by_cases hv : y.val / 64 ≤ x.val / 64
  · rw [if_pos hv]; exact if_pos (hc.mpr hv)
  · rw [if_neg hv]; exact if_neg fun hh => hv (hc.mp hh)

/-- The greatest of every row. -/
def RMAX (s : FVec Ideal S2x8x8192x8192 .f32) (i : FVec Ideal S_ .f32) : FVec Ideal S2x8x8192 .f32 :=
  Host.reduce FloatOps.maximumf s i reducesTo_S2x8x8192x8192_S2x8x8192_d3 h_S_

theorem RMAX_at (s : FVec Ideal S2x8x8192x8192 .f32) (i : FVec Ideal S_ .f32) (b : Fin 2) (h : Fin 8) (x : Fin 8192) :
    (RMAX s i (ix3 b h x) : EReal) = Finset.univ.fold max (i (Shape.Idx.first h_S_) : EReal) fun y : Fin 8192 => (s (ix4 b h x y) : EReal) := by
  pointwise [RMAX]

/-- Minus infinity. -/
theorem ninf : Ideal.ofBits FTy.f32 0xFF800000#32 = ⊥ := by
  simp [Ideal.ofBits, Ideal.ieee]

/-- The exponentials less given row values. -/
def LESS (s : FVec Ideal S2x8x8192x8192 .f32) (r : FVec Ideal S2x8x8192 .f32) : FVec Ideal S2x8x8192x8192 .f32 :=
  Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 (maximumf (broadcastInDim S2x8x8192 ![] bcast_S_S2x8x8192 (constant S_ .f32 0xFF800000#32)) r))))

theorem LESS_at (s : FVec Ideal S2x8x8192x8192 .f32) (r : FVec Ideal S2x8x8192 .f32) (b : Fin 2) (h : Fin 8) (x y : Fin 8192) :
    (LESS s r (ix4 b h x y) : EReal) = Ideal.exp ((s (ix4 b h x y) : EReal) - max (Ideal.ofBits FTy.f32 0xFF800000#32) (r (ix3 b h x))) := by
  pointwise [LESS]

/-- The exponentials at an element, the row's greatest named. -/
theorem EXPS_at (s : FVec Ideal S2x8x8192x8192 .f32) (b : Fin 2) (h : Fin 8) (x y : Fin 8192) (M : EReal)
    (hM : max ⊥ (Finset.univ.fold max (⊥ : EReal) fun z : Fin 8192 => (s (ix4 b h x z) : EReal)) = M) :
    (EXPS s (ix4 b h x y) : EReal) = Ideal.exp ((s (ix4 b h x y) : EReal) - M) := by
  have e : EXPS s = LESS s (RMAX s (constant S_ .f32 0xFF800000#32)) := rfl
  rw [e, LESS_at, RMAX_at]
  show Ideal.exp (_ - max (Ideal.ofBits FTy.f32 0xFF800000#32) (Finset.univ.fold max (Ideal.ofBits FTy.f32 0xFF800000#32) _)) = _
  rw [ninf, hM]

/-- The values weighted, at an element. -/
theorem MIX_at (e : FVec Ideal S2x8x8192x8192 .f32) (v : FVec Ideal S2x8192x8x128 .f32) (b : Fin 2) (x : Fin 8192) (h : Fin 8) (j : Fin 128) :
    (MIX e v (ix3 b x ⟨h.val * 128 + j.val, by omega⟩) : EReal)
      = ∑ y : Fin 8192, (v (ix4 b y h j) : EReal) * Ideal.div (e (ix4 b h x y)) (∑ z : Fin 8192, (e (ix4 b h x z) : EReal)) := by
  pointwise [MIX]

end Cert.ReferenceIdeal.Soft

end
-- ==== Proof.FlashSoft.lean ====
module

public import proofs.«01_k».proof.Proof.FlashState
public import proofs.«01_k».proof.Proof.FlashHost
public import proofs.«01_k».proof.Proof.FlashRef
public import proofs.«01_k».proof.Proof.FlashCore

@[expose] public section

set_option maxRecDepth 16384

noncomputable section

open Idealize.ShloMosaic Idealize.ShloMosaic.TcCoe Idealize.SL.Sem
open Cert.FlashCore

namespace Cert.KernelIdeal.Flash

open Cert.KernelIdeal Cert.KernelIdeal.Gen
open Cert.ReferenceIdeal.Soft (MIX EXPS SCORE MIX_at EXPS_at SCORE_at ninf)

/-! ## The kernel's quotient is the softmax -/

/-- The softmax scale. -/
abbrev SC : ℝ := 9686330 / 134217728

theorem factor_real : FACTOR = ((SC / Real.log 2 : ℝ) : EReal) := by
  have h2 : Real.log 2 ≠ 0 := (Real.log_pos (by norm_num)).ne'
  have e : Ideal.log ((2 : ℝ) : EReal) = ((Real.log 2 : ℝ) : EReal) := if_neg (by norm_num)
  show Ideal.div _ _ = _
  rw [scale_real, two, e, div_coe _ _ h2]

theorem select_no (a b : EReal) : Scalar.select 0#1 a b = b := rfl

theorem select_yes (a b : EReal) : Scalar.select 1#1 a b = a := rfl

theorem word_zero : (FloatOps.sitofp (F := Ideal) FTy.f32 (0#32) : EReal) = 0 := by
  show (((0#32 : BitVec 32).toInt : ℝ) : EReal) = 0
  simp

theorem lane_no : (FloatOps.uitofp (F := Ideal) FTy.f32 (0#1) : EReal) = 0 := by
  show (((0#1 : BitVec 1).toNat : ℝ) : EReal) = 0
  simp

theorem lane_yes : (FloatOps.uitofp (F := Ideal) FTy.f32 (1#1) : EReal) = 1 := by
  show (((1#1 : BitVec 1).toNat : ℝ) : EReal) = 1
  simp

/-- The product of a key and a query over the 256 lanes: the scaled product over the logarithm of two, less the shift. -/
theorem lanes (q k : FVec Ideal S2x8192x8x192 .f32) (gq gk : FVec Ideal S192 .f32) (b : Fin 2) (h : Fin 8) (x n : Fin 8192)
    (qr kr : Fin 192 → ℝ) (hq : ∀ d, (q (ix4 b x h d) : EReal) = (qr d : EReal)) (hk : ∀ d, (k (ix4 b n h d) : EReal) = (kr d : EReal))
    (σ : ℝ) (hσ : (SHIFT gq gk ix0 : EReal) = (σ : EReal)) :
    ∑ d : Fin 256, (KA k gq gk (ix4 b h n d) : EReal) * QA q (ix4 b h x d)
      = (((∑ d, qr d * kr d) * SC / Real.log 2 - σ : ℝ) : EReal) := by
  let T : ℕ → EReal := fun d => if hd : d < 192 then ((qr ⟨d, hd⟩ * (SC / Real.log 2) : ℝ) : EReal) * (kr ⟨d, hd⟩ : EReal)
    else if d = 192 then ((-σ : ℝ) : EReal) else 0
  have hT : ∀ d : Fin 256, (KA k gq gk (ix4 b h n d) : EReal) * QA q (ix4 b h x d) = T d.val := by
    intro d
    rw [KA_at, QA_at, lane_at, hσ, factor_real, word_zero]
    by_cases hd : d.val < 192
    · have hne : ¬ d.val = 192 := by omega
      rw [if_neg hne, dif_pos hd, dif_pos hd, select_no, lane_no, add_zero, add_zero, hq, hk, ← EReal.coe_mul, mul_comm]
      simp only [T, dif_pos hd]
    · rw [dif_neg hd, dif_neg hd]
      by_cases he : d.val = 192
      · rw [if_pos he, select_yes, lane_yes, zero_add, zero_add, mul_one, ← EReal.coe_neg]
        simp only [T, dif_neg hd, if_pos he]
      · rw [if_neg he, select_no, lane_no, add_zero, mul_zero]
        simp only [T, dif_neg hd, if_neg he]
  have h1 : ∑ d ∈ Finset.range 192, T d = (((∑ d, qr d * kr d) * (SC / Real.log 2) : ℝ) : EReal) := by
    rw [Finset.sum_range, ← scaled_dot]
    exact Finset.sum_congr rfl fun d _ => dif_pos d.isLt
  have h2 : ∑ d ∈ Finset.range 64, T (192 + d) = ((-σ : ℝ) : EReal) := by
    rw [Finset.sum_eq_single 0 (fun d _ hd => ((dif_neg (by omega)).trans (if_neg (by omega)))) (fun h => absurd (Finset.mem_range.mpr (by norm_num)) h)]
    exact (dif_neg (by omega)).trans (if_pos rfl)
  rw [Finset.sum_congr rfl fun d _ => hT d, ← Finset.sum_range T, show 256 = 192 + 64 from rfl, Finset.sum_range_add, h1, h2, ← EReal.coe_add]
  congr 1
  ring

section Full

variable (q : FVec Ideal S1x2x1024x256 .bf16) (kk : FVec Ideal S1x2x8192x256 .bf16) (vt : FVec Ideal S1x2x128x8192 .bf16) (i : ℕ)

/-- The weights' sum over the keys walked is the sum over all keys: the later keys weigh nothing. -/
theorem full_pw (hi : i < 8) (hh : Fin 2) (x : Fin 1024) :
    ∑ n ∈ Finset.range (1024 * i + 1024), pw q kk i hh x n = ∑ y : Fin 8192, pw q kk i hh x y.val := by
  rw [tile_zero (fun n => pw q kk i hh x n) (1024 * i + 1024) (8192 - (1024 * i + 1024)) fun y _ => pw_zero q kk i hh x _ (by omega)]
  rw [show 1024 * i + 1024 + (8192 - (1024 * i + 1024)) = 8192 by omega, Finset.sum_range]

/-- Likewise for the weighted values. -/
theorem full_pa (hi : i < 8) (hh : Fin 2) (j : Fin 128) (x : Fin 1024) :
    ∑ n ∈ Finset.range (1024 * i + 1024), pa q kk vt i hh j x n = ∑ y : Fin 8192, pa q kk vt i hh j x y.val := by
  rw [tile_zero (fun n => pa q kk vt i hh j x n) (1024 * i + 1024) (8192 - (1024 * i + 1024)) fun y _ => pa_zero q kk vt i hh j x _ (by omega)]
  rw [show 1024 * i + 1024 + (8192 - (1024 * i + 1024)) = 8192 by omega, Finset.sum_range]

end Full

/-- The quotient a point stores for a query and a column is the plain attention there, for real queries and keys. -/
theorem attn (q k : FVec Ideal S2x8192x8x192 .f32) (v : FVec Ideal S2x8192x8x128 .f32) (gq gk : FVec Ideal S192 .f32)
    (qr kr : S2x8192x8x192.Idx → ℝ) (hq : ∀ y, (q y : EReal) = (qr y : EReal)) (hk : ∀ y, (k y : EReal) = (kr y : EReal))
    (x0 : FVec Ideal S1x2x1024x256 .bf16) (x1 : FVec Ideal S1x2x8192x256 .bf16) (x2 : FVec Ideal S1x2x128x8192 .bf16)
    (i : ℕ) (hi : i < 8) (b : Fin 2) (h : Fin 8) (hh : Fin 2) (x : Fin 1024) (j : Fin 128)
    (h0 : ∀ d : Fin 256, (x0 (ix4 0 hh x d) : EReal) = QA q (ix4 b h (⟨1024 * i + x.val, by omega⟩ : Fin 8192) d))
    (h1 : ∀ (n : Fin 8192) (d : Fin 256), (x1 (ix4 0 hh n d) : EReal) = KA k gq gk (ix4 b h n d))
    (h2 : ∀ n : Fin 8192, (x2 (ix4 0 hh j n) : EReal) = v (ix4 b n h j)) :
    Ideal.div (∑ n ∈ Finset.range (1024 * i + 1024), pa x0 x1 x2 i hh j x n) (∑ n ∈ Finset.range (1024 * i + 1024), pw x0 x1 i hh x n)
      = MIX (EXPS (SCORE q k)) v (ix3 b (⟨1024 * i + x.val, by omega⟩ : Fin 8192) (⟨h.val * 128 + j.val, by omega⟩ : Fin 1024)) := by
  obtain ⟨σ, hσ⟩ := SHIFT_at gq gk
  have hX : 1024 * i + x.val < 8192 := by omega
  set X : Fin 8192 := ⟨1024 * i + x.val, hX⟩ with hXd
  let s : Fin 8192 → ℝ := fun y => (∑ d : Fin 192, qr (ix4 b X h d) * kr (ix4 b y h d)) * SC
  have hw : ∀ y : Fin 8192, pw x0 x1 i hh x y.val = Ideal.exp2 (if y.val / 64 ≤ X.val / 64 then ((s y / Real.log 2 - σ : ℝ) : EReal) else ⊥) := by
    intro y
    unfold pw
    rw [dif_pos y.isLt]
    have e : ∑ d : Fin 256, (x1 (ix4 0 hh (⟨y.val, y.isLt⟩ : Fin 8192) d) : EReal) * x0 (ix4 0 hh x d) = ((s y / Real.log 2 - σ : ℝ) : EReal) := by
      refine Eq.trans (Finset.sum_congr rfl fun d _ => congrArg₂ (· * ·) (h1 y d) (h0 d)) ?_
      exact lanes q k gq gk b h X y (fun d => qr (ix4 b X h d)) (fun d => kr (ix4 b y h d)) (fun d => hq _) (fun d => hk _) σ hσ
    rw [e]
  have hv : ∀ y : Fin 8192, pa x0 x1 x2 i hh j x y.val = (v (ix4 b y h j) : EReal) * Ideal.exp2 (if y.val / 64 ≤ X.val / 64 then ((s y / Real.log 2 - σ : ℝ) : EReal) else ⊥) := by
    intro y
    unfold pa
    rw [dif_pos y.isLt, hw y]
    exact congrArg (· * _) (h2 y)
  have hs : ∀ y : Fin 8192, (SCORE q k (ix4 b h X y) : EReal) = if y.val / 64 ≤ X.val / 64 then (s y : EReal) else ⊥ := by
    intro y
    rw [SCORE_at, ninf, scale_real]
    by_cases hvis : y.val / 64 ≤ X.val / 64
    · rw [if_pos hvis, if_pos hvis, EReal.coe_mul, ← sum_coe]
      refine congrArg (· * _) (Finset.sum_congr rfl fun d _ => ?_)
      rw [hq, hk, EReal.coe_mul]
    · rw [if_neg hvis, if_neg hvis]
  obtain ⟨M, hM⟩ := fold_max_real s (fun y : Fin 8192 => y.val / 64 ≤ X.val / 64) X (le_refl _)
  have hE : ∀ y : Fin 8192, (EXPS (SCORE q k) (ix4 b h X y) : EReal) = Ideal.exp ((if y.val / 64 ≤ X.val / 64 then (s y : EReal) else ⊥) - (M : EReal)) := by
    intro y
    rw [EXPS_at (SCORE q k) b h X y (M : EReal) (by simp only [hs]; exact hM), hs]
  rw [full_pw x0 x1 i hi hh x, full_pa x0 x1 x2 i hi hh j x, Finset.sum_congr rfl fun y _ => hw y, Finset.sum_congr rfl fun y _ => hv y]
  refine (softmax (fun y => (v (ix4 b y h j) : EReal)) s (fun y : Fin 8192 => y.val / 64 ≤ X.val / 64) X (le_refl _) σ M).trans ?_
  refine Eq.symm ((MIX_at _ v b X h j).trans ?_)
  simp only [hE]

end Cert.KernelIdeal.Flash

end
-- ==== Proof.FlashValue.lean ====
module

public import proofs.«01_k».proof.Defs
public import proofs.«01_k».proof.Proof.FlashOut
public import proofs.«01_k».proof.Proof.FlashSoft
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen
open Cert.ReferenceIdeal.Soft (MIX EXPS SCORE)

variable (m : (ℓ : Loc nD τ sig) → Buf (Elt Ideal) ℓ)

/-- Where each window's block sits at a grid point: the points run over batch rows, pairs of heads and query blocks, the
    last fastest; the carried weights' row blocks follow the point. -/
theorem idx : ∀ t : Fin cfg0.N, win0_0.index t = ![t.val / 32, t.val / 8 % 4, t.val % 8, 0]
    ∧ win0_1.index t = ![t.val / 32, t.val / 8 % 4, 0, 0]
    ∧ win0_2.index t = ![t.val / 32, t.val / 8 % 4, 0, 0]
    ∧ win0_6.index t = ![t.val / 32, t.val % 8, t.val / 8 % 4] :=
  (by decide +kernel : ∀ t : Fin grid0.N, _)

theorem idx_rows : ∀ t : Fin cfg0.N, win0_3.index t = ![t.val, 0] ∧ win0_4.index t = ![t.val, 0] ∧ win0_5.index t = ![t.val, 0]
    ∧ win0_7.index t = ![t.val, 0] ∧ win0_8.index t = ![t.val, 0] ∧ win0_9.index t = ![t.val, 0] :=
  (by decide +kernel : ∀ t : Fin grid0.N, _)

/-- The query block a point works on. -/
theorem coord : ∀ t : Fin cfg0.N, (grid0.coords t 2).val = t.val % 8 :=
  (by decide +kernel : ∀ t : Fin grid0.N, _)

/-- The query block of a point, at a row and a lane. -/
theorem blk_q (c : Dev nD) (t : Fin cfg0.N) (hh : Fin 2) (x : Fin 1024) (d : Fin 256) (b : Fin 2) (h : Fin 8) (n : Fin 8192)
    (hb : b.val = t.val / 32) (hhd : h.val = 2 * (t.val / 8 % 4) + hh.val) (hn : n.val = 1024 * (t.val % 8) + x.val) :
    (iblk m c 0 t (ix4 0 hh x d) : EReal) = V m c main_v22 (ix4 b h n d) := by
  blk_ext [iblk, idx t]

/-- The key block of a point holds every key of the pair of heads. -/
theorem blk_k (c : Dev nD) (t : Fin cfg0.N) (hh : Fin 2) (n : Fin 8192) (d : Fin 256) (b : Fin 2) (h : Fin 8)
    (hb : b.val = t.val / 32) (hhd : h.val = 2 * (t.val / 8 % 4) + hh.val) :
    (iblk m c 1 t (ix4 0 hh n d) : EReal) = V m c main_v32 (ix4 b h n d) := by
  blk_ext [iblk, idx t]

/-- The value block of a point holds every value of the pair of heads. -/
theorem blk_v (c : Dev nD) (t : Fin cfg0.N) (hh : Fin 2) (j : Fin 128) (n : Fin 8192) (b : Fin 2) (h : Fin 8)
    (hb : b.val = t.val / 32) (hhd : h.val = 2 * (t.val / 8 % 4) + hh.val) :
    (iblk m c 2 t (ix4 0 hh j n) : EReal) = V m c main_v34 (ix4 b h j n) := by
  blk_ext [iblk, idx t]

/-- What a point leaves in its block of the attention output, at a row and a lane of one of its two heads. -/
theorem outs6 (c : Dev nD) (qr kr : S2x8192x8x192.Idx → ℝ)
    (hq : ∀ y, (m ((c : Thread nD τ).loc main_arg0) y : EReal) = (qr y : EReal))
    (hk : ∀ y, (m ((c : Thread nD τ).loc main_arg1) y : EReal) = (kr y : EReal))
    (t : Fin cfg0.N) (b : Fin 2) (h : Fin 8) (hh : Fin 2) (x : Fin 1024) (j : Fin 128) (hl : hh.val * 128 + j.val < 256)
    (hb : b.val = t.val / 32) (hhd : h.val = 2 * (t.val / 8 % 4) + hh.val) :
    ((outsAt0 m c t).1 (ix3 0 x (⟨hh.val * 128 + j.val, hl⟩ : Fin 256)) : EReal)
      = MIX (EXPS (SCORE (m ((c : Thread nD τ).loc main_arg0)) (m ((c : Thread nD τ).loc main_arg1)))) (m ((c : Thread nD τ).loc main_arg2))
          (ix3 b (⟨1024 * (t.val % 8) + x.val, by omega⟩ : Fin 8192) (⟨h.val * 128 + j.val, by omega⟩ : Fin 1024)) := by
  unfold outsAt0
  dsimp only
  refine (out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) hh x j hl).trans ?_
  rw [coord t]
  exact attn (m ((c : Thread nD τ).loc main_arg0)) (m ((c : Thread nD τ).loc main_arg1)) (m ((c : Thread nD τ).loc main_arg2))
    (m ((c : Thread nD τ).loc main_arg3)) (m ((c : Thread nD τ).loc main_arg4)) qr kr hq hk
    (iblk m c 0 t) (iblk m c 1 t) (iblk m c 2 t) (t.val % 8) (Nat.mod_lt _ (by decide)) b h hh x j
    (fun d => (blk_q m c t hh x d b h _ hb hhd rfl).trans (congrFun (V_q m c) _))
    (fun n d => (blk_k m c t hh n d b h hb hhd).trans (congrFun (V_k m c) _))
    (fun n => ((blk_v m c t hh j n b h hb hhd).trans (congrFun (V_v m c) _)).trans (VT_at _ b h n j))

/-- The attention output after the run is the plain attention of the argument arrays, whenever the queries and the keys
    are finite. -/
theorem final6 (c : Dev nD) (qr kr : S2x8192x8x192.Idx → ℝ)
    (hq : ∀ y, (m ((c : Thread nD τ).loc main_arg0) y : EReal) = (qr y : EReal))
    (hk : ∀ y, (m ((c : Thread nD τ).loc main_arg1) y : EReal) = (kr y : EReal)) :
    (dats m 0 c).arrAt 6 cfg0.N = MIX (EXPS (SCORE (m ((c : Thread nD τ).loc main_arg0)) (m ((c : Thread nD τ).loc main_arg1)))) (m ((c : Thread nD τ).loc main_arg2)) := by
  refine (dats m 0 c).arrAt_eq_of_covers 6 _ (by decide +kernel) fun t hf y => ?_
  blk_simp
  rw [after0_6]
  idx_vars y
  obtain rfl : y0 = 0 := Subsingleton.elim _ _
  have ht : t.val < 64 := t.isLt
  have h2 : y2.val < 256 := y2.isLt
  have e2 : y2 = (⟨(⟨y2.val / 128, by omega⟩ : Fin 2).val * 128 + (⟨y2.val % 128, Nat.mod_lt _ (by decide)⟩ : Fin 128).val, by
    show y2.val / 128 * 128 + y2.val % 128 < 256; omega⟩ : Fin 256) := Fin.ext (by show y2.val = y2.val / 128 * 128 + y2.val % 128; omega)
  refine Eq.trans (congrArg (fun z : Fin 256 => ((outsAt0 m c t).1 (ix3 0 y1 z) : EReal)) e2) ?_
  refine (outs6 m c qr kr hq hk t (⟨t.val / 32, by omega⟩ : Fin 2) (⟨2 * (t.val / 8 % 4) + y2.val / 128, by omega⟩ : Fin 8)
    (⟨y2.val / 128, by omega⟩ : Fin 2) y1 (⟨y2.val % 128, Nat.mod_lt _ (by decide)⟩ : Fin 128) _ rfl rfl).trans ?_
  blk_ext [idx t]

/-- A carried weight's rows after the run are the argument's, at the carried type. -/
theorem final7 (c : Dev nD) : (dats m 0 c).arrAt 7 cfg0.N = truncf (F := Ideal) .bf16 (m ((c : Thread nD τ).loc main_arg5)) Cert.ReferenceIdeal.Gen.bitsLt_bf16_f32 := by
  refine (dats m 0 c).arrAt_eq_of_covers 7 _ (by decide +kernel) fun t hf y => ?_
  blk_simp
  rw [after0_7]
  unfold outsAt0
  dsimp only
  refine (rows7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) y).trans ?_
  idx_vars y
  blk_ext [iblk, V, idx_rows t]

theorem final8 (c : Dev nD) : (dats m 0 c).arrAt 8 cfg0.N = truncf (F := Ideal) .bf16 (m ((c : Thread nD τ).loc main_arg6)) Cert.ReferenceIdeal.Gen.bitsLt_bf16_f32 := by
  refine (dats m 0 c).arrAt_eq_of_covers 8 _ (by decide +kernel) fun t hf y => ?_
  blk_simp
  rw [after0_8]
  unfold outsAt0
  dsimp only
  refine (rows8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) y).trans ?_
  idx_vars y
  blk_ext [iblk, V, idx_rows t]

theorem final9 (c : Dev nD) : (dats m 0 c).arrAt 9 cfg0.N = truncf (F := Ideal) .bf16 (m ((c : Thread nD τ).loc main_arg7)) Cert.ReferenceIdeal.Gen.bitsLt_bf16_f32 := by
  refine (dats m 0 c).arrAt_eq_of_covers 9 _ (by decide +kernel) fun t hf y => ?_
  blk_simp
  rw [after0_9]
  unfold outsAt0
  dsimp only
  refine (rows9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) y).trans ?_
  idx_vars y
  blk_ext [iblk, V, idx_rows t]

end Cert.KernelIdeal.Flash

end
-- ==== Proof.FlashFinal.lean ====
module

public import proofs.«01_k».proof.Defs
public import proofs.«01_k».proof.Proof.FlashValue
public import proofs.«01_k».proof.Proof.FlashFinite
public import proofs.«01_k».proof.Proof.Gen.KernelIdeal.Value
public import proofs.«01_k».proof.Proof.Gen.ReferenceIdeal.Run

@[expose] public section

set_option maxRecDepth 16384

noncomputable section

open Idealize.ShloMosaic Idealize.ShloMosaic.TcCoe Idealize.SL.Sem
open Cert.ReferenceIdeal.Soft (MIX EXPS SCORE)

/-- At exact arithmetic, on finite queries and keys, the streaming attention kernel and the plain masked softmax attention
    leave the same attention output and the same carried weights. -/
theorem Cert.KernelIdeal.Flash.algebraic : Cert.algebraic_KernelIdeal_ReferenceIdeal_pre_finite := fun m ρ m' ρ' hp hag =>
  ⟨fun c => MIX (EXPS (SCORE (m ((c.tc : Thread Cert.KernelIdeal.nD Cert.KernelIdeal.τ).loc Cert.KernelIdeal.main_arg0))
        (m ((c.tc : Thread Cert.KernelIdeal.nD Cert.KernelIdeal.τ).loc Cert.KernelIdeal.main_arg1))))
      (m ((c.tc : Thread Cert.KernelIdeal.nD Cert.KernelIdeal.τ).loc Cert.KernelIdeal.main_arg2)),
    fun c => truncf (F := Ideal) .bf16 (m ((c.tc : Thread Cert.KernelIdeal.nD Cert.KernelIdeal.τ).loc Cert.KernelIdeal.main_arg5)) Cert.ReferenceIdeal.Gen.bitsLt_bf16_f32,
    fun c => truncf (F := Ideal) .bf16 (m ((c.tc : Thread Cert.KernelIdeal.nD Cert.KernelIdeal.τ).loc Cert.KernelIdeal.main_arg6)) Cert.ReferenceIdeal.Gen.bitsLt_bf16_f32,
    fun c => truncf (F := Ideal) .bf16 (m ((c.tc : Thread Cert.KernelIdeal.nD Cert.KernelIdeal.τ).loc Cert.KernelIdeal.main_arg7)) Cert.ReferenceIdeal.Gen.bitsLt_bf16_f32,
    (θ_run Cert.KernelIdeal.defs _ _).mono (fun _ h c => by
        obtain ⟨⟨qr, hq⟩, kr, hk⟩ := Cert.Pre_finite.reals_of_fn _ _ _ _ _ _ _ _ (hp c)
        exact ⟨(h c).1.trans (Cert.KernelIdeal.Flash.final6 m c qr kr hq hk),
          (h c).2.1.trans (Cert.KernelIdeal.Flash.final7 m c), (h c).2.2.1.trans (Cert.KernelIdeal.Flash.final8 m c),
          (h c).2.2.2.1.trans (Cert.KernelIdeal.Flash.final9 m c), (h c).2.2.2.2⟩)
      (Cert.KernelIdeal.Value.run_blocks (F := Ideal) m ρ),
    (θ_run Cert.ReferenceIdeal.defs _ _).mono (fun _ h c => ⟨(h c).1.trans ((Cert.ReferenceIdeal.Soft.res_eq m' c).trans (by
          rw [(hag c).1, (hag c).2.1, (hag c).2.2.1])),
        (h c).2.1.trans (by rw [(hag c).2.2.2.2.2.1]), (h c).2.2.1.trans (by rw [(hag c).2.2.2.2.2.2.1]),
        (h c).2.2.2.1.trans (by rw [(hag c).2.2.2.2.2.2.2]), (h c).2.2.2.2⟩)
      (Cert.ReferenceIdeal.Value.run (F := Ideal) m' ρ')⟩
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.KernelIdeal.Value
public import proofs.«01_k».proof.Proof.Gen.FfnIdeal.Value
public import proofs.«01_k».proof.Proof.Gen.MergeIdeal.Value
public import proofs.«01_k».proof.Proof.Gen.ReferenceIdeal.Run
public import proofs.«01_k».proof.Proof.Gen.FfnRefIdeal.Run
public import proofs.«01_k».proof.Proof.Gen.MergeRefIdeal.Run
public import proofs.«01_k».proof.Proof.Gen.ProjS
public import proofs.«01_k».proof.Proof.Gen.ProjS.Skeleton
public import proofs.«01_k».proof.Proof.Gen.ProjS.Launch
public import proofs.«01_k».proof.Proof.Gen.ProjS.Points
public import proofs.«01_k».proof.Proof.Gen.ProjS.Frame
public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSIdeal.Value
public import proofs.«01_k».proof.Proof.Gen.ProjSRefIdeal
public import proofs.«01_k».proof.Proof.Gen.ProjSRefIdeal.Run
public import proofs.«01_k».proof.Proof.Gen.FfnS
public import proofs.«01_k».proof.Proof.Gen.FfnS.Skeleton
public import proofs.«01_k».proof.Proof.Gen.FfnS.Launch
public import proofs.«01_k».proof.Proof.Gen.FfnS.Points
public import proofs.«01_k».proof.Proof.Gen.FfnS.Frame
public import proofs.«01_k».proof.Proof.Gen.FfnSIdeal
public import proofs.«01_k».proof.Proof.Gen.FfnSIdeal.Skeleton
public import proofs.«01_k».proof.Proof.Gen.FfnSIdeal.Launch
public import proofs.«01_k».proof.Proof.Gen.FfnSIdeal.Points
public import proofs.«01_k».proof.Proof.Gen.FfnSIdeal.Frame
public import proofs.«01_k».proof.Proof.Gen.FfnSIdeal.Value
public import proofs.«01_k».proof.Proof.Gen.FfnSRefIdeal
public import proofs.«01_k».proof.Proof.Gen.FfnSRefIdeal.Run
public import proofs.«01_k».proof.Proof.Gen.MergeS
public import proofs.«01_k».proof.Proof.Gen.MergeS.Skeleton
public import proofs.«01_k».proof.Proof.Gen.MergeS.Launch
public import proofs.«01_k».proof.Proof.Gen.MergeS.Points
public import proofs.«01_k».proof.Proof.Gen.MergeS.Frame
public import proofs.«01_k».proof.Proof.Gen.MergeSIdeal
public import proofs.«01_k».proof.Proof.Gen.MergeSIdeal.Skeleton
public import proofs.«01_k».proof.Proof.Gen.MergeSIdeal.Launch
public import proofs.«01_k».proof.Proof.Gen.MergeSIdeal.Points
public import proofs.«01_k».proof.Proof.Gen.MergeSIdeal.Frame
public import proofs.«01_k».proof.Proof.Gen.MergeSIdeal.Value
public import proofs.«01_k».proof.Proof.Gen.MergeSRefIdeal
public import proofs.«01_k».proof.Proof.Gen.MergeSRefIdeal.Run
public import proofs.«01_k».proof.Proof.FfnValue
public import proofs.«01_k».proof.Proof.MergeValue
public import proofs.«01_k».proof.Proof.ProjSOut
public import proofs.«01_k».proof.Proof.FfnSValue
public import proofs.«01_k».proof.Proof.MergeSValue
public import proofs.«01_k».proof.Proof.FlashFinite
public import proofs.«01_k».proof.Proof.FlashFinal
public import Idealize.ShloMosaic.Adequacy
public import Idealize.ShloMosaic.Init

@[expose] public section

noncomputable section

namespace Cert.Proof

open Idealize.ShloMosaic Idealize.SL.Sem Cert.Kernel

/-- The attention reference runs, leaves its arguments alone and ends with every semaphore at zero. -/
theorem quiescent_ReferenceIdeal : Cert.quiescent_ReferenceIdeal := fun m ρ _ =>
  (θ_run Cert.ReferenceIdeal.defs _ _).mono (fun r h => ⟨fun c => (h c).2.2.2.2,
    Idealize.ShloMosaic.sem_eq_zero_of_no_sems (by decide) r.2⟩) (Cert.ReferenceIdeal.Value.run (F := Ideal) m ρ)

/-- The feed-forward reference runs, leaves its arguments alone and ends with every semaphore at zero. -/
theorem quiescent_FfnRefIdeal : Cert.quiescent_FfnRefIdeal := fun m ρ _ =>
  (θ_run Cert.FfnRefIdeal.defs _ _).mono (fun r h => ⟨fun c => (h c).2,
    Idealize.ShloMosaic.sem_eq_zero_of_no_sems (by decide) r.2⟩) (Cert.FfnRefIdeal.Value.run (F := Ideal) m ρ)

/-- The output projection's reference runs, leaves its arguments alone and ends with every semaphore at zero. -/
theorem quiescent_MergeRefIdeal : Cert.quiescent_MergeRefIdeal := fun m ρ _ =>
  (θ_run Cert.MergeRefIdeal.defs _ _).mono (fun r h => ⟨fun c => (h c).2,
    Idealize.ShloMosaic.sem_eq_zero_of_no_sems (by decide) r.2⟩) (Cert.MergeRefIdeal.Value.run (F := Ideal) m ρ)

/-- The sample phase's projection reference runs, leaves its arguments alone and ends with every semaphore at zero. -/
theorem quiescent_ProjSRefIdeal : Cert.quiescent_ProjSRefIdeal := fun m ρ _ =>
  (θ_run Cert.ProjSRefIdeal.defs _ _).mono (fun r h => ⟨fun c => (h c).2.2.2.2.2.2,
    Idealize.ShloMosaic.sem_eq_zero_of_no_sems (by decide) r.2⟩) (Cert.ProjSRefIdeal.Value.run (F := Ideal) m ρ)

/-- The sample phase's feed-forward reference runs, leaves its arguments alone and ends with every semaphore at zero. -/
theorem quiescent_FfnSRefIdeal : Cert.quiescent_FfnSRefIdeal := fun m ρ _ =>
  (θ_run Cert.FfnSRefIdeal.defs _ _).mono (fun r h => ⟨fun c => (h c).2,
    Idealize.ShloMosaic.sem_eq_zero_of_no_sems (by decide) r.2⟩) (Cert.FfnSRefIdeal.Value.run (F := Ideal) m ρ)

/-- The sample phase's output projection's reference runs, leaves its arguments alone and ends with every semaphore at zero. -/
theorem quiescent_MergeSRefIdeal : Cert.quiescent_MergeSRefIdeal := fun m ρ _ =>
  (θ_run Cert.MergeSRefIdeal.defs _ _).mono (fun r h => ⟨fun c => (h c).2,
    Idealize.ShloMosaic.sem_eq_zero_of_no_sems (by decide) r.2⟩) (Cert.MergeSRefIdeal.Value.run (F := Ideal) m ρ)

/-- All the claims of the six calls: frames, idealization steps and values. -/
theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.ProjS.Gen.facts, Cert.ProjSIdeal.Gen.facts, Cert.ProjSRefIdeal.Gen.facts, Cert.FfnS.Gen.facts, Cert.FfnSIdeal.Gen.facts, Cert.FfnSRefIdeal.Gen.facts, Cert.MergeS.Gen.facts, Cert.MergeSIdeal.Gen.facts, Cert.MergeSRefIdeal.Gen.facts, Cert.Pre_finite.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Ffn.Gen.frame m ρ, fun m ρ _ => Cert.FfnIdeal.Gen.frame m ρ, quiescent_FfnRefIdeal,
  fun m ρ _ => Cert.Merge.Gen.frame m ρ, fun m ρ _ => Cert.MergeIdeal.Gen.frame m ρ, quiescent_MergeRefIdeal,
  fun m ρ _ => Cert.ProjS.Gen.frame m ρ, fun m ρ _ => Cert.ProjSIdeal.Gen.frame m ρ, quiescent_ProjSRefIdeal,
  fun m ρ _ => Cert.FfnS.Gen.frame m ρ, fun m ρ _ => Cert.FfnSIdeal.Gen.frame m ρ, quiescent_FfnSRefIdeal,
  fun m ρ _ => Cert.MergeS.Gen.frame m ρ, fun m ρ _ => Cert.MergeSIdeal.Gen.frame m ρ, quiescent_MergeSRefIdeal,
  IdealRules.named_const.statement Cert.KernelIdeal.κ "mask" .f32 0xF149F2CA#32 ⊥ rfl,
  Cert.KernelIdeal.Flash.algebraic, trivial, Cert.FfnIdeal.Blk.algebraic, trivial, Cert.MergeIdeal.Proj.algebraic,
  trivial, Cert.ProjSIdeal.Blk.algebraic, trivial, Cert.FfnSIdeal.Blk.algebraic, trivial, Cert.MergeSIdeal.Proj.algebraic⟩

end Cert.Proof

end
